-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![65536, 1024]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S65536x1024 : Shape := ⟨2, ![65536, 1024]⟩
abbrev S_ : Shape := ⟨0, ![]⟩
abbrev S3x4 : Shape := ⟨2, ![3, 4]⟩
abbrev S3x2x4 : Shape := ⟨3, ![3, 2, 4]⟩
abbrev S1x1 : Shape := ⟨2, ![1, 1]⟩
abbrev S2048x1024 : Shape := ⟨2, ![2048, 1024]⟩
abbrev S1x1x1 : Shape := ⟨3, ![1, 1, 1]⟩

abbrev nBuf : Space → Nat
  | .hbm => 2
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S65536x1024, .f32⟩
  | _, _ => ⟨S16384x1024, .f32⟩

abbrev bufScoped : (cs : CoreSpace) → Fin (nBuf (.core cs)) → Bool
  | _, _ => false

abbrev semScoped : Fin 1 → Bool
  | ⟨0, _⟩ => false
  | _ => false

abbrev dmaSemScoped : Fin 97 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | _ => false

abbrev sig : RefSig :=
  (ofTc nBuf bufTy 1 97 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_7 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_6 : BitVec 32 := 16#32
  let v15 : BitVec 32 := Scalar.muli v9 c16_i32_6
  let v16 : BitVec 32 := Scalar.addi c0_i32_7 v15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_8 : BitVec 32 := 4#32
  let v17 : BitVec 32 := Scalar.muli v5 c4_i32_8
  let v18 : BitVec 32 := Scalar.addi v16 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.muli v8 c1_i32_9
  let v20 : BitVec 32 := Scalar.addi v18 v19
  v20.toNat
def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v12 : BitVec 1 := Scalar.cmpi .sgt v5 c0_i32
  let v21 : BitVec 32 := Scalar.extui v12
  let c0_i32_10 : BitVec 32 := 0#32
  let v22 : BitVec 1 := Scalar.cmpi .ne v21 c0_i32_10
  v22

def k0_dev2 (d0 : Dev nD) : Nat :=
  let c0_i32_216 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_215 : BitVec 32 := 16#32
  let v382 : BitVec 32 := Scalar.muli v2 c16_i32_215
  let v383 : BitVec 32 := Scalar.addi c0_i32_216 v382
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.subi v5 c1_i32_4
  let c4_i32_217 : BitVec 32 := 4#32
  let v384 : BitVec 32 := Scalar.muli v11 c4_i32_217
  let v385 : BitVec 32 := Scalar.addi v383 v384
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_218 : BitVec 32 := 1#32
  let v386 : BitVec 32 := Scalar.muli v8 c1_i32_218
  let v387 : BitVec 32 := Scalar.addi v385 v386
  v387.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .slt v5 c3_i32
  let v23 : BitVec 32 := Scalar.extui v13
  let c0_i32_11 : BitVec 32 := 0#32
  let v24 : BitVec 1 := Scalar.cmpi .ne v23 c0_i32_11
  v24

def k0_dev3 (d0 : Dev nD) : Nat :=
  let c0_i32_216 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_215 : BitVec 32 := 16#32
  let v382 : BitVec 32 := Scalar.muli v2 c16_i32_215
  let v383 : BitVec 32 := Scalar.addi c0_i32_216 v382
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c4_i32_217 : BitVec 32 := 4#32
  let v384 : BitVec 32 := Scalar.muli v10 c4_i32_217
  let v385 : BitVec 32 := Scalar.addi v383 v384
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_218 : BitVec 32 := 1#32
  let v386 : BitVec 32 := Scalar.muli v8 c1_i32_218
  let v387 : BitVec 32 := Scalar.addi v385 v386
  v387.toNat
def k0_off1 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c16384_i32 : BitVec 32 := 16384#32
  let v31 : BitVec 32 := Scalar.muli v5 c16384_i32
  let c0_i32_14 : BitVec 32 := 0#32
  ![v31.toNat, 0]
def k0_cond5 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_15 : BitVec 32 := 0#32
  let v33 : BitVec 32 := Scalar.subi v5 c0_i32_15
  let c0_i32_17 : BitVec 32 := 0#32
  let v35 : BitVec 1 := Scalar.cmpi .sge v33 c0_i32_17
  let c3_i32 : BitVec 32 := 3#32
  let v13 : BitVec 1 := Scalar.cmpi .slt v5 c3_i32
  let v36 : BitVec 1 := Scalar.andi v35 v13
  let v39 : BitVec 32 := Scalar.extui v36
  let c0_i32_19 : BitVec 32 := 0#32
  let v40 : BitVec 1 := Scalar.cmpi .ne v39 c0_i32_19
  v40

def k0_off2 (d0 : Dev nD) : Fin 2 → Nat :=
  let c3_i32_216 : BitVec 32 := 3#32
  let c0_i32_215 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_15 : BitVec 32 := 0#32
  let v33 : BitVec 32 := Scalar.subi v5 c0_i32_15
  let v384 : BitVec 32 := Scalar.maxsi c0_i32_215 v33
  let v385 : BitVec 32 := Scalar.minsi c3_i32_216 v384
  let c16384_i32_217 : BitVec 32 := 16384#32
  let v386 : BitVec 32 := Scalar.muli v385 c16384_i32_217
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_218 : BitVec 32 := 8192#32
  let v387 : BitVec 32 := Scalar.muli v2 c8192_i32_218
  let v388 : BitVec 32 := Scalar.addi v386 v387
  let c0_i32_219 : BitVec 32 := 0#32
  let v389 : BitVec 32 := Scalar.addi v388 c0_i32_219
  let c0_i32_228 : BitVec 32 := 0#32
  ![v389.toNat, 0]
def k0_off3 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v382 : BitVec 32 := Scalar.muli v2 c8192_i32
  let c0_i32_214 : BitVec 32 := 0#32
  let v383 : BitVec 32 := Scalar.addi v382 c0_i32_214
  let c0_i32_229 : BitVec 32 := 0#32
  ![v383.toNat, 0]
def k0_dev4 (d0 : Dev nD) : Nat :=
  let c0_i32_225 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_224 : BitVec 32 := 16#32
  let v390 : BitVec 32 := Scalar.muli v2 c16_i32_224
  let v391 : BitVec 32 := Scalar.addi c0_i32_225 v390
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c4_i32_226 : BitVec 32 := 4#32
  let v392 : BitVec 32 := Scalar.muli v10 c4_i32_226
  let v393 : BitVec 32 := Scalar.addi v391 v392
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_227 : BitVec 32 := 1#32
  let v394 : BitVec 32 := Scalar.muli v8 c1_i32_227
  let v395 : BitVec 32 := Scalar.addi v393 v394
  v395.toNat
def k0_cond6 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_16 : BitVec 32 := 0#32
  let v34 : BitVec 32 := Scalar.addi v5 c0_i32_16
  let c3_i32_18 : BitVec 32 := 3#32
  let v37 : BitVec 1 := Scalar.cmpi .sle v34 c3_i32_18
  let c0_i32 : BitVec 32 := 0#32
  let v12 : BitVec 1 := Scalar.cmpi .sgt v5 c0_i32
  let v38 : BitVec 1 := Scalar.andi v37 v12
  let v41 : BitVec 32 := Scalar.extui v38
  let c0_i32_20 : BitVec 32 := 0#32
  let v42 : BitVec 1 := Scalar.cmpi .ne v41 c0_i32_20
  v42

def k0_off4 (d0 : Dev nD) : Fin 2 → Nat :=
  let c3_i32_216 : BitVec 32 := 3#32
  let c0_i32_215 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_16 : BitVec 32 := 0#32
  let v34 : BitVec 32 := Scalar.addi v5 c0_i32_16
  let v384 : BitVec 32 := Scalar.maxsi c0_i32_215 v34
  let v385 : BitVec 32 := Scalar.minsi c3_i32_216 v384
  let c16384_i32_217 : BitVec 32 := 16384#32
  let v386 : BitVec 32 := Scalar.muli v385 c16384_i32_217
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_218 : BitVec 32 := 8192#32
  let v387 : BitVec 32 := Scalar.muli v2 c8192_i32_218
  let v388 : BitVec 32 := Scalar.addi v386 v387
  let c0_i32_219 : BitVec 32 := 0#32
  let v389 : BitVec 32 := Scalar.addi v388 c0_i32_219
  let c0_i32_228 : BitVec 32 := 0#32
  ![v389.toNat, 0]
def k0_off5 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v382 : BitVec 32 := Scalar.muli v2 c8192_i32
  let c0_i32_214 : BitVec 32 := 0#32
  let v383 : BitVec 32 := Scalar.addi v382 c0_i32_214
  let c0_i32_229 : BitVec 32 := 0#32
  ![v383.toNat, 0]
def k0_dev5 (d0 : Dev nD) : Nat :=
  let c0_i32_225 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_224 : BitVec 32 := 16#32
  let v390 : BitVec 32 := Scalar.muli v2 c16_i32_224
  let v391 : BitVec 32 := Scalar.addi c0_i32_225 v390
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.subi v5 c1_i32_4
  let c4_i32_226 : BitVec 32 := 4#32
  let v392 : BitVec 32 := Scalar.muli v11 c4_i32_226
  let v393 : BitVec 32 := Scalar.addi v391 v392
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_227 : BitVec 32 := 1#32
  let v394 : BitVec 32 := Scalar.muli v8 c1_i32_227
  let v395 : BitVec 32 := Scalar.addi v393 v394
  v395.toNat
def k0_cond7 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_15 : BitVec 32 := 0#32
  let v33 : BitVec 32 := Scalar.subi v5 c0_i32_15
  let c0_i32_17 : BitVec 32 := 0#32
  let v35 : BitVec 1 := Scalar.cmpi .sge v33 c0_i32_17
  let c3_i32 : BitVec 32 := 3#32
  let v13 : BitVec 1 := Scalar.cmpi .slt v5 c3_i32
  let v36 : BitVec 1 := Scalar.andi v35 v13
  let v43 : BitVec 32 := Scalar.extui v36
  let c0_i32_21 : BitVec 32 := 0#32
  let v44 : BitVec 1 := Scalar.cmpi .ne v43 c0_i32_21
  v44

def k0_off6 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_15 : BitVec 32 := 0#32
  let v33 : BitVec 32 := Scalar.subi v5 c0_i32_15
  let v384 : BitVec 32 := Scalar.maxsi c0_i32_214 v33
  let v385 : BitVec 32 := Scalar.minsi c3_i32_215 v384
  let c16384_i32_216 : BitVec 32 := 16384#32
  let v386 : BitVec 32 := Scalar.muli v385 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_217 : BitVec 32 := 8192#32
  let v387 : BitVec 32 := Scalar.muli v2 c8192_i32_217
  let v388 : BitVec 32 := Scalar.addi v386 v387
  let c2048_i32_218 : BitVec 32 := 2048#32
  let v389 : BitVec 32 := Scalar.addi v388 c2048_i32_218
  let c0_i32_227 : BitVec 32 := 0#32
  ![v389.toNat, 0]
def k0_off7 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v382 : BitVec 32 := Scalar.muli v2 c8192_i32
  let c2048_i32 : BitVec 32 := 2048#32
  let v383 : BitVec 32 := Scalar.addi v382 c2048_i32
  let c0_i32_228 : BitVec 32 := 0#32
  ![v383.toNat, 0]
def k0_dev6 (d0 : Dev nD) : Nat :=
  let c0_i32_224 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_223 : BitVec 32 := 16#32
  let v390 : BitVec 32 := Scalar.muli v2 c16_i32_223
  let v391 : BitVec 32 := Scalar.addi c0_i32_224 v390
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c4_i32_225 : BitVec 32 := 4#32
  let v392 : BitVec 32 := Scalar.muli v10 c4_i32_225
  let v393 : BitVec 32 := Scalar.addi v391 v392
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_226 : BitVec 32 := 1#32
  let v394 : BitVec 32 := Scalar.muli v8 c1_i32_226
  let v395 : BitVec 32 := Scalar.addi v393 v394
  v395.toNat
def k0_cond8 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_16 : BitVec 32 := 0#32
  let v34 : BitVec 32 := Scalar.addi v5 c0_i32_16
  let c3_i32_18 : BitVec 32 := 3#32
  let v37 : BitVec 1 := Scalar.cmpi .sle v34 c3_i32_18
  let c0_i32 : BitVec 32 := 0#32
  let v12 : BitVec 1 := Scalar.cmpi .sgt v5 c0_i32
  let v38 : BitVec 1 := Scalar.andi v37 v12
  let v45 : BitVec 32 := Scalar.extui v38
  let c0_i32_22 : BitVec 32 := 0#32
  let v46 : BitVec 1 := Scalar.cmpi .ne v45 c0_i32_22
  v46

def k0_off8 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_16 : BitVec 32 := 0#32
  let v34 : BitVec 32 := Scalar.addi v5 c0_i32_16
  let v384 : BitVec 32 := Scalar.maxsi c0_i32_214 v34
  let v385 : BitVec 32 := Scalar.minsi c3_i32_215 v384
  let c16384_i32_216 : BitVec 32 := 16384#32
  let v386 : BitVec 32 := Scalar.muli v385 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_217 : BitVec 32 := 8192#32
  let v387 : BitVec 32 := Scalar.muli v2 c8192_i32_217
  let v388 : BitVec 32 := Scalar.addi v386 v387
  let c2048_i32_218 : BitVec 32 := 2048#32
  let v389 : BitVec 32 := Scalar.addi v388 c2048_i32_218
  let c0_i32_227 : BitVec 32 := 0#32
  ![v389.toNat, 0]
def k0_off9 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v382 : BitVec 32 := Scalar.muli v2 c8192_i32
  let c2048_i32 : BitVec 32 := 2048#32
  let v383 : BitVec 32 := Scalar.addi v382 c2048_i32
  let c0_i32_228 : BitVec 32 := 0#32
  ![v383.toNat, 0]
def k0_dev7 (d0 : Dev nD) : Nat :=
  let c0_i32_224 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_223 : BitVec 32 := 16#32
  let v390 : BitVec 32 := Scalar.muli v2 c16_i32_223
  let v391 : BitVec 32 := Scalar.addi c0_i32_224 v390
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.subi v5 c1_i32_4
  let c4_i32_225 : BitVec 32 := 4#32
  let v392 : BitVec 32 := Scalar.muli v11 c4_i32_225
  let v393 : BitVec 32 := Scalar.addi v391 v392
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_226 : BitVec 32 := 1#32
  let v394 : BitVec 32 := Scalar.muli v8 c1_i32_226
  let v395 : BitVec 32 := Scalar.addi v393 v394
  v395.toNat
def k0_cond9 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_15 : BitVec 32 := 0#32
  let v33 : BitVec 32 := Scalar.subi v5 c0_i32_15
  let c0_i32_17 : BitVec 32 := 0#32
  let v35 : BitVec 1 := Scalar.cmpi .sge v33 c0_i32_17
  let c3_i32 : BitVec 32 := 3#32
  let v13 : BitVec 1 := Scalar.cmpi .slt v5 c3_i32
  let v36 : BitVec 1 := Scalar.andi v35 v13
  let v47 : BitVec 32 := Scalar.extui v36
  let c0_i32_23 : BitVec 32 := 0#32
  let v48 : BitVec 1 := Scalar.cmpi .ne v47 c0_i32_23
  v48

def k0_off10 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_15 : BitVec 32 := 0#32
  let v33 : BitVec 32 := Scalar.subi v5 c0_i32_15
  let v384 : BitVec 32 := Scalar.maxsi c0_i32_214 v33
  let v385 : BitVec 32 := Scalar.minsi c3_i32_215 v384
  let c16384_i32_216 : BitVec 32 := 16384#32
  let v386 : BitVec 32 := Scalar.muli v385 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_217 : BitVec 32 := 8192#32
  let v387 : BitVec 32 := Scalar.muli v2 c8192_i32_217
  let v388 : BitVec 32 := Scalar.addi v386 v387
  let c4096_i32_218 : BitVec 32 := 4096#32
  let v389 : BitVec 32 := Scalar.addi v388 c4096_i32_218
  let c0_i32_227 : BitVec 32 := 0#32
  ![v389.toNat, 0]
def k0_off11 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v382 : BitVec 32 := Scalar.muli v2 c8192_i32
  let c4096_i32 : BitVec 32 := 4096#32
  let v383 : BitVec 32 := Scalar.addi v382 c4096_i32
  let c0_i32_228 : BitVec 32 := 0#32
  ![v383.toNat, 0]
def k0_dev8 (d0 : Dev nD) : Nat :=
  let c0_i32_224 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_223 : BitVec 32 := 16#32
  let v390 : BitVec 32 := Scalar.muli v2 c16_i32_223
  let v391 : BitVec 32 := Scalar.addi c0_i32_224 v390
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c4_i32_225 : BitVec 32 := 4#32
  let v392 : BitVec 32 := Scalar.muli v10 c4_i32_225
  let v393 : BitVec 32 := Scalar.addi v391 v392
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_226 : BitVec 32 := 1#32
  let v394 : BitVec 32 := Scalar.muli v8 c1_i32_226
  let v395 : BitVec 32 := Scalar.addi v393 v394
  v395.toNat
def k0_cond10 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_16 : BitVec 32 := 0#32
  let v34 : BitVec 32 := Scalar.addi v5 c0_i32_16
  let c3_i32_18 : BitVec 32 := 3#32
  let v37 : BitVec 1 := Scalar.cmpi .sle v34 c3_i32_18
  let c0_i32 : BitVec 32 := 0#32
  let v12 : BitVec 1 := Scalar.cmpi .sgt v5 c0_i32
  let v38 : BitVec 1 := Scalar.andi v37 v12
  let v49 : BitVec 32 := Scalar.extui v38
  let c0_i32_24 : BitVec 32 := 0#32
  let v50 : BitVec 1 := Scalar.cmpi .ne v49 c0_i32_24
  v50

def k0_off12 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_16 : BitVec 32 := 0#32
  let v34 : BitVec 32 := Scalar.addi v5 c0_i32_16
  let v384 : BitVec 32 := Scalar.maxsi c0_i32_214 v34
  let v385 : BitVec 32 := Scalar.minsi c3_i32_215 v384
  let c16384_i32_216 : BitVec 32 := 16384#32
  let v386 : BitVec 32 := Scalar.muli v385 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_217 : BitVec 32 := 8192#32
  let v387 : BitVec 32 := Scalar.muli v2 c8192_i32_217
  let v388 : BitVec 32 := Scalar.addi v386 v387
  let c4096_i32_218 : BitVec 32 := 4096#32
  let v389 : BitVec 32 := Scalar.addi v388 c4096_i32_218
  let c0_i32_227 : BitVec 32 := 0#32
  ![v389.toNat, 0]
def k0_off13 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v382 : BitVec 32 := Scalar.muli v2 c8192_i32
  let c4096_i32 : BitVec 32 := 4096#32
  let v383 : BitVec 32 := Scalar.addi v382 c4096_i32
  let c0_i32_228 : BitVec 32 := 0#32
  ![v383.toNat, 0]
def k0_dev9 (d0 : Dev nD) : Nat :=
  let c0_i32_224 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_223 : BitVec 32 := 16#32
  let v390 : BitVec 32 := Scalar.muli v2 c16_i32_223
  let v391 : BitVec 32 := Scalar.addi c0_i32_224 v390
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.subi v5 c1_i32_4
  let c4_i32_225 : BitVec 32 := 4#32
  let v392 : BitVec 32 := Scalar.muli v11 c4_i32_225
  let v393 : BitVec 32 := Scalar.addi v391 v392
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_226 : BitVec 32 := 1#32
  let v394 : BitVec 32 := Scalar.muli v8 c1_i32_226
  let v395 : BitVec 32 := Scalar.addi v393 v394
  v395.toNat
def k0_cond11 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_15 : BitVec 32 := 0#32
  let v33 : BitVec 32 := Scalar.subi v5 c0_i32_15
  let c0_i32_17 : BitVec 32 := 0#32
  let v35 : BitVec 1 := Scalar.cmpi .sge v33 c0_i32_17
  let c3_i32 : BitVec 32 := 3#32
  let v13 : BitVec 1 := Scalar.cmpi .slt v5 c3_i32
  let v36 : BitVec 1 := Scalar.andi v35 v13
  let v51 : BitVec 32 := Scalar.extui v36
  let c0_i32_25 : BitVec 32 := 0#32
  let v52 : BitVec 1 := Scalar.cmpi .ne v51 c0_i32_25
  v52

def k0_off14 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_15 : BitVec 32 := 0#32
  let v33 : BitVec 32 := Scalar.subi v5 c0_i32_15
  let v384 : BitVec 32 := Scalar.maxsi c0_i32_214 v33
  let v385 : BitVec 32 := Scalar.minsi c3_i32_215 v384
  let c16384_i32_216 : BitVec 32 := 16384#32
  let v386 : BitVec 32 := Scalar.muli v385 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_217 : BitVec 32 := 8192#32
  let v387 : BitVec 32 := Scalar.muli v2 c8192_i32_217
  let v388 : BitVec 32 := Scalar.addi v386 v387
  let c6144_i32_218 : BitVec 32 := 6144#32
  let v389 : BitVec 32 := Scalar.addi v388 c6144_i32_218
  let c0_i32_227 : BitVec 32 := 0#32
  ![v389.toNat, 0]
def k0_off15 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v382 : BitVec 32 := Scalar.muli v2 c8192_i32
  let c6144_i32 : BitVec 32 := 6144#32
  let v383 : BitVec 32 := Scalar.addi v382 c6144_i32
  let c0_i32_228 : BitVec 32 := 0#32
  ![v383.toNat, 0]
def k0_dev10 (d0 : Dev nD) : Nat :=
  let c0_i32_224 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_223 : BitVec 32 := 16#32
  let v390 : BitVec 32 := Scalar.muli v2 c16_i32_223
  let v391 : BitVec 32 := Scalar.addi c0_i32_224 v390
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c4_i32_225 : BitVec 32 := 4#32
  let v392 : BitVec 32 := Scalar.muli v10 c4_i32_225
  let v393 : BitVec 32 := Scalar.addi v391 v392
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_226 : BitVec 32 := 1#32
  let v394 : BitVec 32 := Scalar.muli v8 c1_i32_226
  let v395 : BitVec 32 := Scalar.addi v393 v394
  v395.toNat
def k0_cond12 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_16 : BitVec 32 := 0#32
  let v34 : BitVec 32 := Scalar.addi v5 c0_i32_16
  let c3_i32_18 : BitVec 32 := 3#32
  let v37 : BitVec 1 := Scalar.cmpi .sle v34 c3_i32_18
  let c0_i32 : BitVec 32 := 0#32
  let v12 : BitVec 1 := Scalar.cmpi .sgt v5 c0_i32
  let v38 : BitVec 1 := Scalar.andi v37 v12
  let v53 : BitVec 32 := Scalar.extui v38
  let c0_i32_26 : BitVec 32 := 0#32
  let v54 : BitVec 1 := Scalar.cmpi .ne v53 c0_i32_26
  v54

def k0_off16 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_16 : BitVec 32 := 0#32
  let v34 : BitVec 32 := Scalar.addi v5 c0_i32_16
  let v384 : BitVec 32 := Scalar.maxsi c0_i32_214 v34
  let v385 : BitVec 32 := Scalar.minsi c3_i32_215 v384
  let c16384_i32_216 : BitVec 32 := 16384#32
  let v386 : BitVec 32 := Scalar.muli v385 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_217 : BitVec 32 := 8192#32
  let v387 : BitVec 32 := Scalar.muli v2 c8192_i32_217
  let v388 : BitVec 32 := Scalar.addi v386 v387
  let c6144_i32_218 : BitVec 32 := 6144#32
  let v389 : BitVec 32 := Scalar.addi v388 c6144_i32_218
  let c0_i32_227 : BitVec 32 := 0#32
  ![v389.toNat, 0]
def k0_off17 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v382 : BitVec 32 := Scalar.muli v2 c8192_i32
  let c6144_i32 : BitVec 32 := 6144#32
  let v383 : BitVec 32 := Scalar.addi v382 c6144_i32
  let c0_i32_228 : BitVec 32 := 0#32
  ![v383.toNat, 0]
def k0_dev11 (d0 : Dev nD) : Nat :=
  let c0_i32_224 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_223 : BitVec 32 := 16#32
  let v390 : BitVec 32 := Scalar.muli v2 c16_i32_223
  let v391 : BitVec 32 := Scalar.addi c0_i32_224 v390
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.subi v5 c1_i32_4
  let c4_i32_225 : BitVec 32 := 4#32
  let v392 : BitVec 32 := Scalar.muli v11 c4_i32_225
  let v393 : BitVec 32 := Scalar.addi v391 v392
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_226 : BitVec 32 := 1#32
  let v394 : BitVec 32 := Scalar.muli v8 c1_i32_226
  let v395 : BitVec 32 := Scalar.addi v393 v394
  v395.toNat
def k0_cond13 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_27 : BitVec 32 := 1#32
  let v55 : BitVec 32 := Scalar.subi v5 c1_i32_27
  let c0_i32_28 : BitVec 32 := 0#32
  let v56 : BitVec 32 := Scalar.subi v55 c0_i32_28
  let c0_i32_31 : BitVec 32 := 0#32
  let v59 : BitVec 1 := Scalar.cmpi .sge v56 c0_i32_31
  let c0_i32 : BitVec 32 := 0#32
  let v12 : BitVec 1 := Scalar.cmpi .sgt v5 c0_i32
  let v60 : BitVec 1 := Scalar.andi v59 v12
  let v63 : BitVec 32 := Scalar.extui v60
  let c0_i32_33 : BitVec 32 := 0#32
  let v64 : BitVec 1 := Scalar.cmpi .ne v63 c0_i32_33
  v64

def k0_off18 (d0 : Dev nD) : Fin 2 → Nat :=
  let c3_i32_219 : BitVec 32 := 3#32
  let c0_i32_218 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_27 : BitVec 32 := 1#32
  let v55 : BitVec 32 := Scalar.subi v5 c1_i32_27
  let c0_i32_28 : BitVec 32 := 0#32
  let v56 : BitVec 32 := Scalar.subi v55 c0_i32_28
  let v388 : BitVec 32 := Scalar.maxsi c0_i32_218 v56
  let v389 : BitVec 32 := Scalar.minsi c3_i32_219 v388
  let c16384_i32_220 : BitVec 32 := 16384#32
  let v390 : BitVec 32 := Scalar.muli v389 c16384_i32_220
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_221 : BitVec 32 := 8192#32
  let v391 : BitVec 32 := Scalar.muli v2 c8192_i32_221
  let v392 : BitVec 32 := Scalar.addi v390 v391
  let c0_i32_222 : BitVec 32 := 0#32
  let v393 : BitVec 32 := Scalar.addi v392 c0_i32_222
  let c0_i32_231 : BitVec 32 := 0#32
  ![v393.toNat, 0]
def k0_dev12 (d0 : Dev nD) : Nat :=
  let c0_i32_250 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_249 : BitVec 32 := 16#32
  let v416 : BitVec 32 := Scalar.muli v9 c16_i32_249
  let v417 : BitVec 32 := Scalar.addi c0_i32_250 v416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_251 : BitVec 32 := 4#32
  let v418 : BitVec 32 := Scalar.muli v5 c4_i32_251
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_252 : BitVec 32 := 1#32
  let v420 : BitVec 32 := Scalar.muli v8 c1_i32_252
  let v421 : BitVec 32 := Scalar.addi v419 v420
  v421.toNat
def k0_cond14 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_29 : BitVec 32 := 1#32
  let v57 : BitVec 32 := Scalar.addi v5 c1_i32_29
  let c0_i32_30 : BitVec 32 := 0#32
  let v58 : BitVec 32 := Scalar.addi v57 c0_i32_30
  let c3_i32_32 : BitVec 32 := 3#32
  let v61 : BitVec 1 := Scalar.cmpi .sle v58 c3_i32_32
  let c3_i32 : BitVec 32 := 3#32
  let v13 : BitVec 1 := Scalar.cmpi .slt v5 c3_i32
  let v62 : BitVec 1 := Scalar.andi v61 v13
  let v65 : BitVec 32 := Scalar.extui v62
  let c0_i32_34 : BitVec 32 := 0#32
  let v66 : BitVec 1 := Scalar.cmpi .ne v65 c0_i32_34
  v66

def k0_off19 (d0 : Dev nD) : Fin 2 → Nat :=
  let c3_i32_219 : BitVec 32 := 3#32
  let c0_i32_218 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_29 : BitVec 32 := 1#32
  let v57 : BitVec 32 := Scalar.addi v5 c1_i32_29
  let c0_i32_30 : BitVec 32 := 0#32
  let v58 : BitVec 32 := Scalar.addi v57 c0_i32_30
  let v388 : BitVec 32 := Scalar.maxsi c0_i32_218 v58
  let v389 : BitVec 32 := Scalar.minsi c3_i32_219 v388
  let c16384_i32_220 : BitVec 32 := 16384#32
  let v390 : BitVec 32 := Scalar.muli v389 c16384_i32_220
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_221 : BitVec 32 := 8192#32
  let v391 : BitVec 32 := Scalar.muli v2 c8192_i32_221
  let v392 : BitVec 32 := Scalar.addi v390 v391
  let c0_i32_222 : BitVec 32 := 0#32
  let v393 : BitVec 32 := Scalar.addi v392 c0_i32_222
  let c0_i32_231 : BitVec 32 := 0#32
  ![v393.toNat, 0]
def k0_dev13 (d0 : Dev nD) : Nat :=
  let c0_i32_250 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_249 : BitVec 32 := 16#32
  let v416 : BitVec 32 := Scalar.muli v9 c16_i32_249
  let v417 : BitVec 32 := Scalar.addi c0_i32_250 v416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_251 : BitVec 32 := 4#32
  let v418 : BitVec 32 := Scalar.muli v5 c4_i32_251
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_252 : BitVec 32 := 1#32
  let v420 : BitVec 32 := Scalar.muli v8 c1_i32_252
  let v421 : BitVec 32 := Scalar.addi v419 v420
  v421.toNat
def k0_cond15 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_27 : BitVec 32 := 1#32
  let v55 : BitVec 32 := Scalar.subi v5 c1_i32_27
  let c0_i32_28 : BitVec 32 := 0#32
  let v56 : BitVec 32 := Scalar.subi v55 c0_i32_28
  let c0_i32_31 : BitVec 32 := 0#32
  let v59 : BitVec 1 := Scalar.cmpi .sge v56 c0_i32_31
  let c0_i32 : BitVec 32 := 0#32
  let v12 : BitVec 1 := Scalar.cmpi .sgt v5 c0_i32
  let v60 : BitVec 1 := Scalar.andi v59 v12
  let v67 : BitVec 32 := Scalar.extui v60
  let c0_i32_35 : BitVec 32 := 0#32
  let v68 : BitVec 1 := Scalar.cmpi .ne v67 c0_i32_35
  v68

def k0_off20 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_27 : BitVec 32 := 1#32
  let v55 : BitVec 32 := Scalar.subi v5 c1_i32_27
  let c0_i32_28 : BitVec 32 := 0#32
  let v56 : BitVec 32 := Scalar.subi v55 c0_i32_28
  let v388 : BitVec 32 := Scalar.maxsi c0_i32_217 v56
  let v389 : BitVec 32 := Scalar.minsi c3_i32_218 v388
  let c16384_i32_219 : BitVec 32 := 16384#32
  let v390 : BitVec 32 := Scalar.muli v389 c16384_i32_219
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_220 : BitVec 32 := 8192#32
  let v391 : BitVec 32 := Scalar.muli v2 c8192_i32_220
  let v392 : BitVec 32 := Scalar.addi v390 v391
  let c2048_i32_221 : BitVec 32 := 2048#32
  let v393 : BitVec 32 := Scalar.addi v392 c2048_i32_221
  let c0_i32_230 : BitVec 32 := 0#32
  ![v393.toNat, 0]
def k0_dev14 (d0 : Dev nD) : Nat :=
  let c0_i32_249 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_248 : BitVec 32 := 16#32
  let v416 : BitVec 32 := Scalar.muli v9 c16_i32_248
  let v417 : BitVec 32 := Scalar.addi c0_i32_249 v416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_250 : BitVec 32 := 4#32
  let v418 : BitVec 32 := Scalar.muli v5 c4_i32_250
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v420 : BitVec 32 := Scalar.muli v8 c1_i32_251
  let v421 : BitVec 32 := Scalar.addi v419 v420
  v421.toNat
def k0_cond16 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_29 : BitVec 32 := 1#32
  let v57 : BitVec 32 := Scalar.addi v5 c1_i32_29
  let c0_i32_30 : BitVec 32 := 0#32
  let v58 : BitVec 32 := Scalar.addi v57 c0_i32_30
  let c3_i32_32 : BitVec 32 := 3#32
  let v61 : BitVec 1 := Scalar.cmpi .sle v58 c3_i32_32
  let c3_i32 : BitVec 32 := 3#32
  let v13 : BitVec 1 := Scalar.cmpi .slt v5 c3_i32
  let v62 : BitVec 1 := Scalar.andi v61 v13
  let v69 : BitVec 32 := Scalar.extui v62
  let c0_i32_36 : BitVec 32 := 0#32
  let v70 : BitVec 1 := Scalar.cmpi .ne v69 c0_i32_36
  v70

def k0_off21 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_29 : BitVec 32 := 1#32
  let v57 : BitVec 32 := Scalar.addi v5 c1_i32_29
  let c0_i32_30 : BitVec 32 := 0#32
  let v58 : BitVec 32 := Scalar.addi v57 c0_i32_30
  let v388 : BitVec 32 := Scalar.maxsi c0_i32_217 v58
  let v389 : BitVec 32 := Scalar.minsi c3_i32_218 v388
  let c16384_i32_219 : BitVec 32 := 16384#32
  let v390 : BitVec 32 := Scalar.muli v389 c16384_i32_219
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_220 : BitVec 32 := 8192#32
  let v391 : BitVec 32 := Scalar.muli v2 c8192_i32_220
  let v392 : BitVec 32 := Scalar.addi v390 v391
  let c2048_i32_221 : BitVec 32 := 2048#32
  let v393 : BitVec 32 := Scalar.addi v392 c2048_i32_221
  let c0_i32_230 : BitVec 32 := 0#32
  ![v393.toNat, 0]
def k0_dev15 (d0 : Dev nD) : Nat :=
  let c0_i32_249 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_248 : BitVec 32 := 16#32
  let v416 : BitVec 32 := Scalar.muli v9 c16_i32_248
  let v417 : BitVec 32 := Scalar.addi c0_i32_249 v416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_250 : BitVec 32 := 4#32
  let v418 : BitVec 32 := Scalar.muli v5 c4_i32_250
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v420 : BitVec 32 := Scalar.muli v8 c1_i32_251
  let v421 : BitVec 32 := Scalar.addi v419 v420
  v421.toNat
def k0_cond17 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_27 : BitVec 32 := 1#32
  let v55 : BitVec 32 := Scalar.subi v5 c1_i32_27
  let c0_i32_28 : BitVec 32 := 0#32
  let v56 : BitVec 32 := Scalar.subi v55 c0_i32_28
  let c0_i32_31 : BitVec 32 := 0#32
  let v59 : BitVec 1 := Scalar.cmpi .sge v56 c0_i32_31
  let c0_i32 : BitVec 32 := 0#32
  let v12 : BitVec 1 := Scalar.cmpi .sgt v5 c0_i32
  let v60 : BitVec 1 := Scalar.andi v59 v12
  let v71 : BitVec 32 := Scalar.extui v60
  let c0_i32_37 : BitVec 32 := 0#32
  let v72 : BitVec 1 := Scalar.cmpi .ne v71 c0_i32_37
  v72

def k0_off22 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_27 : BitVec 32 := 1#32
  let v55 : BitVec 32 := Scalar.subi v5 c1_i32_27
  let c0_i32_28 : BitVec 32 := 0#32
  let v56 : BitVec 32 := Scalar.subi v55 c0_i32_28
  let v388 : BitVec 32 := Scalar.maxsi c0_i32_217 v56
  let v389 : BitVec 32 := Scalar.minsi c3_i32_218 v388
  let c16384_i32_219 : BitVec 32 := 16384#32
  let v390 : BitVec 32 := Scalar.muli v389 c16384_i32_219
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_220 : BitVec 32 := 8192#32
  let v391 : BitVec 32 := Scalar.muli v2 c8192_i32_220
  let v392 : BitVec 32 := Scalar.addi v390 v391
  let c4096_i32_221 : BitVec 32 := 4096#32
  let v393 : BitVec 32 := Scalar.addi v392 c4096_i32_221
  let c0_i32_230 : BitVec 32 := 0#32
  ![v393.toNat, 0]
def k0_dev16 (d0 : Dev nD) : Nat :=
  let c0_i32_249 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_248 : BitVec 32 := 16#32
  let v416 : BitVec 32 := Scalar.muli v9 c16_i32_248
  let v417 : BitVec 32 := Scalar.addi c0_i32_249 v416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_250 : BitVec 32 := 4#32
  let v418 : BitVec 32 := Scalar.muli v5 c4_i32_250
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v420 : BitVec 32 := Scalar.muli v8 c1_i32_251
  let v421 : BitVec 32 := Scalar.addi v419 v420
  v421.toNat
def k0_cond18 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_29 : BitVec 32 := 1#32
  let v57 : BitVec 32 := Scalar.addi v5 c1_i32_29
  let c0_i32_30 : BitVec 32 := 0#32
  let v58 : BitVec 32 := Scalar.addi v57 c0_i32_30
  let c3_i32_32 : BitVec 32 := 3#32
  let v61 : BitVec 1 := Scalar.cmpi .sle v58 c3_i32_32
  let c3_i32 : BitVec 32 := 3#32
  let v13 : BitVec 1 := Scalar.cmpi .slt v5 c3_i32
  let v62 : BitVec 1 := Scalar.andi v61 v13
  let v73 : BitVec 32 := Scalar.extui v62
  let c0_i32_38 : BitVec 32 := 0#32
  let v74 : BitVec 1 := Scalar.cmpi .ne v73 c0_i32_38
  v74

def k0_off23 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_29 : BitVec 32 := 1#32
  let v57 : BitVec 32 := Scalar.addi v5 c1_i32_29
  let c0_i32_30 : BitVec 32 := 0#32
  let v58 : BitVec 32 := Scalar.addi v57 c0_i32_30
  let v388 : BitVec 32 := Scalar.maxsi c0_i32_217 v58
  let v389 : BitVec 32 := Scalar.minsi c3_i32_218 v388
  let c16384_i32_219 : BitVec 32 := 16384#32
  let v390 : BitVec 32 := Scalar.muli v389 c16384_i32_219
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_220 : BitVec 32 := 8192#32
  let v391 : BitVec 32 := Scalar.muli v2 c8192_i32_220
  let v392 : BitVec 32 := Scalar.addi v390 v391
  let c4096_i32_221 : BitVec 32 := 4096#32
  let v393 : BitVec 32 := Scalar.addi v392 c4096_i32_221
  let c0_i32_230 : BitVec 32 := 0#32
  ![v393.toNat, 0]
def k0_dev17 (d0 : Dev nD) : Nat :=
  let c0_i32_249 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_248 : BitVec 32 := 16#32
  let v416 : BitVec 32 := Scalar.muli v9 c16_i32_248
  let v417 : BitVec 32 := Scalar.addi c0_i32_249 v416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_250 : BitVec 32 := 4#32
  let v418 : BitVec 32 := Scalar.muli v5 c4_i32_250
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v420 : BitVec 32 := Scalar.muli v8 c1_i32_251
  let v421 : BitVec 32 := Scalar.addi v419 v420
  v421.toNat
def k0_cond19 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_27 : BitVec 32 := 1#32
  let v55 : BitVec 32 := Scalar.subi v5 c1_i32_27
  let c0_i32_28 : BitVec 32 := 0#32
  let v56 : BitVec 32 := Scalar.subi v55 c0_i32_28
  let c0_i32_31 : BitVec 32 := 0#32
  let v59 : BitVec 1 := Scalar.cmpi .sge v56 c0_i32_31
  let c0_i32 : BitVec 32 := 0#32
  let v12 : BitVec 1 := Scalar.cmpi .sgt v5 c0_i32
  let v60 : BitVec 1 := Scalar.andi v59 v12
  let v75 : BitVec 32 := Scalar.extui v60
  let c0_i32_39 : BitVec 32 := 0#32
  let v76 : BitVec 1 := Scalar.cmpi .ne v75 c0_i32_39
  v76

def k0_off24 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_27 : BitVec 32 := 1#32
  let v55 : BitVec 32 := Scalar.subi v5 c1_i32_27
  let c0_i32_28 : BitVec 32 := 0#32
  let v56 : BitVec 32 := Scalar.subi v55 c0_i32_28
  let v388 : BitVec 32 := Scalar.maxsi c0_i32_217 v56
  let v389 : BitVec 32 := Scalar.minsi c3_i32_218 v388
  let c16384_i32_219 : BitVec 32 := 16384#32
  let v390 : BitVec 32 := Scalar.muli v389 c16384_i32_219
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_220 : BitVec 32 := 8192#32
  let v391 : BitVec 32 := Scalar.muli v2 c8192_i32_220
  let v392 : BitVec 32 := Scalar.addi v390 v391
  let c6144_i32_221 : BitVec 32 := 6144#32
  let v393 : BitVec 32 := Scalar.addi v392 c6144_i32_221
  let c0_i32_230 : BitVec 32 := 0#32
  ![v393.toNat, 0]
def k0_dev18 (d0 : Dev nD) : Nat :=
  let c0_i32_249 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_248 : BitVec 32 := 16#32
  let v416 : BitVec 32 := Scalar.muli v9 c16_i32_248
  let v417 : BitVec 32 := Scalar.addi c0_i32_249 v416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_250 : BitVec 32 := 4#32
  let v418 : BitVec 32 := Scalar.muli v5 c4_i32_250
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v420 : BitVec 32 := Scalar.muli v8 c1_i32_251
  let v421 : BitVec 32 := Scalar.addi v419 v420
  v421.toNat
def k0_cond20 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_29 : BitVec 32 := 1#32
  let v57 : BitVec 32 := Scalar.addi v5 c1_i32_29
  let c0_i32_30 : BitVec 32 := 0#32
  let v58 : BitVec 32 := Scalar.addi v57 c0_i32_30
  let c3_i32_32 : BitVec 32 := 3#32
  let v61 : BitVec 1 := Scalar.cmpi .sle v58 c3_i32_32
  let c3_i32 : BitVec 32 := 3#32
  let v13 : BitVec 1 := Scalar.cmpi .slt v5 c3_i32
  let v62 : BitVec 1 := Scalar.andi v61 v13
  let v77 : BitVec 32 := Scalar.extui v62
  let c0_i32_40 : BitVec 32 := 0#32
  let v78 : BitVec 1 := Scalar.cmpi .ne v77 c0_i32_40
  v78

def k0_off25 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_29 : BitVec 32 := 1#32
  let v57 : BitVec 32 := Scalar.addi v5 c1_i32_29
  let c0_i32_30 : BitVec 32 := 0#32
  let v58 : BitVec 32 := Scalar.addi v57 c0_i32_30
  let v388 : BitVec 32 := Scalar.maxsi c0_i32_217 v58
  let v389 : BitVec 32 := Scalar.minsi c3_i32_218 v388
  let c16384_i32_219 : BitVec 32 := 16384#32
  let v390 : BitVec 32 := Scalar.muli v389 c16384_i32_219
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_220 : BitVec 32 := 8192#32
  let v391 : BitVec 32 := Scalar.muli v2 c8192_i32_220
  let v392 : BitVec 32 := Scalar.addi v390 v391
  let c6144_i32_221 : BitVec 32 := 6144#32
  let v393 : BitVec 32 := Scalar.addi v392 c6144_i32_221
  let c0_i32_230 : BitVec 32 := 0#32
  ![v393.toNat, 0]
def k0_dev19 (d0 : Dev nD) : Nat :=
  let c0_i32_249 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_248 : BitVec 32 := 16#32
  let v416 : BitVec 32 := Scalar.muli v9 c16_i32_248
  let v417 : BitVec 32 := Scalar.addi c0_i32_249 v416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_250 : BitVec 32 := 4#32
  let v418 : BitVec 32 := Scalar.muli v5 c4_i32_250
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v420 : BitVec 32 := Scalar.muli v8 c1_i32_251
  let v421 : BitVec 32 := Scalar.addi v419 v420
  v421.toNat
def k0_cond21 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_41 : BitVec 32 := 1#32
  let v79 : BitVec 32 := Scalar.subi v5 c1_i32_41
  let c0_i32_43 : BitVec 32 := 0#32
  let v81 : BitVec 1 := Scalar.cmpi .sge v79 c0_i32_43
  let c3_i32 : BitVec 32 := 3#32
  let v13 : BitVec 1 := Scalar.cmpi .slt v5 c3_i32
  let v82 : BitVec 1 := Scalar.andi v81 v13
  let v85 : BitVec 32 := Scalar.extui v82
  let c0_i32_45 : BitVec 32 := 0#32
  let v86 : BitVec 1 := Scalar.cmpi .ne v85 c0_i32_45
  v86

def k0_off26 (d0 : Dev nD) : Fin 2 → Nat :=
  let c3_i32_219 : BitVec 32 := 3#32
  let c0_i32_218 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_41 : BitVec 32 := 1#32
  let v79 : BitVec 32 := Scalar.subi v5 c1_i32_41
  let v388 : BitVec 32 := Scalar.maxsi c0_i32_218 v79
  let v389 : BitVec 32 := Scalar.minsi c3_i32_219 v388
  let c16384_i32_220 : BitVec 32 := 16384#32
  let v390 : BitVec 32 := Scalar.muli v389 c16384_i32_220
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_221 : BitVec 32 := 8192#32
  let v391 : BitVec 32 := Scalar.muli v2 c8192_i32_221
  let v392 : BitVec 32 := Scalar.addi v390 v391
  let c0_i32_222 : BitVec 32 := 0#32
  let v393 : BitVec 32 := Scalar.addi v392 c0_i32_222
  let c0_i32_231 : BitVec 32 := 0#32
  ![v393.toNat, 0]
def k0_dev20 (d0 : Dev nD) : Nat :=
  let c0_i32_228 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_227 : BitVec 32 := 16#32
  let v394 : BitVec 32 := Scalar.muli v2 c16_i32_227
  let v395 : BitVec 32 := Scalar.addi c0_i32_228 v394
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c4_i32_229 : BitVec 32 := 4#32
  let v396 : BitVec 32 := Scalar.muli v10 c4_i32_229
  let v397 : BitVec 32 := Scalar.addi v395 v396
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_230 : BitVec 32 := 1#32
  let v398 : BitVec 32 := Scalar.muli v8 c1_i32_230
  let v399 : BitVec 32 := Scalar.addi v397 v398
  v399.toNat
def k0_cond22 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_42 : BitVec 32 := 1#32
  let v80 : BitVec 32 := Scalar.addi v5 c1_i32_42
  let c3_i32_44 : BitVec 32 := 3#32
  let v83 : BitVec 1 := Scalar.cmpi .sle v80 c3_i32_44
  let c0_i32 : BitVec 32 := 0#32
  let v12 : BitVec 1 := Scalar.cmpi .sgt v5 c0_i32
  let v84 : BitVec 1 := Scalar.andi v83 v12
  let v87 : BitVec 32 := Scalar.extui v84
  let c0_i32_46 : BitVec 32 := 0#32
  let v88 : BitVec 1 := Scalar.cmpi .ne v87 c0_i32_46
  v88

def k0_off27 (d0 : Dev nD) : Fin 2 → Nat :=
  let c3_i32_219 : BitVec 32 := 3#32
  let c0_i32_218 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_42 : BitVec 32 := 1#32
  let v80 : BitVec 32 := Scalar.addi v5 c1_i32_42
  let v388 : BitVec 32 := Scalar.maxsi c0_i32_218 v80
  let v389 : BitVec 32 := Scalar.minsi c3_i32_219 v388
  let c16384_i32_220 : BitVec 32 := 16384#32
  let v390 : BitVec 32 := Scalar.muli v389 c16384_i32_220
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_221 : BitVec 32 := 8192#32
  let v391 : BitVec 32 := Scalar.muli v2 c8192_i32_221
  let v392 : BitVec 32 := Scalar.addi v390 v391
  let c0_i32_222 : BitVec 32 := 0#32
  let v393 : BitVec 32 := Scalar.addi v392 c0_i32_222
  let c0_i32_231 : BitVec 32 := 0#32
  ![v393.toNat, 0]
def k0_dev21 (d0 : Dev nD) : Nat :=
  let c0_i32_228 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_227 : BitVec 32 := 16#32
  let v394 : BitVec 32 := Scalar.muli v2 c16_i32_227
  let v395 : BitVec 32 := Scalar.addi c0_i32_228 v394
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.subi v5 c1_i32_4
  let c4_i32_229 : BitVec 32 := 4#32
  let v396 : BitVec 32 := Scalar.muli v11 c4_i32_229
  let v397 : BitVec 32 := Scalar.addi v395 v396
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_230 : BitVec 32 := 1#32
  let v398 : BitVec 32 := Scalar.muli v8 c1_i32_230
  let v399 : BitVec 32 := Scalar.addi v397 v398
  v399.toNat
def k0_cond23 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_41 : BitVec 32 := 1#32
  let v79 : BitVec 32 := Scalar.subi v5 c1_i32_41
  let c0_i32_43 : BitVec 32 := 0#32
  let v81 : BitVec 1 := Scalar.cmpi .sge v79 c0_i32_43
  let c3_i32 : BitVec 32 := 3#32
  let v13 : BitVec 1 := Scalar.cmpi .slt v5 c3_i32
  let v82 : BitVec 1 := Scalar.andi v81 v13
  let v89 : BitVec 32 := Scalar.extui v82
  let c0_i32_47 : BitVec 32 := 0#32
  let v90 : BitVec 1 := Scalar.cmpi .ne v89 c0_i32_47
  v90

def k0_off28 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_41 : BitVec 32 := 1#32
  let v79 : BitVec 32 := Scalar.subi v5 c1_i32_41
  let v388 : BitVec 32 := Scalar.maxsi c0_i32_217 v79
  let v389 : BitVec 32 := Scalar.minsi c3_i32_218 v388
  let c16384_i32_219 : BitVec 32 := 16384#32
  let v390 : BitVec 32 := Scalar.muli v389 c16384_i32_219
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_220 : BitVec 32 := 8192#32
  let v391 : BitVec 32 := Scalar.muli v2 c8192_i32_220
  let v392 : BitVec 32 := Scalar.addi v390 v391
  let c2048_i32_221 : BitVec 32 := 2048#32
  let v393 : BitVec 32 := Scalar.addi v392 c2048_i32_221
  let c0_i32_230 : BitVec 32 := 0#32
  ![v393.toNat, 0]
def k0_dev22 (d0 : Dev nD) : Nat :=
  let c0_i32_227 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_226 : BitVec 32 := 16#32
  let v394 : BitVec 32 := Scalar.muli v2 c16_i32_226
  let v395 : BitVec 32 := Scalar.addi c0_i32_227 v394
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c4_i32_228 : BitVec 32 := 4#32
  let v396 : BitVec 32 := Scalar.muli v10 c4_i32_228
  let v397 : BitVec 32 := Scalar.addi v395 v396
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_229 : BitVec 32 := 1#32
  let v398 : BitVec 32 := Scalar.muli v8 c1_i32_229
  let v399 : BitVec 32 := Scalar.addi v397 v398
  v399.toNat
def k0_cond24 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_42 : BitVec 32 := 1#32
  let v80 : BitVec 32 := Scalar.addi v5 c1_i32_42
  let c3_i32_44 : BitVec 32 := 3#32
  let v83 : BitVec 1 := Scalar.cmpi .sle v80 c3_i32_44
  let c0_i32 : BitVec 32 := 0#32
  let v12 : BitVec 1 := Scalar.cmpi .sgt v5 c0_i32
  let v84 : BitVec 1 := Scalar.andi v83 v12
  let v91 : BitVec 32 := Scalar.extui v84
  let c0_i32_48 : BitVec 32 := 0#32
  let v92 : BitVec 1 := Scalar.cmpi .ne v91 c0_i32_48
  v92

def k0_off29 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_42 : BitVec 32 := 1#32
  let v80 : BitVec 32 := Scalar.addi v5 c1_i32_42
  let v388 : BitVec 32 := Scalar.maxsi c0_i32_217 v80
  let v389 : BitVec 32 := Scalar.minsi c3_i32_218 v388
  let c16384_i32_219 : BitVec 32 := 16384#32
  let v390 : BitVec 32 := Scalar.muli v389 c16384_i32_219
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_220 : BitVec 32 := 8192#32
  let v391 : BitVec 32 := Scalar.muli v2 c8192_i32_220
  let v392 : BitVec 32 := Scalar.addi v390 v391
  let c2048_i32_221 : BitVec 32 := 2048#32
  let v393 : BitVec 32 := Scalar.addi v392 c2048_i32_221
  let c0_i32_230 : BitVec 32 := 0#32
  ![v393.toNat, 0]
def k0_dev23 (d0 : Dev nD) : Nat :=
  let c0_i32_227 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_226 : BitVec 32 := 16#32
  let v394 : BitVec 32 := Scalar.muli v2 c16_i32_226
  let v395 : BitVec 32 := Scalar.addi c0_i32_227 v394
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.subi v5 c1_i32_4
  let c4_i32_228 : BitVec 32 := 4#32
  let v396 : BitVec 32 := Scalar.muli v11 c4_i32_228
  let v397 : BitVec 32 := Scalar.addi v395 v396
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_229 : BitVec 32 := 1#32
  let v398 : BitVec 32 := Scalar.muli v8 c1_i32_229
  let v399 : BitVec 32 := Scalar.addi v397 v398
  v399.toNat
def k0_cond25 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_41 : BitVec 32 := 1#32
  let v79 : BitVec 32 := Scalar.subi v5 c1_i32_41
  let c0_i32_43 : BitVec 32 := 0#32
  let v81 : BitVec 1 := Scalar.cmpi .sge v79 c0_i32_43
  let c3_i32 : BitVec 32 := 3#32
  let v13 : BitVec 1 := Scalar.cmpi .slt v5 c3_i32
  let v82 : BitVec 1 := Scalar.andi v81 v13
  let v93 : BitVec 32 := Scalar.extui v82
  let c0_i32_49 : BitVec 32 := 0#32
  let v94 : BitVec 1 := Scalar.cmpi .ne v93 c0_i32_49
  v94

def k0_off30 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_41 : BitVec 32 := 1#32
  let v79 : BitVec 32 := Scalar.subi v5 c1_i32_41
  let v388 : BitVec 32 := Scalar.maxsi c0_i32_217 v79
  let v389 : BitVec 32 := Scalar.minsi c3_i32_218 v388
  let c16384_i32_219 : BitVec 32 := 16384#32
  let v390 : BitVec 32 := Scalar.muli v389 c16384_i32_219
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_220 : BitVec 32 := 8192#32
  let v391 : BitVec 32 := Scalar.muli v2 c8192_i32_220
  let v392 : BitVec 32 := Scalar.addi v390 v391
  let c4096_i32_221 : BitVec 32 := 4096#32
  let v393 : BitVec 32 := Scalar.addi v392 c4096_i32_221
  let c0_i32_230 : BitVec 32 := 0#32
  ![v393.toNat, 0]
def k0_dev24 (d0 : Dev nD) : Nat :=
  let c0_i32_227 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_226 : BitVec 32 := 16#32
  let v394 : BitVec 32 := Scalar.muli v2 c16_i32_226
  let v395 : BitVec 32 := Scalar.addi c0_i32_227 v394
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c4_i32_228 : BitVec 32 := 4#32
  let v396 : BitVec 32 := Scalar.muli v10 c4_i32_228
  let v397 : BitVec 32 := Scalar.addi v395 v396
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_229 : BitVec 32 := 1#32
  let v398 : BitVec 32 := Scalar.muli v8 c1_i32_229
  let v399 : BitVec 32 := Scalar.addi v397 v398
  v399.toNat
def k0_cond26 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_42 : BitVec 32 := 1#32
  let v80 : BitVec 32 := Scalar.addi v5 c1_i32_42
  let c3_i32_44 : BitVec 32 := 3#32
  let v83 : BitVec 1 := Scalar.cmpi .sle v80 c3_i32_44
  let c0_i32 : BitVec 32 := 0#32
  let v12 : BitVec 1 := Scalar.cmpi .sgt v5 c0_i32
  let v84 : BitVec 1 := Scalar.andi v83 v12
  let v95 : BitVec 32 := Scalar.extui v84
  let c0_i32_50 : BitVec 32 := 0#32
  let v96 : BitVec 1 := Scalar.cmpi .ne v95 c0_i32_50
  v96

def k0_off31 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_42 : BitVec 32 := 1#32
  let v80 : BitVec 32 := Scalar.addi v5 c1_i32_42
  let v388 : BitVec 32 := Scalar.maxsi c0_i32_217 v80
  let v389 : BitVec 32 := Scalar.minsi c3_i32_218 v388
  let c16384_i32_219 : BitVec 32 := 16384#32
  let v390 : BitVec 32 := Scalar.muli v389 c16384_i32_219
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_220 : BitVec 32 := 8192#32
  let v391 : BitVec 32 := Scalar.muli v2 c8192_i32_220
  let v392 : BitVec 32 := Scalar.addi v390 v391
  let c4096_i32_221 : BitVec 32 := 4096#32
  let v393 : BitVec 32 := Scalar.addi v392 c4096_i32_221
  let c0_i32_230 : BitVec 32 := 0#32
  ![v393.toNat, 0]
def k0_dev25 (d0 : Dev nD) : Nat :=
  let c0_i32_227 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_226 : BitVec 32 := 16#32
  let v394 : BitVec 32 := Scalar.muli v2 c16_i32_226
  let v395 : BitVec 32 := Scalar.addi c0_i32_227 v394
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.subi v5 c1_i32_4
  let c4_i32_228 : BitVec 32 := 4#32
  let v396 : BitVec 32 := Scalar.muli v11 c4_i32_228
  let v397 : BitVec 32 := Scalar.addi v395 v396
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_229 : BitVec 32 := 1#32
  let v398 : BitVec 32 := Scalar.muli v8 c1_i32_229
  let v399 : BitVec 32 := Scalar.addi v397 v398
  v399.toNat
def k0_cond27 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_41 : BitVec 32 := 1#32
  let v79 : BitVec 32 := Scalar.subi v5 c1_i32_41
  let c0_i32_43 : BitVec 32 := 0#32
  let v81 : BitVec 1 := Scalar.cmpi .sge v79 c0_i32_43
  let c3_i32 : BitVec 32 := 3#32
  let v13 : BitVec 1 := Scalar.cmpi .slt v5 c3_i32
  let v82 : BitVec 1 := Scalar.andi v81 v13
  let v97 : BitVec 32 := Scalar.extui v82
  let c0_i32_51 : BitVec 32 := 0#32
  let v98 : BitVec 1 := Scalar.cmpi .ne v97 c0_i32_51
  v98

def k0_off32 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_41 : BitVec 32 := 1#32
  let v79 : BitVec 32 := Scalar.subi v5 c1_i32_41
  let v388 : BitVec 32 := Scalar.maxsi c0_i32_217 v79
  let v389 : BitVec 32 := Scalar.minsi c3_i32_218 v388
  let c16384_i32_219 : BitVec 32 := 16384#32
  let v390 : BitVec 32 := Scalar.muli v389 c16384_i32_219
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_220 : BitVec 32 := 8192#32
  let v391 : BitVec 32 := Scalar.muli v2 c8192_i32_220
  let v392 : BitVec 32 := Scalar.addi v390 v391
  let c6144_i32_221 : BitVec 32 := 6144#32
  let v393 : BitVec 32 := Scalar.addi v392 c6144_i32_221
  let c0_i32_230 : BitVec 32 := 0#32
  ![v393.toNat, 0]
def k0_dev26 (d0 : Dev nD) : Nat :=
  let c0_i32_227 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_226 : BitVec 32 := 16#32
  let v394 : BitVec 32 := Scalar.muli v2 c16_i32_226
  let v395 : BitVec 32 := Scalar.addi c0_i32_227 v394
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c4_i32_228 : BitVec 32 := 4#32
  let v396 : BitVec 32 := Scalar.muli v10 c4_i32_228
  let v397 : BitVec 32 := Scalar.addi v395 v396
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_229 : BitVec 32 := 1#32
  let v398 : BitVec 32 := Scalar.muli v8 c1_i32_229
  let v399 : BitVec 32 := Scalar.addi v397 v398
  v399.toNat
def k0_cond28 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_42 : BitVec 32 := 1#32
  let v80 : BitVec 32 := Scalar.addi v5 c1_i32_42
  let c3_i32_44 : BitVec 32 := 3#32
  let v83 : BitVec 1 := Scalar.cmpi .sle v80 c3_i32_44
  let c0_i32 : BitVec 32 := 0#32
  let v12 : BitVec 1 := Scalar.cmpi .sgt v5 c0_i32
  let v84 : BitVec 1 := Scalar.andi v83 v12
  let v99 : BitVec 32 := Scalar.extui v84
  let c0_i32_52 : BitVec 32 := 0#32
  let v100 : BitVec 1 := Scalar.cmpi .ne v99 c0_i32_52
  v100

def k0_off33 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_42 : BitVec 32 := 1#32
  let v80 : BitVec 32 := Scalar.addi v5 c1_i32_42
  let v388 : BitVec 32 := Scalar.maxsi c0_i32_217 v80
  let v389 : BitVec 32 := Scalar.minsi c3_i32_218 v388
  let c16384_i32_219 : BitVec 32 := 16384#32
  let v390 : BitVec 32 := Scalar.muli v389 c16384_i32_219
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_220 : BitVec 32 := 8192#32
  let v391 : BitVec 32 := Scalar.muli v2 c8192_i32_220
  let v392 : BitVec 32 := Scalar.addi v390 v391
  let c6144_i32_221 : BitVec 32 := 6144#32
  let v393 : BitVec 32 := Scalar.addi v392 c6144_i32_221
  let c0_i32_230 : BitVec 32 := 0#32
  ![v393.toNat, 0]
def k0_dev27 (d0 : Dev nD) : Nat :=
  let c0_i32_227 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_226 : BitVec 32 := 16#32
  let v394 : BitVec 32 := Scalar.muli v2 c16_i32_226
  let v395 : BitVec 32 := Scalar.addi c0_i32_227 v394
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.subi v5 c1_i32_4
  let c4_i32_228 : BitVec 32 := 4#32
  let v396 : BitVec 32 := Scalar.muli v11 c4_i32_228
  let v397 : BitVec 32 := Scalar.addi v395 v396
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_229 : BitVec 32 := 1#32
  let v398 : BitVec 32 := Scalar.muli v8 c1_i32_229
  let v399 : BitVec 32 := Scalar.addi v397 v398
  v399.toNat
def k0_cond29 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_53 : BitVec 32 := 1#32
  let v101 : BitVec 32 := Scalar.subi v5 c1_i32_53
  let c1_i32_54 : BitVec 32 := 1#32
  let v102 : BitVec 32 := Scalar.subi v101 c1_i32_54
  let c0_i32_57 : BitVec 32 := 0#32
  let v105 : BitVec 1 := Scalar.cmpi .sge v102 c0_i32_57
  let c0_i32 : BitVec 32 := 0#32
  let v12 : BitVec 1 := Scalar.cmpi .sgt v5 c0_i32
  let v106 : BitVec 1 := Scalar.andi v105 v12
  let v109 : BitVec 32 := Scalar.extui v106
  let c0_i32_59 : BitVec 32 := 0#32
  let v110 : BitVec 1 := Scalar.cmpi .ne v109 c0_i32_59
  v110

def k0_off34 (d0 : Dev nD) : Fin 2 → Nat :=
  let c3_i32_219 : BitVec 32 := 3#32
  let c0_i32_218 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_53 : BitVec 32 := 1#32
  let v101 : BitVec 32 := Scalar.subi v5 c1_i32_53
  let c1_i32_54 : BitVec 32 := 1#32
  let v102 : BitVec 32 := Scalar.subi v101 c1_i32_54
  let v388 : BitVec 32 := Scalar.maxsi c0_i32_218 v102
  let v389 : BitVec 32 := Scalar.minsi c3_i32_219 v388
  let c16384_i32_220 : BitVec 32 := 16384#32
  let v390 : BitVec 32 := Scalar.muli v389 c16384_i32_220
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_221 : BitVec 32 := 8192#32
  let v391 : BitVec 32 := Scalar.muli v2 c8192_i32_221
  let v392 : BitVec 32 := Scalar.addi v390 v391
  let c0_i32_222 : BitVec 32 := 0#32
  let v393 : BitVec 32 := Scalar.addi v392 c0_i32_222
  let c0_i32_231 : BitVec 32 := 0#32
  ![v393.toNat, 0]
def k0_dev28 (d0 : Dev nD) : Nat :=
  let c0_i32_250 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_249 : BitVec 32 := 16#32
  let v416 : BitVec 32 := Scalar.muli v9 c16_i32_249
  let v417 : BitVec 32 := Scalar.addi c0_i32_250 v416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_251 : BitVec 32 := 4#32
  let v418 : BitVec 32 := Scalar.muli v5 c4_i32_251
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_252 : BitVec 32 := 1#32
  let v420 : BitVec 32 := Scalar.muli v8 c1_i32_252
  let v421 : BitVec 32 := Scalar.addi v419 v420
  v421.toNat
def k0_cond30 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_55 : BitVec 32 := 1#32
  let v103 : BitVec 32 := Scalar.addi v5 c1_i32_55
  let c1_i32_56 : BitVec 32 := 1#32
  let v104 : BitVec 32 := Scalar.addi v103 c1_i32_56
  let c3_i32_58 : BitVec 32 := 3#32
  let v107 : BitVec 1 := Scalar.cmpi .sle v104 c3_i32_58
  let c3_i32 : BitVec 32 := 3#32
  let v13 : BitVec 1 := Scalar.cmpi .slt v5 c3_i32
  let v108 : BitVec 1 := Scalar.andi v107 v13
  let v111 : BitVec 32 := Scalar.extui v108
  let c0_i32_60 : BitVec 32 := 0#32
  let v112 : BitVec 1 := Scalar.cmpi .ne v111 c0_i32_60
  v112

def k0_off35 (d0 : Dev nD) : Fin 2 → Nat :=
  let c3_i32_219 : BitVec 32 := 3#32
  let c0_i32_218 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_55 : BitVec 32 := 1#32
  let v103 : BitVec 32 := Scalar.addi v5 c1_i32_55
  let c1_i32_56 : BitVec 32 := 1#32
  let v104 : BitVec 32 := Scalar.addi v103 c1_i32_56
  let v388 : BitVec 32 := Scalar.maxsi c0_i32_218 v104
  let v389 : BitVec 32 := Scalar.minsi c3_i32_219 v388
  let c16384_i32_220 : BitVec 32 := 16384#32
  let v390 : BitVec 32 := Scalar.muli v389 c16384_i32_220
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_221 : BitVec 32 := 8192#32
  let v391 : BitVec 32 := Scalar.muli v2 c8192_i32_221
  let v392 : BitVec 32 := Scalar.addi v390 v391
  let c0_i32_222 : BitVec 32 := 0#32
  let v393 : BitVec 32 := Scalar.addi v392 c0_i32_222
  let c0_i32_231 : BitVec 32 := 0#32
  ![v393.toNat, 0]
def k0_dev29 (d0 : Dev nD) : Nat :=
  let c0_i32_250 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_249 : BitVec 32 := 16#32
  let v416 : BitVec 32 := Scalar.muli v9 c16_i32_249
  let v417 : BitVec 32 := Scalar.addi c0_i32_250 v416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_251 : BitVec 32 := 4#32
  let v418 : BitVec 32 := Scalar.muli v5 c4_i32_251
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_252 : BitVec 32 := 1#32
  let v420 : BitVec 32 := Scalar.muli v8 c1_i32_252
  let v421 : BitVec 32 := Scalar.addi v419 v420
  v421.toNat
def k0_cond31 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_53 : BitVec 32 := 1#32
  let v101 : BitVec 32 := Scalar.subi v5 c1_i32_53
  let c1_i32_54 : BitVec 32 := 1#32
  let v102 : BitVec 32 := Scalar.subi v101 c1_i32_54
  let c0_i32_57 : BitVec 32 := 0#32
  let v105 : BitVec 1 := Scalar.cmpi .sge v102 c0_i32_57
  let c0_i32 : BitVec 32 := 0#32
  let v12 : BitVec 1 := Scalar.cmpi .sgt v5 c0_i32
  let v106 : BitVec 1 := Scalar.andi v105 v12
  let v113 : BitVec 32 := Scalar.extui v106
  let c0_i32_61 : BitVec 32 := 0#32
  let v114 : BitVec 1 := Scalar.cmpi .ne v113 c0_i32_61
  v114

def k0_off36 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_53 : BitVec 32 := 1#32
  let v101 : BitVec 32 := Scalar.subi v5 c1_i32_53
  let c1_i32_54 : BitVec 32 := 1#32
  let v102 : BitVec 32 := Scalar.subi v101 c1_i32_54
  let v388 : BitVec 32 := Scalar.maxsi c0_i32_217 v102
  let v389 : BitVec 32 := Scalar.minsi c3_i32_218 v388
  let c16384_i32_219 : BitVec 32 := 16384#32
  let v390 : BitVec 32 := Scalar.muli v389 c16384_i32_219
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_220 : BitVec 32 := 8192#32
  let v391 : BitVec 32 := Scalar.muli v2 c8192_i32_220
  let v392 : BitVec 32 := Scalar.addi v390 v391
  let c2048_i32_221 : BitVec 32 := 2048#32
  let v393 : BitVec 32 := Scalar.addi v392 c2048_i32_221
  let c0_i32_230 : BitVec 32 := 0#32
  ![v393.toNat, 0]
def k0_dev30 (d0 : Dev nD) : Nat :=
  let c0_i32_249 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_248 : BitVec 32 := 16#32
  let v416 : BitVec 32 := Scalar.muli v9 c16_i32_248
  let v417 : BitVec 32 := Scalar.addi c0_i32_249 v416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_250 : BitVec 32 := 4#32
  let v418 : BitVec 32 := Scalar.muli v5 c4_i32_250
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v420 : BitVec 32 := Scalar.muli v8 c1_i32_251
  let v421 : BitVec 32 := Scalar.addi v419 v420
  v421.toNat
def k0_cond32 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_55 : BitVec 32 := 1#32
  let v103 : BitVec 32 := Scalar.addi v5 c1_i32_55
  let c1_i32_56 : BitVec 32 := 1#32
  let v104 : BitVec 32 := Scalar.addi v103 c1_i32_56
  let c3_i32_58 : BitVec 32 := 3#32
  let v107 : BitVec 1 := Scalar.cmpi .sle v104 c3_i32_58
  let c3_i32 : BitVec 32 := 3#32
  let v13 : BitVec 1 := Scalar.cmpi .slt v5 c3_i32
  let v108 : BitVec 1 := Scalar.andi v107 v13
  let v115 : BitVec 32 := Scalar.extui v108
  let c0_i32_62 : BitVec 32 := 0#32
  let v116 : BitVec 1 := Scalar.cmpi .ne v115 c0_i32_62
  v116

def k0_off37 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_55 : BitVec 32 := 1#32
  let v103 : BitVec 32 := Scalar.addi v5 c1_i32_55
  let c1_i32_56 : BitVec 32 := 1#32
  let v104 : BitVec 32 := Scalar.addi v103 c1_i32_56
  let v388 : BitVec 32 := Scalar.maxsi c0_i32_217 v104
  let v389 : BitVec 32 := Scalar.minsi c3_i32_218 v388
  let c16384_i32_219 : BitVec 32 := 16384#32
  let v390 : BitVec 32 := Scalar.muli v389 c16384_i32_219
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_220 : BitVec 32 := 8192#32
  let v391 : BitVec 32 := Scalar.muli v2 c8192_i32_220
  let v392 : BitVec 32 := Scalar.addi v390 v391
  let c2048_i32_221 : BitVec 32 := 2048#32
  let v393 : BitVec 32 := Scalar.addi v392 c2048_i32_221
  let c0_i32_230 : BitVec 32 := 0#32
  ![v393.toNat, 0]
def k0_dev31 (d0 : Dev nD) : Nat :=
  let c0_i32_249 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_248 : BitVec 32 := 16#32
  let v416 : BitVec 32 := Scalar.muli v9 c16_i32_248
  let v417 : BitVec 32 := Scalar.addi c0_i32_249 v416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_250 : BitVec 32 := 4#32
  let v418 : BitVec 32 := Scalar.muli v5 c4_i32_250
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v420 : BitVec 32 := Scalar.muli v8 c1_i32_251
  let v421 : BitVec 32 := Scalar.addi v419 v420
  v421.toNat
def k0_cond33 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_53 : BitVec 32 := 1#32
  let v101 : BitVec 32 := Scalar.subi v5 c1_i32_53
  let c1_i32_54 : BitVec 32 := 1#32
  let v102 : BitVec 32 := Scalar.subi v101 c1_i32_54
  let c0_i32_57 : BitVec 32 := 0#32
  let v105 : BitVec 1 := Scalar.cmpi .sge v102 c0_i32_57
  let c0_i32 : BitVec 32 := 0#32
  let v12 : BitVec 1 := Scalar.cmpi .sgt v5 c0_i32
  let v106 : BitVec 1 := Scalar.andi v105 v12
  let v117 : BitVec 32 := Scalar.extui v106
  let c0_i32_63 : BitVec 32 := 0#32
  let v118 : BitVec 1 := Scalar.cmpi .ne v117 c0_i32_63
  v118

def k0_off38 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_53 : BitVec 32 := 1#32
  let v101 : BitVec 32 := Scalar.subi v5 c1_i32_53
  let c1_i32_54 : BitVec 32 := 1#32
  let v102 : BitVec 32 := Scalar.subi v101 c1_i32_54
  let v388 : BitVec 32 := Scalar.maxsi c0_i32_217 v102
  let v389 : BitVec 32 := Scalar.minsi c3_i32_218 v388
  let c16384_i32_219 : BitVec 32 := 16384#32
  let v390 : BitVec 32 := Scalar.muli v389 c16384_i32_219
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_220 : BitVec 32 := 8192#32
  let v391 : BitVec 32 := Scalar.muli v2 c8192_i32_220
  let v392 : BitVec 32 := Scalar.addi v390 v391
  let c4096_i32_221 : BitVec 32 := 4096#32
  let v393 : BitVec 32 := Scalar.addi v392 c4096_i32_221
  let c0_i32_230 : BitVec 32 := 0#32
  ![v393.toNat, 0]
def k0_dev32 (d0 : Dev nD) : Nat :=
  let c0_i32_249 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_248 : BitVec 32 := 16#32
  let v416 : BitVec 32 := Scalar.muli v9 c16_i32_248
  let v417 : BitVec 32 := Scalar.addi c0_i32_249 v416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_250 : BitVec 32 := 4#32
  let v418 : BitVec 32 := Scalar.muli v5 c4_i32_250
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v420 : BitVec 32 := Scalar.muli v8 c1_i32_251
  let v421 : BitVec 32 := Scalar.addi v419 v420
  v421.toNat
def k0_cond34 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_55 : BitVec 32 := 1#32
  let v103 : BitVec 32 := Scalar.addi v5 c1_i32_55
  let c1_i32_56 : BitVec 32 := 1#32
  let v104 : BitVec 32 := Scalar.addi v103 c1_i32_56
  let c3_i32_58 : BitVec 32 := 3#32
  let v107 : BitVec 1 := Scalar.cmpi .sle v104 c3_i32_58
  let c3_i32 : BitVec 32 := 3#32
  let v13 : BitVec 1 := Scalar.cmpi .slt v5 c3_i32
  let v108 : BitVec 1 := Scalar.andi v107 v13
  let v119 : BitVec 32 := Scalar.extui v108
  let c0_i32_64 : BitVec 32 := 0#32
  let v120 : BitVec 1 := Scalar.cmpi .ne v119 c0_i32_64
  v120

def k0_off39 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_55 : BitVec 32 := 1#32
  let v103 : BitVec 32 := Scalar.addi v5 c1_i32_55
  let c1_i32_56 : BitVec 32 := 1#32
  let v104 : BitVec 32 := Scalar.addi v103 c1_i32_56
  let v388 : BitVec 32 := Scalar.maxsi c0_i32_217 v104
  let v389 : BitVec 32 := Scalar.minsi c3_i32_218 v388
  let c16384_i32_219 : BitVec 32 := 16384#32
  let v390 : BitVec 32 := Scalar.muli v389 c16384_i32_219
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_220 : BitVec 32 := 8192#32
  let v391 : BitVec 32 := Scalar.muli v2 c8192_i32_220
  let v392 : BitVec 32 := Scalar.addi v390 v391
  let c4096_i32_221 : BitVec 32 := 4096#32
  let v393 : BitVec 32 := Scalar.addi v392 c4096_i32_221
  let c0_i32_230 : BitVec 32 := 0#32
  ![v393.toNat, 0]
def k0_dev33 (d0 : Dev nD) : Nat :=
  let c0_i32_249 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_248 : BitVec 32 := 16#32
  let v416 : BitVec 32 := Scalar.muli v9 c16_i32_248
  let v417 : BitVec 32 := Scalar.addi c0_i32_249 v416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_250 : BitVec 32 := 4#32
  let v418 : BitVec 32 := Scalar.muli v5 c4_i32_250
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v420 : BitVec 32 := Scalar.muli v8 c1_i32_251
  let v421 : BitVec 32 := Scalar.addi v419 v420
  v421.toNat
def k0_cond35 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_53 : BitVec 32 := 1#32
  let v101 : BitVec 32 := Scalar.subi v5 c1_i32_53
  let c1_i32_54 : BitVec 32 := 1#32
  let v102 : BitVec 32 := Scalar.subi v101 c1_i32_54
  let c0_i32_57 : BitVec 32 := 0#32
  let v105 : BitVec 1 := Scalar.cmpi .sge v102 c0_i32_57
  let c0_i32 : BitVec 32 := 0#32
  let v12 : BitVec 1 := Scalar.cmpi .sgt v5 c0_i32
  let v106 : BitVec 1 := Scalar.andi v105 v12
  let v121 : BitVec 32 := Scalar.extui v106
  let c0_i32_65 : BitVec 32 := 0#32
  let v122 : BitVec 1 := Scalar.cmpi .ne v121 c0_i32_65
  v122

def k0_off40 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_53 : BitVec 32 := 1#32
  let v101 : BitVec 32 := Scalar.subi v5 c1_i32_53
  let c1_i32_54 : BitVec 32 := 1#32
  let v102 : BitVec 32 := Scalar.subi v101 c1_i32_54
  let v388 : BitVec 32 := Scalar.maxsi c0_i32_217 v102
  let v389 : BitVec 32 := Scalar.minsi c3_i32_218 v388
  let c16384_i32_219 : BitVec 32 := 16384#32
  let v390 : BitVec 32 := Scalar.muli v389 c16384_i32_219
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_220 : BitVec 32 := 8192#32
  let v391 : BitVec 32 := Scalar.muli v2 c8192_i32_220
  let v392 : BitVec 32 := Scalar.addi v390 v391
  let c6144_i32_221 : BitVec 32 := 6144#32
  let v393 : BitVec 32 := Scalar.addi v392 c6144_i32_221
  let c0_i32_230 : BitVec 32 := 0#32
  ![v393.toNat, 0]
def k0_dev34 (d0 : Dev nD) : Nat :=
  let c0_i32_249 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_248 : BitVec 32 := 16#32
  let v416 : BitVec 32 := Scalar.muli v9 c16_i32_248
  let v417 : BitVec 32 := Scalar.addi c0_i32_249 v416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_250 : BitVec 32 := 4#32
  let v418 : BitVec 32 := Scalar.muli v5 c4_i32_250
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v420 : BitVec 32 := Scalar.muli v8 c1_i32_251
  let v421 : BitVec 32 := Scalar.addi v419 v420
  v421.toNat
def k0_cond36 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_55 : BitVec 32 := 1#32
  let v103 : BitVec 32 := Scalar.addi v5 c1_i32_55
  let c1_i32_56 : BitVec 32 := 1#32
  let v104 : BitVec 32 := Scalar.addi v103 c1_i32_56
  let c3_i32_58 : BitVec 32 := 3#32
  let v107 : BitVec 1 := Scalar.cmpi .sle v104 c3_i32_58
  let c3_i32 : BitVec 32 := 3#32
  let v13 : BitVec 1 := Scalar.cmpi .slt v5 c3_i32
  let v108 : BitVec 1 := Scalar.andi v107 v13
  let v123 : BitVec 32 := Scalar.extui v108
  let c0_i32_66 : BitVec 32 := 0#32
  let v124 : BitVec 1 := Scalar.cmpi .ne v123 c0_i32_66
  v124

def k0_off41 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_55 : BitVec 32 := 1#32
  let v103 : BitVec 32 := Scalar.addi v5 c1_i32_55
  let c1_i32_56 : BitVec 32 := 1#32
  let v104 : BitVec 32 := Scalar.addi v103 c1_i32_56
  let v388 : BitVec 32 := Scalar.maxsi c0_i32_217 v104
  let v389 : BitVec 32 := Scalar.minsi c3_i32_218 v388
  let c16384_i32_219 : BitVec 32 := 16384#32
  let v390 : BitVec 32 := Scalar.muli v389 c16384_i32_219
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_220 : BitVec 32 := 8192#32
  let v391 : BitVec 32 := Scalar.muli v2 c8192_i32_220
  let v392 : BitVec 32 := Scalar.addi v390 v391
  let c6144_i32_221 : BitVec 32 := 6144#32
  let v393 : BitVec 32 := Scalar.addi v392 c6144_i32_221
  let c0_i32_230 : BitVec 32 := 0#32
  ![v393.toNat, 0]
def k0_dev35 (d0 : Dev nD) : Nat :=
  let c0_i32_249 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_248 : BitVec 32 := 16#32
  let v416 : BitVec 32 := Scalar.muli v9 c16_i32_248
  let v417 : BitVec 32 := Scalar.addi c0_i32_249 v416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_250 : BitVec 32 := 4#32
  let v418 : BitVec 32 := Scalar.muli v5 c4_i32_250
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v420 : BitVec 32 := Scalar.muli v8 c1_i32_251
  let v421 : BitVec 32 := Scalar.addi v419 v420
  v421.toNat
def k0_cond37 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_67 : BitVec 32 := 2#32
  let v125 : BitVec 32 := Scalar.subi v5 c2_i32_67
  let c0_i32_69 : BitVec 32 := 0#32
  let v127 : BitVec 1 := Scalar.cmpi .sge v125 c0_i32_69
  let c3_i32 : BitVec 32 := 3#32
  let v13 : BitVec 1 := Scalar.cmpi .slt v5 c3_i32
  let v128 : BitVec 1 := Scalar.andi v127 v13
  let v131 : BitVec 32 := Scalar.extui v128
  let c0_i32_71 : BitVec 32 := 0#32
  let v132 : BitVec 1 := Scalar.cmpi .ne v131 c0_i32_71
  v132

def k0_off42 (d0 : Dev nD) : Fin 2 → Nat :=
  let c3_i32_219 : BitVec 32 := 3#32
  let c0_i32_218 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_67 : BitVec 32 := 2#32
  let v125 : BitVec 32 := Scalar.subi v5 c2_i32_67
  let v388 : BitVec 32 := Scalar.maxsi c0_i32_218 v125
  let v389 : BitVec 32 := Scalar.minsi c3_i32_219 v388
  let c16384_i32_220 : BitVec 32 := 16384#32
  let v390 : BitVec 32 := Scalar.muli v389 c16384_i32_220
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_221 : BitVec 32 := 8192#32
  let v391 : BitVec 32 := Scalar.muli v2 c8192_i32_221
  let v392 : BitVec 32 := Scalar.addi v390 v391
  let c0_i32_222 : BitVec 32 := 0#32
  let v393 : BitVec 32 := Scalar.addi v392 c0_i32_222
  let c0_i32_231 : BitVec 32 := 0#32
  ![v393.toNat, 0]
def k0_dev36 (d0 : Dev nD) : Nat :=
  let c0_i32_228 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_227 : BitVec 32 := 16#32
  let v394 : BitVec 32 := Scalar.muli v2 c16_i32_227
  let v395 : BitVec 32 := Scalar.addi c0_i32_228 v394
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c4_i32_229 : BitVec 32 := 4#32
  let v396 : BitVec 32 := Scalar.muli v10 c4_i32_229
  let v397 : BitVec 32 := Scalar.addi v395 v396
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_230 : BitVec 32 := 1#32
  let v398 : BitVec 32 := Scalar.muli v8 c1_i32_230
  let v399 : BitVec 32 := Scalar.addi v397 v398
  v399.toNat
def k0_cond38 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_68 : BitVec 32 := 2#32
  let v126 : BitVec 32 := Scalar.addi v5 c2_i32_68
  let c3_i32_70 : BitVec 32 := 3#32
  let v129 : BitVec 1 := Scalar.cmpi .sle v126 c3_i32_70
  let c0_i32 : BitVec 32 := 0#32
  let v12 : BitVec 1 := Scalar.cmpi .sgt v5 c0_i32
  let v130 : BitVec 1 := Scalar.andi v129 v12
  let v133 : BitVec 32 := Scalar.extui v130
  let c0_i32_72 : BitVec 32 := 0#32
  let v134 : BitVec 1 := Scalar.cmpi .ne v133 c0_i32_72
  v134

def k0_off43 (d0 : Dev nD) : Fin 2 → Nat :=
  let c3_i32_219 : BitVec 32 := 3#32
  let c0_i32_218 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_68 : BitVec 32 := 2#32
  let v126 : BitVec 32 := Scalar.addi v5 c2_i32_68
  let v388 : BitVec 32 := Scalar.maxsi c0_i32_218 v126
  let v389 : BitVec 32 := Scalar.minsi c3_i32_219 v388
  let c16384_i32_220 : BitVec 32 := 16384#32
  let v390 : BitVec 32 := Scalar.muli v389 c16384_i32_220
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_221 : BitVec 32 := 8192#32
  let v391 : BitVec 32 := Scalar.muli v2 c8192_i32_221
  let v392 : BitVec 32 := Scalar.addi v390 v391
  let c0_i32_222 : BitVec 32 := 0#32
  let v393 : BitVec 32 := Scalar.addi v392 c0_i32_222
  let c0_i32_231 : BitVec 32 := 0#32
  ![v393.toNat, 0]
def k0_dev37 (d0 : Dev nD) : Nat :=
  let c0_i32_228 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_227 : BitVec 32 := 16#32
  let v394 : BitVec 32 := Scalar.muli v2 c16_i32_227
  let v395 : BitVec 32 := Scalar.addi c0_i32_228 v394
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.subi v5 c1_i32_4
  let c4_i32_229 : BitVec 32 := 4#32
  let v396 : BitVec 32 := Scalar.muli v11 c4_i32_229
  let v397 : BitVec 32 := Scalar.addi v395 v396
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_230 : BitVec 32 := 1#32
  let v398 : BitVec 32 := Scalar.muli v8 c1_i32_230
  let v399 : BitVec 32 := Scalar.addi v397 v398
  v399.toNat
def k0_cond39 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_67 : BitVec 32 := 2#32
  let v125 : BitVec 32 := Scalar.subi v5 c2_i32_67
  let c0_i32_69 : BitVec 32 := 0#32
  let v127 : BitVec 1 := Scalar.cmpi .sge v125 c0_i32_69
  let c3_i32 : BitVec 32 := 3#32
  let v13 : BitVec 1 := Scalar.cmpi .slt v5 c3_i32
  let v128 : BitVec 1 := Scalar.andi v127 v13
  let v135 : BitVec 32 := Scalar.extui v128
  let c0_i32_73 : BitVec 32 := 0#32
  let v136 : BitVec 1 := Scalar.cmpi .ne v135 c0_i32_73
  v136

def k0_off44 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_67 : BitVec 32 := 2#32
  let v125 : BitVec 32 := Scalar.subi v5 c2_i32_67
  let v388 : BitVec 32 := Scalar.maxsi c0_i32_217 v125
  let v389 : BitVec 32 := Scalar.minsi c3_i32_218 v388
  let c16384_i32_219 : BitVec 32 := 16384#32
  let v390 : BitVec 32 := Scalar.muli v389 c16384_i32_219
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_220 : BitVec 32 := 8192#32
  let v391 : BitVec 32 := Scalar.muli v2 c8192_i32_220
  let v392 : BitVec 32 := Scalar.addi v390 v391
  let c2048_i32_221 : BitVec 32 := 2048#32
  let v393 : BitVec 32 := Scalar.addi v392 c2048_i32_221
  let c0_i32_230 : BitVec 32 := 0#32
  ![v393.toNat, 0]
def k0_dev38 (d0 : Dev nD) : Nat :=
  let c0_i32_227 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_226 : BitVec 32 := 16#32
  let v394 : BitVec 32 := Scalar.muli v2 c16_i32_226
  let v395 : BitVec 32 := Scalar.addi c0_i32_227 v394
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c4_i32_228 : BitVec 32 := 4#32
  let v396 : BitVec 32 := Scalar.muli v10 c4_i32_228
  let v397 : BitVec 32 := Scalar.addi v395 v396
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_229 : BitVec 32 := 1#32
  let v398 : BitVec 32 := Scalar.muli v8 c1_i32_229
  let v399 : BitVec 32 := Scalar.addi v397 v398
  v399.toNat
def k0_cond40 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_68 : BitVec 32 := 2#32
  let v126 : BitVec 32 := Scalar.addi v5 c2_i32_68
  let c3_i32_70 : BitVec 32 := 3#32
  let v129 : BitVec 1 := Scalar.cmpi .sle v126 c3_i32_70
  let c0_i32 : BitVec 32 := 0#32
  let v12 : BitVec 1 := Scalar.cmpi .sgt v5 c0_i32
  let v130 : BitVec 1 := Scalar.andi v129 v12
  let v137 : BitVec 32 := Scalar.extui v130
  let c0_i32_74 : BitVec 32 := 0#32
  let v138 : BitVec 1 := Scalar.cmpi .ne v137 c0_i32_74
  v138

def k0_off45 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_68 : BitVec 32 := 2#32
  let v126 : BitVec 32 := Scalar.addi v5 c2_i32_68
  let v388 : BitVec 32 := Scalar.maxsi c0_i32_217 v126
  let v389 : BitVec 32 := Scalar.minsi c3_i32_218 v388
  let c16384_i32_219 : BitVec 32 := 16384#32
  let v390 : BitVec 32 := Scalar.muli v389 c16384_i32_219
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_220 : BitVec 32 := 8192#32
  let v391 : BitVec 32 := Scalar.muli v2 c8192_i32_220
  let v392 : BitVec 32 := Scalar.addi v390 v391
  let c2048_i32_221 : BitVec 32 := 2048#32
  let v393 : BitVec 32 := Scalar.addi v392 c2048_i32_221
  let c0_i32_230 : BitVec 32 := 0#32
  ![v393.toNat, 0]
def k0_dev39 (d0 : Dev nD) : Nat :=
  let c0_i32_227 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_226 : BitVec 32 := 16#32
  let v394 : BitVec 32 := Scalar.muli v2 c16_i32_226
  let v395 : BitVec 32 := Scalar.addi c0_i32_227 v394
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.subi v5 c1_i32_4
  let c4_i32_228 : BitVec 32 := 4#32
  let v396 : BitVec 32 := Scalar.muli v11 c4_i32_228
  let v397 : BitVec 32 := Scalar.addi v395 v396
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_229 : BitVec 32 := 1#32
  let v398 : BitVec 32 := Scalar.muli v8 c1_i32_229
  let v399 : BitVec 32 := Scalar.addi v397 v398
  v399.toNat
def k0_cond41 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_67 : BitVec 32 := 2#32
  let v125 : BitVec 32 := Scalar.subi v5 c2_i32_67
  let c0_i32_69 : BitVec 32 := 0#32
  let v127 : BitVec 1 := Scalar.cmpi .sge v125 c0_i32_69
  let c3_i32 : BitVec 32 := 3#32
  let v13 : BitVec 1 := Scalar.cmpi .slt v5 c3_i32
  let v128 : BitVec 1 := Scalar.andi v127 v13
  let v139 : BitVec 32 := Scalar.extui v128
  let c0_i32_75 : BitVec 32 := 0#32
  let v140 : BitVec 1 := Scalar.cmpi .ne v139 c0_i32_75
  v140

def k0_off46 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_67 : BitVec 32 := 2#32
  let v125 : BitVec 32 := Scalar.subi v5 c2_i32_67
  let v388 : BitVec 32 := Scalar.maxsi c0_i32_217 v125
  let v389 : BitVec 32 := Scalar.minsi c3_i32_218 v388
  let c16384_i32_219 : BitVec 32 := 16384#32
  let v390 : BitVec 32 := Scalar.muli v389 c16384_i32_219
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_220 : BitVec 32 := 8192#32
  let v391 : BitVec 32 := Scalar.muli v2 c8192_i32_220
  let v392 : BitVec 32 := Scalar.addi v390 v391
  let c4096_i32_221 : BitVec 32 := 4096#32
  let v393 : BitVec 32 := Scalar.addi v392 c4096_i32_221
  let c0_i32_230 : BitVec 32 := 0#32
  ![v393.toNat, 0]
def k0_dev40 (d0 : Dev nD) : Nat :=
  let c0_i32_227 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_226 : BitVec 32 := 16#32
  let v394 : BitVec 32 := Scalar.muli v2 c16_i32_226
  let v395 : BitVec 32 := Scalar.addi c0_i32_227 v394
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c4_i32_228 : BitVec 32 := 4#32
  let v396 : BitVec 32 := Scalar.muli v10 c4_i32_228
  let v397 : BitVec 32 := Scalar.addi v395 v396
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_229 : BitVec 32 := 1#32
  let v398 : BitVec 32 := Scalar.muli v8 c1_i32_229
  let v399 : BitVec 32 := Scalar.addi v397 v398
  v399.toNat
def k0_cond42 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_68 : BitVec 32 := 2#32
  let v126 : BitVec 32 := Scalar.addi v5 c2_i32_68
  let c3_i32_70 : BitVec 32 := 3#32
  let v129 : BitVec 1 := Scalar.cmpi .sle v126 c3_i32_70
  let c0_i32 : BitVec 32 := 0#32
  let v12 : BitVec 1 := Scalar.cmpi .sgt v5 c0_i32
  let v130 : BitVec 1 := Scalar.andi v129 v12
  let v141 : BitVec 32 := Scalar.extui v130
  let c0_i32_76 : BitVec 32 := 0#32
  let v142 : BitVec 1 := Scalar.cmpi .ne v141 c0_i32_76
  v142

def k0_off47 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_68 : BitVec 32 := 2#32
  let v126 : BitVec 32 := Scalar.addi v5 c2_i32_68
  let v388 : BitVec 32 := Scalar.maxsi c0_i32_217 v126
  let v389 : BitVec 32 := Scalar.minsi c3_i32_218 v388
  let c16384_i32_219 : BitVec 32 := 16384#32
  let v390 : BitVec 32 := Scalar.muli v389 c16384_i32_219
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_220 : BitVec 32 := 8192#32
  let v391 : BitVec 32 := Scalar.muli v2 c8192_i32_220
  let v392 : BitVec 32 := Scalar.addi v390 v391
  let c4096_i32_221 : BitVec 32 := 4096#32
  let v393 : BitVec 32 := Scalar.addi v392 c4096_i32_221
  let c0_i32_230 : BitVec 32 := 0#32
  ![v393.toNat, 0]
def k0_dev41 (d0 : Dev nD) : Nat :=
  let c0_i32_227 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_226 : BitVec 32 := 16#32
  let v394 : BitVec 32 := Scalar.muli v2 c16_i32_226
  let v395 : BitVec 32 := Scalar.addi c0_i32_227 v394
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.subi v5 c1_i32_4
  let c4_i32_228 : BitVec 32 := 4#32
  let v396 : BitVec 32 := Scalar.muli v11 c4_i32_228
  let v397 : BitVec 32 := Scalar.addi v395 v396
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_229 : BitVec 32 := 1#32
  let v398 : BitVec 32 := Scalar.muli v8 c1_i32_229
  let v399 : BitVec 32 := Scalar.addi v397 v398
  v399.toNat
def k0_cond43 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_67 : BitVec 32 := 2#32
  let v125 : BitVec 32 := Scalar.subi v5 c2_i32_67
  let c0_i32_69 : BitVec 32 := 0#32
  let v127 : BitVec 1 := Scalar.cmpi .sge v125 c0_i32_69
  let c3_i32 : BitVec 32 := 3#32
  let v13 : BitVec 1 := Scalar.cmpi .slt v5 c3_i32
  let v128 : BitVec 1 := Scalar.andi v127 v13
  let v143 : BitVec 32 := Scalar.extui v128
  let c0_i32_77 : BitVec 32 := 0#32
  let v144 : BitVec 1 := Scalar.cmpi .ne v143 c0_i32_77
  v144

def k0_off48 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_67 : BitVec 32 := 2#32
  let v125 : BitVec 32 := Scalar.subi v5 c2_i32_67
  let v388 : BitVec 32 := Scalar.maxsi c0_i32_217 v125
  let v389 : BitVec 32 := Scalar.minsi c3_i32_218 v388
  let c16384_i32_219 : BitVec 32 := 16384#32
  let v390 : BitVec 32 := Scalar.muli v389 c16384_i32_219
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_220 : BitVec 32 := 8192#32
  let v391 : BitVec 32 := Scalar.muli v2 c8192_i32_220
  let v392 : BitVec 32 := Scalar.addi v390 v391
  let c6144_i32_221 : BitVec 32 := 6144#32
  let v393 : BitVec 32 := Scalar.addi v392 c6144_i32_221
  let c0_i32_230 : BitVec 32 := 0#32
  ![v393.toNat, 0]
def k0_dev42 (d0 : Dev nD) : Nat :=
  let c0_i32_227 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_226 : BitVec 32 := 16#32
  let v394 : BitVec 32 := Scalar.muli v2 c16_i32_226
  let v395 : BitVec 32 := Scalar.addi c0_i32_227 v394
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.addi v5 c1_i32_3
  let c4_i32_228 : BitVec 32 := 4#32
  let v396 : BitVec 32 := Scalar.muli v10 c4_i32_228
  let v397 : BitVec 32 := Scalar.addi v395 v396
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_229 : BitVec 32 := 1#32
  let v398 : BitVec 32 := Scalar.muli v8 c1_i32_229
  let v399 : BitVec 32 := Scalar.addi v397 v398
  v399.toNat
def k0_cond44 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_68 : BitVec 32 := 2#32
  let v126 : BitVec 32 := Scalar.addi v5 c2_i32_68
  let c3_i32_70 : BitVec 32 := 3#32
  let v129 : BitVec 1 := Scalar.cmpi .sle v126 c3_i32_70
  let c0_i32 : BitVec 32 := 0#32
  let v12 : BitVec 1 := Scalar.cmpi .sgt v5 c0_i32
  let v130 : BitVec 1 := Scalar.andi v129 v12
  let v145 : BitVec 32 := Scalar.extui v130
  let c0_i32_78 : BitVec 32 := 0#32
  let v146 : BitVec 1 := Scalar.cmpi .ne v145 c0_i32_78
  v146

def k0_off49 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_68 : BitVec 32 := 2#32
  let v126 : BitVec 32 := Scalar.addi v5 c2_i32_68
  let v388 : BitVec 32 := Scalar.maxsi c0_i32_217 v126
  let v389 : BitVec 32 := Scalar.minsi c3_i32_218 v388
  let c16384_i32_219 : BitVec 32 := 16384#32
  let v390 : BitVec 32 := Scalar.muli v389 c16384_i32_219
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_220 : BitVec 32 := 8192#32
  let v391 : BitVec 32 := Scalar.muli v2 c8192_i32_220
  let v392 : BitVec 32 := Scalar.addi v390 v391
  let c6144_i32_221 : BitVec 32 := 6144#32
  let v393 : BitVec 32 := Scalar.addi v392 c6144_i32_221
  let c0_i32_230 : BitVec 32 := 0#32
  ![v393.toNat, 0]
def k0_dev43 (d0 : Dev nD) : Nat :=
  let c0_i32_227 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_226 : BitVec 32 := 16#32
  let v394 : BitVec 32 := Scalar.muli v2 c16_i32_226
  let v395 : BitVec 32 := Scalar.addi c0_i32_227 v394
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.subi v5 c1_i32_4
  let c4_i32_228 : BitVec 32 := 4#32
  let v396 : BitVec 32 := Scalar.muli v11 c4_i32_228
  let v397 : BitVec 32 := Scalar.addi v395 v396
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_229 : BitVec 32 := 1#32
  let v398 : BitVec 32 := Scalar.muli v8 c1_i32_229
  let v399 : BitVec 32 := Scalar.addi v397 v398
  v399.toNat
def k0_cond45 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_79 : BitVec 32 := 1#32
  let v147 : BitVec 32 := Scalar.subi v5 c1_i32_79
  let c2_i32_80 : BitVec 32 := 2#32
  let v148 : BitVec 32 := Scalar.subi v147 c2_i32_80
  let c0_i32_83 : BitVec 32 := 0#32
  let v151 : BitVec 1 := Scalar.cmpi .sge v148 c0_i32_83
  let c0_i32 : BitVec 32 := 0#32
  let v12 : BitVec 1 := Scalar.cmpi .sgt v5 c0_i32
  let v152 : BitVec 1 := Scalar.andi v151 v12
  let v155 : BitVec 32 := Scalar.extui v152
  let c0_i32_85 : BitVec 32 := 0#32
  let v156 : BitVec 1 := Scalar.cmpi .ne v155 c0_i32_85
  v156

def k0_off50 (d0 : Dev nD) : Fin 2 → Nat :=
  let c3_i32_219 : BitVec 32 := 3#32
  let c0_i32_218 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_79 : BitVec 32 := 1#32
  let v147 : BitVec 32 := Scalar.subi v5 c1_i32_79
  let c2_i32_80 : BitVec 32 := 2#32
  let v148 : BitVec 32 := Scalar.subi v147 c2_i32_80
  let v388 : BitVec 32 := Scalar.maxsi c0_i32_218 v148
  let v389 : BitVec 32 := Scalar.minsi c3_i32_219 v388
  let c16384_i32_220 : BitVec 32 := 16384#32
  let v390 : BitVec 32 := Scalar.muli v389 c16384_i32_220
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_221 : BitVec 32 := 8192#32
  let v391 : BitVec 32 := Scalar.muli v2 c8192_i32_221
  let v392 : BitVec 32 := Scalar.addi v390 v391
  let c0_i32_222 : BitVec 32 := 0#32
  let v393 : BitVec 32 := Scalar.addi v392 c0_i32_222
  let c0_i32_231 : BitVec 32 := 0#32
  ![v393.toNat, 0]
def k0_dev44 (d0 : Dev nD) : Nat :=
  let c0_i32_250 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_249 : BitVec 32 := 16#32
  let v416 : BitVec 32 := Scalar.muli v9 c16_i32_249
  let v417 : BitVec 32 := Scalar.addi c0_i32_250 v416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_251 : BitVec 32 := 4#32
  let v418 : BitVec 32 := Scalar.muli v5 c4_i32_251
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_252 : BitVec 32 := 1#32
  let v420 : BitVec 32 := Scalar.muli v8 c1_i32_252
  let v421 : BitVec 32 := Scalar.addi v419 v420
  v421.toNat
def k0_cond46 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_81 : BitVec 32 := 1#32
  let v149 : BitVec 32 := Scalar.addi v5 c1_i32_81
  let c2_i32_82 : BitVec 32 := 2#32
  let v150 : BitVec 32 := Scalar.addi v149 c2_i32_82
  let c3_i32_84 : BitVec 32 := 3#32
  let v153 : BitVec 1 := Scalar.cmpi .sle v150 c3_i32_84
  let c3_i32 : BitVec 32 := 3#32
  let v13 : BitVec 1 := Scalar.cmpi .slt v5 c3_i32
  let v154 : BitVec 1 := Scalar.andi v153 v13
  let v157 : BitVec 32 := Scalar.extui v154
  let c0_i32_86 : BitVec 32 := 0#32
  let v158 : BitVec 1 := Scalar.cmpi .ne v157 c0_i32_86
  v158

def k0_off51 (d0 : Dev nD) : Fin 2 → Nat :=
  let c3_i32_219 : BitVec 32 := 3#32
  let c0_i32_218 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_81 : BitVec 32 := 1#32
  let v149 : BitVec 32 := Scalar.addi v5 c1_i32_81
  let c2_i32_82 : BitVec 32 := 2#32
  let v150 : BitVec 32 := Scalar.addi v149 c2_i32_82
  let v388 : BitVec 32 := Scalar.maxsi c0_i32_218 v150
  let v389 : BitVec 32 := Scalar.minsi c3_i32_219 v388
  let c16384_i32_220 : BitVec 32 := 16384#32
  let v390 : BitVec 32 := Scalar.muli v389 c16384_i32_220
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_221 : BitVec 32 := 8192#32
  let v391 : BitVec 32 := Scalar.muli v2 c8192_i32_221
  let v392 : BitVec 32 := Scalar.addi v390 v391
  let c0_i32_222 : BitVec 32 := 0#32
  let v393 : BitVec 32 := Scalar.addi v392 c0_i32_222
  let c0_i32_231 : BitVec 32 := 0#32
  ![v393.toNat, 0]
def k0_dev45 (d0 : Dev nD) : Nat :=
  let c0_i32_250 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_249 : BitVec 32 := 16#32
  let v416 : BitVec 32 := Scalar.muli v9 c16_i32_249
  let v417 : BitVec 32 := Scalar.addi c0_i32_250 v416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_251 : BitVec 32 := 4#32
  let v418 : BitVec 32 := Scalar.muli v5 c4_i32_251
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_252 : BitVec 32 := 1#32
  let v420 : BitVec 32 := Scalar.muli v8 c1_i32_252
  let v421 : BitVec 32 := Scalar.addi v419 v420
  v421.toNat
def k0_cond47 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_79 : BitVec 32 := 1#32
  let v147 : BitVec 32 := Scalar.subi v5 c1_i32_79
  let c2_i32_80 : BitVec 32 := 2#32
  let v148 : BitVec 32 := Scalar.subi v147 c2_i32_80
  let c0_i32_83 : BitVec 32 := 0#32
  let v151 : BitVec 1 := Scalar.cmpi .sge v148 c0_i32_83
  let c0_i32 : BitVec 32 := 0#32
  let v12 : BitVec 1 := Scalar.cmpi .sgt v5 c0_i32
  let v152 : BitVec 1 := Scalar.andi v151 v12
  let v159 : BitVec 32 := Scalar.extui v152
  let c0_i32_87 : BitVec 32 := 0#32
  let v160 : BitVec 1 := Scalar.cmpi .ne v159 c0_i32_87
  v160

def k0_off52 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_79 : BitVec 32 := 1#32
  let v147 : BitVec 32 := Scalar.subi v5 c1_i32_79
  let c2_i32_80 : BitVec 32 := 2#32
  let v148 : BitVec 32 := Scalar.subi v147 c2_i32_80
  let v388 : BitVec 32 := Scalar.maxsi c0_i32_217 v148
  let v389 : BitVec 32 := Scalar.minsi c3_i32_218 v388
  let c16384_i32_219 : BitVec 32 := 16384#32
  let v390 : BitVec 32 := Scalar.muli v389 c16384_i32_219
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_220 : BitVec 32 := 8192#32
  let v391 : BitVec 32 := Scalar.muli v2 c8192_i32_220
  let v392 : BitVec 32 := Scalar.addi v390 v391
  let c2048_i32_221 : BitVec 32 := 2048#32
  let v393 : BitVec 32 := Scalar.addi v392 c2048_i32_221
  let c0_i32_230 : BitVec 32 := 0#32
  ![v393.toNat, 0]
def k0_dev46 (d0 : Dev nD) : Nat :=
  let c0_i32_249 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_248 : BitVec 32 := 16#32
  let v416 : BitVec 32 := Scalar.muli v9 c16_i32_248
  let v417 : BitVec 32 := Scalar.addi c0_i32_249 v416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_250 : BitVec 32 := 4#32
  let v418 : BitVec 32 := Scalar.muli v5 c4_i32_250
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v420 : BitVec 32 := Scalar.muli v8 c1_i32_251
  let v421 : BitVec 32 := Scalar.addi v419 v420
  v421.toNat
def k0_cond48 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_81 : BitVec 32 := 1#32
  let v149 : BitVec 32 := Scalar.addi v5 c1_i32_81
  let c2_i32_82 : BitVec 32 := 2#32
  let v150 : BitVec 32 := Scalar.addi v149 c2_i32_82
  let c3_i32_84 : BitVec 32 := 3#32
  let v153 : BitVec 1 := Scalar.cmpi .sle v150 c3_i32_84
  let c3_i32 : BitVec 32 := 3#32
  let v13 : BitVec 1 := Scalar.cmpi .slt v5 c3_i32
  let v154 : BitVec 1 := Scalar.andi v153 v13
  let v161 : BitVec 32 := Scalar.extui v154
  let c0_i32_88 : BitVec 32 := 0#32
  let v162 : BitVec 1 := Scalar.cmpi .ne v161 c0_i32_88
  v162

def k0_off53 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_81 : BitVec 32 := 1#32
  let v149 : BitVec 32 := Scalar.addi v5 c1_i32_81
  let c2_i32_82 : BitVec 32 := 2#32
  let v150 : BitVec 32 := Scalar.addi v149 c2_i32_82
  let v388 : BitVec 32 := Scalar.maxsi c0_i32_217 v150
  let v389 : BitVec 32 := Scalar.minsi c3_i32_218 v388
  let c16384_i32_219 : BitVec 32 := 16384#32
  let v390 : BitVec 32 := Scalar.muli v389 c16384_i32_219
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_220 : BitVec 32 := 8192#32
  let v391 : BitVec 32 := Scalar.muli v2 c8192_i32_220
  let v392 : BitVec 32 := Scalar.addi v390 v391
  let c2048_i32_221 : BitVec 32 := 2048#32
  let v393 : BitVec 32 := Scalar.addi v392 c2048_i32_221
  let c0_i32_230 : BitVec 32 := 0#32
  ![v393.toNat, 0]
def k0_dev47 (d0 : Dev nD) : Nat :=
  let c0_i32_249 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_248 : BitVec 32 := 16#32
  let v416 : BitVec 32 := Scalar.muli v9 c16_i32_248
  let v417 : BitVec 32 := Scalar.addi c0_i32_249 v416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_250 : BitVec 32 := 4#32
  let v418 : BitVec 32 := Scalar.muli v5 c4_i32_250
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v420 : BitVec 32 := Scalar.muli v8 c1_i32_251
  let v421 : BitVec 32 := Scalar.addi v419 v420
  v421.toNat
def k0_cond49 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_79 : BitVec 32 := 1#32
  let v147 : BitVec 32 := Scalar.subi v5 c1_i32_79
  let c2_i32_80 : BitVec 32 := 2#32
  let v148 : BitVec 32 := Scalar.subi v147 c2_i32_80
  let c0_i32_83 : BitVec 32 := 0#32
  let v151 : BitVec 1 := Scalar.cmpi .sge v148 c0_i32_83
  let c0_i32 : BitVec 32 := 0#32
  let v12 : BitVec 1 := Scalar.cmpi .sgt v5 c0_i32
  let v152 : BitVec 1 := Scalar.andi v151 v12
  let v163 : BitVec 32 := Scalar.extui v152
  let c0_i32_89 : BitVec 32 := 0#32
  let v164 : BitVec 1 := Scalar.cmpi .ne v163 c0_i32_89
  v164

def k0_off54 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_79 : BitVec 32 := 1#32
  let v147 : BitVec 32 := Scalar.subi v5 c1_i32_79
  let c2_i32_80 : BitVec 32 := 2#32
  let v148 : BitVec 32 := Scalar.subi v147 c2_i32_80
  let v388 : BitVec 32 := Scalar.maxsi c0_i32_217 v148
  let v389 : BitVec 32 := Scalar.minsi c3_i32_218 v388
  let c16384_i32_219 : BitVec 32 := 16384#32
  let v390 : BitVec 32 := Scalar.muli v389 c16384_i32_219
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_220 : BitVec 32 := 8192#32
  let v391 : BitVec 32 := Scalar.muli v2 c8192_i32_220
  let v392 : BitVec 32 := Scalar.addi v390 v391
  let c4096_i32_221 : BitVec 32 := 4096#32
  let v393 : BitVec 32 := Scalar.addi v392 c4096_i32_221
  let c0_i32_230 : BitVec 32 := 0#32
  ![v393.toNat, 0]
def k0_dev48 (d0 : Dev nD) : Nat :=
  let c0_i32_249 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_248 : BitVec 32 := 16#32
  let v416 : BitVec 32 := Scalar.muli v9 c16_i32_248
  let v417 : BitVec 32 := Scalar.addi c0_i32_249 v416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_250 : BitVec 32 := 4#32
  let v418 : BitVec 32 := Scalar.muli v5 c4_i32_250
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v420 : BitVec 32 := Scalar.muli v8 c1_i32_251
  let v421 : BitVec 32 := Scalar.addi v419 v420
  v421.toNat
def k0_cond50 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_81 : BitVec 32 := 1#32
  let v149 : BitVec 32 := Scalar.addi v5 c1_i32_81
  let c2_i32_82 : BitVec 32 := 2#32
  let v150 : BitVec 32 := Scalar.addi v149 c2_i32_82
  let c3_i32_84 : BitVec 32 := 3#32
  let v153 : BitVec 1 := Scalar.cmpi .sle v150 c3_i32_84
  let c3_i32 : BitVec 32 := 3#32
  let v13 : BitVec 1 := Scalar.cmpi .slt v5 c3_i32
  let v154 : BitVec 1 := Scalar.andi v153 v13
  let v165 : BitVec 32 := Scalar.extui v154
  let c0_i32_90 : BitVec 32 := 0#32
  let v166 : BitVec 1 := Scalar.cmpi .ne v165 c0_i32_90
  v166

def k0_off55 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_81 : BitVec 32 := 1#32
  let v149 : BitVec 32 := Scalar.addi v5 c1_i32_81
  let c2_i32_82 : BitVec 32 := 2#32
  let v150 : BitVec 32 := Scalar.addi v149 c2_i32_82
  let v388 : BitVec 32 := Scalar.maxsi c0_i32_217 v150
  let v389 : BitVec 32 := Scalar.minsi c3_i32_218 v388
  let c16384_i32_219 : BitVec 32 := 16384#32
  let v390 : BitVec 32 := Scalar.muli v389 c16384_i32_219
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_220 : BitVec 32 := 8192#32
  let v391 : BitVec 32 := Scalar.muli v2 c8192_i32_220
  let v392 : BitVec 32 := Scalar.addi v390 v391
  let c4096_i32_221 : BitVec 32 := 4096#32
  let v393 : BitVec 32 := Scalar.addi v392 c4096_i32_221
  let c0_i32_230 : BitVec 32 := 0#32
  ![v393.toNat, 0]
def k0_dev49 (d0 : Dev nD) : Nat :=
  let c0_i32_249 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_248 : BitVec 32 := 16#32
  let v416 : BitVec 32 := Scalar.muli v9 c16_i32_248
  let v417 : BitVec 32 := Scalar.addi c0_i32_249 v416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_250 : BitVec 32 := 4#32
  let v418 : BitVec 32 := Scalar.muli v5 c4_i32_250
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v420 : BitVec 32 := Scalar.muli v8 c1_i32_251
  let v421 : BitVec 32 := Scalar.addi v419 v420
  v421.toNat
def k0_cond51 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_79 : BitVec 32 := 1#32
  let v147 : BitVec 32 := Scalar.subi v5 c1_i32_79
  let c2_i32_80 : BitVec 32 := 2#32
  let v148 : BitVec 32 := Scalar.subi v147 c2_i32_80
  let c0_i32_83 : BitVec 32 := 0#32
  let v151 : BitVec 1 := Scalar.cmpi .sge v148 c0_i32_83
  let c0_i32 : BitVec 32 := 0#32
  let v12 : BitVec 1 := Scalar.cmpi .sgt v5 c0_i32
  let v152 : BitVec 1 := Scalar.andi v151 v12
  let v167 : BitVec 32 := Scalar.extui v152
  let c0_i32_91 : BitVec 32 := 0#32
  let v168 : BitVec 1 := Scalar.cmpi .ne v167 c0_i32_91
  v168

def k0_off56 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_79 : BitVec 32 := 1#32
  let v147 : BitVec 32 := Scalar.subi v5 c1_i32_79
  let c2_i32_80 : BitVec 32 := 2#32
  let v148 : BitVec 32 := Scalar.subi v147 c2_i32_80
  let v388 : BitVec 32 := Scalar.maxsi c0_i32_217 v148
  let v389 : BitVec 32 := Scalar.minsi c3_i32_218 v388
  let c16384_i32_219 : BitVec 32 := 16384#32
  let v390 : BitVec 32 := Scalar.muli v389 c16384_i32_219
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_220 : BitVec 32 := 8192#32
  let v391 : BitVec 32 := Scalar.muli v2 c8192_i32_220
  let v392 : BitVec 32 := Scalar.addi v390 v391
  let c6144_i32_221 : BitVec 32 := 6144#32
  let v393 : BitVec 32 := Scalar.addi v392 c6144_i32_221
  let c0_i32_230 : BitVec 32 := 0#32
  ![v393.toNat, 0]
def k0_dev50 (d0 : Dev nD) : Nat :=
  let c0_i32_249 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_248 : BitVec 32 := 16#32
  let v416 : BitVec 32 := Scalar.muli v9 c16_i32_248
  let v417 : BitVec 32 := Scalar.addi c0_i32_249 v416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_250 : BitVec 32 := 4#32
  let v418 : BitVec 32 := Scalar.muli v5 c4_i32_250
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v420 : BitVec 32 := Scalar.muli v8 c1_i32_251
  let v421 : BitVec 32 := Scalar.addi v419 v420
  v421.toNat
def k0_cond52 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_81 : BitVec 32 := 1#32
  let v149 : BitVec 32 := Scalar.addi v5 c1_i32_81
  let c2_i32_82 : BitVec 32 := 2#32
  let v150 : BitVec 32 := Scalar.addi v149 c2_i32_82
  let c3_i32_84 : BitVec 32 := 3#32
  let v153 : BitVec 1 := Scalar.cmpi .sle v150 c3_i32_84
  let c3_i32 : BitVec 32 := 3#32
  let v13 : BitVec 1 := Scalar.cmpi .slt v5 c3_i32
  let v154 : BitVec 1 := Scalar.andi v153 v13
  let v169 : BitVec 32 := Scalar.extui v154
  let c0_i32_92 : BitVec 32 := 0#32
  let v170 : BitVec 1 := Scalar.cmpi .ne v169 c0_i32_92
  v170

def k0_off57 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_81 : BitVec 32 := 1#32
  let v149 : BitVec 32 := Scalar.addi v5 c1_i32_81
  let c2_i32_82 : BitVec 32 := 2#32
  let v150 : BitVec 32 := Scalar.addi v149 c2_i32_82
  let v388 : BitVec 32 := Scalar.maxsi c0_i32_217 v150
  let v389 : BitVec 32 := Scalar.minsi c3_i32_218 v388
  let c16384_i32_219 : BitVec 32 := 16384#32
  let v390 : BitVec 32 := Scalar.muli v389 c16384_i32_219
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_220 : BitVec 32 := 8192#32
  let v391 : BitVec 32 := Scalar.muli v2 c8192_i32_220
  let v392 : BitVec 32 := Scalar.addi v390 v391
  let c6144_i32_221 : BitVec 32 := 6144#32
  let v393 : BitVec 32 := Scalar.addi v392 c6144_i32_221
  let c0_i32_230 : BitVec 32 := 0#32
  ![v393.toNat, 0]
def k0_dev51 (d0 : Dev nD) : Nat :=
  let c0_i32_249 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_248 : BitVec 32 := 16#32
  let v416 : BitVec 32 := Scalar.muli v9 c16_i32_248
  let v417 : BitVec 32 := Scalar.addi c0_i32_249 v416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_250 : BitVec 32 := 4#32
  let v418 : BitVec 32 := Scalar.muli v5 c4_i32_250
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v420 : BitVec 32 := Scalar.muli v8 c1_i32_251
  let v421 : BitVec 32 := Scalar.addi v419 v420
  v421.toNat
def k0_cond53 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_93 : BitVec 32 := 1#32
  let v171 : BitVec 32 := Scalar.subi v5 c1_i32_93
  let c0_i32_94 : BitVec 32 := 0#32
  let v172 : BitVec 32 := Scalar.subi v171 c0_i32_94
  let c0_i32_97 : BitVec 32 := 0#32
  let v175 : BitVec 1 := Scalar.cmpi .sge v172 c0_i32_97
  let c0_i32 : BitVec 32 := 0#32
  let v12 : BitVec 1 := Scalar.cmpi .sgt v5 c0_i32
  let v176 : BitVec 1 := Scalar.andi v175 v12
  let v179 : BitVec 32 := Scalar.extui v176
  let c0_i32_99 : BitVec 32 := 0#32
  let v180 : BitVec 1 := Scalar.cmpi .ne v179 c0_i32_99
  v180

def k0_off58 (d0 : Dev nD) : Fin 2 → Nat :=
  let c3_i32_219 : BitVec 32 := 3#32
  let c0_i32_218 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_93 : BitVec 32 := 1#32
  let v171 : BitVec 32 := Scalar.subi v5 c1_i32_93
  let c0_i32_94 : BitVec 32 := 0#32
  let v172 : BitVec 32 := Scalar.subi v171 c0_i32_94
  let v388 : BitVec 32 := Scalar.maxsi c0_i32_218 v172
  let v389 : BitVec 32 := Scalar.minsi c3_i32_219 v388
  let c16384_i32_220 : BitVec 32 := 16384#32
  let v390 : BitVec 32 := Scalar.muli v389 c16384_i32_220
  let c1_i32_221 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v391 : BitVec 32 := Scalar.subi c1_i32_221 v2
  let c8192_i32_222 : BitVec 32 := 8192#32
  let v392 : BitVec 32 := Scalar.muli v391 c8192_i32_222
  let v393 : BitVec 32 := Scalar.addi v390 v392
  let c0_i32_223 : BitVec 32 := 0#32
  let v394 : BitVec 32 := Scalar.addi v393 c0_i32_223
  let c0_i32_234 : BitVec 32 := 0#32
  ![v394.toNat, 0]
def k0_off59 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_93 : BitVec 32 := 1#32
  let v171 : BitVec 32 := Scalar.subi v5 c1_i32_93
  let c0_i32_94 : BitVec 32 := 0#32
  let v172 : BitVec 32 := Scalar.subi v171 c0_i32_94
  let v382 : BitVec 32 := Scalar.maxsi c0_i32_214 v172
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c0_i32_217 : BitVec 32 := 0#32
  let v387 : BitVec 32 := Scalar.addi v386 c0_i32_217
  let c0_i32_235 : BitVec 32 := 0#32
  ![v387.toNat, 0]
def k0_cond54 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_95 : BitVec 32 := 1#32
  let v173 : BitVec 32 := Scalar.addi v5 c1_i32_95
  let c0_i32_96 : BitVec 32 := 0#32
  let v174 : BitVec 32 := Scalar.addi v173 c0_i32_96
  let c3_i32_98 : BitVec 32 := 3#32
  let v177 : BitVec 1 := Scalar.cmpi .sle v174 c3_i32_98
  let c3_i32 : BitVec 32 := 3#32
  let v13 : BitVec 1 := Scalar.cmpi .slt v5 c3_i32
  let v178 : BitVec 1 := Scalar.andi v177 v13
  let v181 : BitVec 32 := Scalar.extui v178
  let c0_i32_100 : BitVec 32 := 0#32
  let v182 : BitVec 1 := Scalar.cmpi .ne v181 c0_i32_100
  v182

def k0_off60 (d0 : Dev nD) : Fin 2 → Nat :=
  let c3_i32_219 : BitVec 32 := 3#32
  let c0_i32_218 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_95 : BitVec 32 := 1#32
  let v173 : BitVec 32 := Scalar.addi v5 c1_i32_95
  let c0_i32_96 : BitVec 32 := 0#32
  let v174 : BitVec 32 := Scalar.addi v173 c0_i32_96
  let v388 : BitVec 32 := Scalar.maxsi c0_i32_218 v174
  let v389 : BitVec 32 := Scalar.minsi c3_i32_219 v388
  let c16384_i32_220 : BitVec 32 := 16384#32
  let v390 : BitVec 32 := Scalar.muli v389 c16384_i32_220
  let c1_i32_221 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v391 : BitVec 32 := Scalar.subi c1_i32_221 v2
  let c8192_i32_222 : BitVec 32 := 8192#32
  let v392 : BitVec 32 := Scalar.muli v391 c8192_i32_222
  let v393 : BitVec 32 := Scalar.addi v390 v392
  let c0_i32_223 : BitVec 32 := 0#32
  let v394 : BitVec 32 := Scalar.addi v393 c0_i32_223
  let c0_i32_234 : BitVec 32 := 0#32
  ![v394.toNat, 0]
def k0_off61 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_95 : BitVec 32 := 1#32
  let v173 : BitVec 32 := Scalar.addi v5 c1_i32_95
  let c0_i32_96 : BitVec 32 := 0#32
  let v174 : BitVec 32 := Scalar.addi v173 c0_i32_96
  let v382 : BitVec 32 := Scalar.maxsi c0_i32_214 v174
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c0_i32_217 : BitVec 32 := 0#32
  let v387 : BitVec 32 := Scalar.addi v386 c0_i32_217
  let c0_i32_235 : BitVec 32 := 0#32
  ![v387.toNat, 0]
def k0_cond55 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_93 : BitVec 32 := 1#32
  let v171 : BitVec 32 := Scalar.subi v5 c1_i32_93
  let c0_i32_94 : BitVec 32 := 0#32
  let v172 : BitVec 32 := Scalar.subi v171 c0_i32_94
  let c0_i32_97 : BitVec 32 := 0#32
  let v175 : BitVec 1 := Scalar.cmpi .sge v172 c0_i32_97
  let c0_i32 : BitVec 32 := 0#32
  let v12 : BitVec 1 := Scalar.cmpi .sgt v5 c0_i32
  let v176 : BitVec 1 := Scalar.andi v175 v12
  let v183 : BitVec 32 := Scalar.extui v176
  let c0_i32_101 : BitVec 32 := 0#32
  let v184 : BitVec 1 := Scalar.cmpi .ne v183 c0_i32_101
  v184

def k0_off62 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_93 : BitVec 32 := 1#32
  let v171 : BitVec 32 := Scalar.subi v5 c1_i32_93
  let c0_i32_94 : BitVec 32 := 0#32
  let v172 : BitVec 32 := Scalar.subi v171 c0_i32_94
  let v388 : BitVec 32 := Scalar.maxsi c0_i32_217 v172
  let v389 : BitVec 32 := Scalar.minsi c3_i32_218 v388
  let c16384_i32_219 : BitVec 32 := 16384#32
  let v390 : BitVec 32 := Scalar.muli v389 c16384_i32_219
  let c1_i32_220 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v391 : BitVec 32 := Scalar.subi c1_i32_220 v2
  let c8192_i32_221 : BitVec 32 := 8192#32
  let v392 : BitVec 32 := Scalar.muli v391 c8192_i32_221
  let v393 : BitVec 32 := Scalar.addi v390 v392
  let c2048_i32_222 : BitVec 32 := 2048#32
  let v394 : BitVec 32 := Scalar.addi v393 c2048_i32_222
  let c0_i32_233 : BitVec 32 := 0#32
  ![v394.toNat, 0]
def k0_off63 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_93 : BitVec 32 := 1#32
  let v171 : BitVec 32 := Scalar.subi v5 c1_i32_93
  let c0_i32_94 : BitVec 32 := 0#32
  let v172 : BitVec 32 := Scalar.subi v171 c0_i32_94
  let v382 : BitVec 32 := Scalar.maxsi c0_i32_214 v172
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c2048_i32 : BitVec 32 := 2048#32
  let v387 : BitVec 32 := Scalar.addi v386 c2048_i32
  let c0_i32_234 : BitVec 32 := 0#32
  ![v387.toNat, 0]
def k0_cond56 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_95 : BitVec 32 := 1#32
  let v173 : BitVec 32 := Scalar.addi v5 c1_i32_95
  let c0_i32_96 : BitVec 32 := 0#32
  let v174 : BitVec 32 := Scalar.addi v173 c0_i32_96
  let c3_i32_98 : BitVec 32 := 3#32
  let v177 : BitVec 1 := Scalar.cmpi .sle v174 c3_i32_98
  let c3_i32 : BitVec 32 := 3#32
  let v13 : BitVec 1 := Scalar.cmpi .slt v5 c3_i32
  let v178 : BitVec 1 := Scalar.andi v177 v13
  let v185 : BitVec 32 := Scalar.extui v178
  let c0_i32_102 : BitVec 32 := 0#32
  let v186 : BitVec 1 := Scalar.cmpi .ne v185 c0_i32_102
  v186

def k0_off64 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_95 : BitVec 32 := 1#32
  let v173 : BitVec 32 := Scalar.addi v5 c1_i32_95
  let c0_i32_96 : BitVec 32 := 0#32
  let v174 : BitVec 32 := Scalar.addi v173 c0_i32_96
  let v388 : BitVec 32 := Scalar.maxsi c0_i32_217 v174
  let v389 : BitVec 32 := Scalar.minsi c3_i32_218 v388
  let c16384_i32_219 : BitVec 32 := 16384#32
  let v390 : BitVec 32 := Scalar.muli v389 c16384_i32_219
  let c1_i32_220 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v391 : BitVec 32 := Scalar.subi c1_i32_220 v2
  let c8192_i32_221 : BitVec 32 := 8192#32
  let v392 : BitVec 32 := Scalar.muli v391 c8192_i32_221
  let v393 : BitVec 32 := Scalar.addi v390 v392
  let c2048_i32_222 : BitVec 32 := 2048#32
  let v394 : BitVec 32 := Scalar.addi v393 c2048_i32_222
  let c0_i32_233 : BitVec 32 := 0#32
  ![v394.toNat, 0]
def k0_off65 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_95 : BitVec 32 := 1#32
  let v173 : BitVec 32 := Scalar.addi v5 c1_i32_95
  let c0_i32_96 : BitVec 32 := 0#32
  let v174 : BitVec 32 := Scalar.addi v173 c0_i32_96
  let v382 : BitVec 32 := Scalar.maxsi c0_i32_214 v174
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c2048_i32 : BitVec 32 := 2048#32
  let v387 : BitVec 32 := Scalar.addi v386 c2048_i32
  let c0_i32_234 : BitVec 32 := 0#32
  ![v387.toNat, 0]
def k0_cond57 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_93 : BitVec 32 := 1#32
  let v171 : BitVec 32 := Scalar.subi v5 c1_i32_93
  let c0_i32_94 : BitVec 32 := 0#32
  let v172 : BitVec 32 := Scalar.subi v171 c0_i32_94
  let c0_i32_97 : BitVec 32 := 0#32
  let v175 : BitVec 1 := Scalar.cmpi .sge v172 c0_i32_97
  let c0_i32 : BitVec 32 := 0#32
  let v12 : BitVec 1 := Scalar.cmpi .sgt v5 c0_i32
  let v176 : BitVec 1 := Scalar.andi v175 v12
  let v187 : BitVec 32 := Scalar.extui v176
  let c0_i32_103 : BitVec 32 := 0#32
  let v188 : BitVec 1 := Scalar.cmpi .ne v187 c0_i32_103
  v188

def k0_off66 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_93 : BitVec 32 := 1#32
  let v171 : BitVec 32 := Scalar.subi v5 c1_i32_93
  let c0_i32_94 : BitVec 32 := 0#32
  let v172 : BitVec 32 := Scalar.subi v171 c0_i32_94
  let v388 : BitVec 32 := Scalar.maxsi c0_i32_217 v172
  let v389 : BitVec 32 := Scalar.minsi c3_i32_218 v388
  let c16384_i32_219 : BitVec 32 := 16384#32
  let v390 : BitVec 32 := Scalar.muli v389 c16384_i32_219
  let c1_i32_220 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v391 : BitVec 32 := Scalar.subi c1_i32_220 v2
  let c8192_i32_221 : BitVec 32 := 8192#32
  let v392 : BitVec 32 := Scalar.muli v391 c8192_i32_221
  let v393 : BitVec 32 := Scalar.addi v390 v392
  let c4096_i32_222 : BitVec 32 := 4096#32
  let v394 : BitVec 32 := Scalar.addi v393 c4096_i32_222
  let c0_i32_233 : BitVec 32 := 0#32
  ![v394.toNat, 0]
def k0_off67 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_93 : BitVec 32 := 1#32
  let v171 : BitVec 32 := Scalar.subi v5 c1_i32_93
  let c0_i32_94 : BitVec 32 := 0#32
  let v172 : BitVec 32 := Scalar.subi v171 c0_i32_94
  let v382 : BitVec 32 := Scalar.maxsi c0_i32_214 v172
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c4096_i32 : BitVec 32 := 4096#32
  let v387 : BitVec 32 := Scalar.addi v386 c4096_i32
  let c0_i32_234 : BitVec 32 := 0#32
  ![v387.toNat, 0]
def k0_cond58 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_95 : BitVec 32 := 1#32
  let v173 : BitVec 32 := Scalar.addi v5 c1_i32_95
  let c0_i32_96 : BitVec 32 := 0#32
  let v174 : BitVec 32 := Scalar.addi v173 c0_i32_96
  let c3_i32_98 : BitVec 32 := 3#32
  let v177 : BitVec 1 := Scalar.cmpi .sle v174 c3_i32_98
  let c3_i32 : BitVec 32 := 3#32
  let v13 : BitVec 1 := Scalar.cmpi .slt v5 c3_i32
  let v178 : BitVec 1 := Scalar.andi v177 v13
  let v189 : BitVec 32 := Scalar.extui v178
  let c0_i32_104 : BitVec 32 := 0#32
  let v190 : BitVec 1 := Scalar.cmpi .ne v189 c0_i32_104
  v190

def k0_off68 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_95 : BitVec 32 := 1#32
  let v173 : BitVec 32 := Scalar.addi v5 c1_i32_95
  let c0_i32_96 : BitVec 32 := 0#32
  let v174 : BitVec 32 := Scalar.addi v173 c0_i32_96
  let v388 : BitVec 32 := Scalar.maxsi c0_i32_217 v174
  let v389 : BitVec 32 := Scalar.minsi c3_i32_218 v388
  let c16384_i32_219 : BitVec 32 := 16384#32
  let v390 : BitVec 32 := Scalar.muli v389 c16384_i32_219
  let c1_i32_220 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v391 : BitVec 32 := Scalar.subi c1_i32_220 v2
  let c8192_i32_221 : BitVec 32 := 8192#32
  let v392 : BitVec 32 := Scalar.muli v391 c8192_i32_221
  let v393 : BitVec 32 := Scalar.addi v390 v392
  let c4096_i32_222 : BitVec 32 := 4096#32
  let v394 : BitVec 32 := Scalar.addi v393 c4096_i32_222
  let c0_i32_233 : BitVec 32 := 0#32
  ![v394.toNat, 0]
def k0_off69 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_95 : BitVec 32 := 1#32
  let v173 : BitVec 32 := Scalar.addi v5 c1_i32_95
  let c0_i32_96 : BitVec 32 := 0#32
  let v174 : BitVec 32 := Scalar.addi v173 c0_i32_96
  let v382 : BitVec 32 := Scalar.maxsi c0_i32_214 v174
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c4096_i32 : BitVec 32 := 4096#32
  let v387 : BitVec 32 := Scalar.addi v386 c4096_i32
  let c0_i32_234 : BitVec 32 := 0#32
  ![v387.toNat, 0]
def k0_cond59 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_93 : BitVec 32 := 1#32
  let v171 : BitVec 32 := Scalar.subi v5 c1_i32_93
  let c0_i32_94 : BitVec 32 := 0#32
  let v172 : BitVec 32 := Scalar.subi v171 c0_i32_94
  let c0_i32_97 : BitVec 32 := 0#32
  let v175 : BitVec 1 := Scalar.cmpi .sge v172 c0_i32_97
  let c0_i32 : BitVec 32 := 0#32
  let v12 : BitVec 1 := Scalar.cmpi .sgt v5 c0_i32
  let v176 : BitVec 1 := Scalar.andi v175 v12
  let v191 : BitVec 32 := Scalar.extui v176
  let c0_i32_105 : BitVec 32 := 0#32
  let v192 : BitVec 1 := Scalar.cmpi .ne v191 c0_i32_105
  v192

def k0_off70 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_93 : BitVec 32 := 1#32
  let v171 : BitVec 32 := Scalar.subi v5 c1_i32_93
  let c0_i32_94 : BitVec 32 := 0#32
  let v172 : BitVec 32 := Scalar.subi v171 c0_i32_94
  let v388 : BitVec 32 := Scalar.maxsi c0_i32_217 v172
  let v389 : BitVec 32 := Scalar.minsi c3_i32_218 v388
  let c16384_i32_219 : BitVec 32 := 16384#32
  let v390 : BitVec 32 := Scalar.muli v389 c16384_i32_219
  let c1_i32_220 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v391 : BitVec 32 := Scalar.subi c1_i32_220 v2
  let c8192_i32_221 : BitVec 32 := 8192#32
  let v392 : BitVec 32 := Scalar.muli v391 c8192_i32_221
  let v393 : BitVec 32 := Scalar.addi v390 v392
  let c6144_i32_222 : BitVec 32 := 6144#32
  let v394 : BitVec 32 := Scalar.addi v393 c6144_i32_222
  let c0_i32_233 : BitVec 32 := 0#32
  ![v394.toNat, 0]
def k0_off71 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_93 : BitVec 32 := 1#32
  let v171 : BitVec 32 := Scalar.subi v5 c1_i32_93
  let c0_i32_94 : BitVec 32 := 0#32
  let v172 : BitVec 32 := Scalar.subi v171 c0_i32_94
  let v382 : BitVec 32 := Scalar.maxsi c0_i32_214 v172
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c6144_i32 : BitVec 32 := 6144#32
  let v387 : BitVec 32 := Scalar.addi v386 c6144_i32
  let c0_i32_234 : BitVec 32 := 0#32
  ![v387.toNat, 0]
def k0_cond60 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_95 : BitVec 32 := 1#32
  let v173 : BitVec 32 := Scalar.addi v5 c1_i32_95
  let c0_i32_96 : BitVec 32 := 0#32
  let v174 : BitVec 32 := Scalar.addi v173 c0_i32_96
  let c3_i32_98 : BitVec 32 := 3#32
  let v177 : BitVec 1 := Scalar.cmpi .sle v174 c3_i32_98
  let c3_i32 : BitVec 32 := 3#32
  let v13 : BitVec 1 := Scalar.cmpi .slt v5 c3_i32
  let v178 : BitVec 1 := Scalar.andi v177 v13
  let v193 : BitVec 32 := Scalar.extui v178
  let c0_i32_106 : BitVec 32 := 0#32
  let v194 : BitVec 1 := Scalar.cmpi .ne v193 c0_i32_106
  v194

def k0_off72 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_95 : BitVec 32 := 1#32
  let v173 : BitVec 32 := Scalar.addi v5 c1_i32_95
  let c0_i32_96 : BitVec 32 := 0#32
  let v174 : BitVec 32 := Scalar.addi v173 c0_i32_96
  let v388 : BitVec 32 := Scalar.maxsi c0_i32_217 v174
  let v389 : BitVec 32 := Scalar.minsi c3_i32_218 v388
  let c16384_i32_219 : BitVec 32 := 16384#32
  let v390 : BitVec 32 := Scalar.muli v389 c16384_i32_219
  let c1_i32_220 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v391 : BitVec 32 := Scalar.subi c1_i32_220 v2
  let c8192_i32_221 : BitVec 32 := 8192#32
  let v392 : BitVec 32 := Scalar.muli v391 c8192_i32_221
  let v393 : BitVec 32 := Scalar.addi v390 v392
  let c6144_i32_222 : BitVec 32 := 6144#32
  let v394 : BitVec 32 := Scalar.addi v393 c6144_i32_222
  let c0_i32_233 : BitVec 32 := 0#32
  ![v394.toNat, 0]
def k0_off73 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_95 : BitVec 32 := 1#32
  let v173 : BitVec 32 := Scalar.addi v5 c1_i32_95
  let c0_i32_96 : BitVec 32 := 0#32
  let v174 : BitVec 32 := Scalar.addi v173 c0_i32_96
  let v382 : BitVec 32 := Scalar.maxsi c0_i32_214 v174
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c6144_i32 : BitVec 32 := 6144#32
  let v387 : BitVec 32 := Scalar.addi v386 c6144_i32
  let c0_i32_234 : BitVec 32 := 0#32
  ![v387.toNat, 0]
def k0_cond61 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_107 : BitVec 32 := 1#32
  let v195 : BitVec 32 := Scalar.subi v5 c1_i32_107
  let c1_i32_108 : BitVec 32 := 1#32
  let v196 : BitVec 32 := Scalar.subi v195 c1_i32_108
  let c0_i32_111 : BitVec 32 := 0#32
  let v199 : BitVec 1 := Scalar.cmpi .sge v196 c0_i32_111
  let c0_i32 : BitVec 32 := 0#32
  let v12 : BitVec 1 := Scalar.cmpi .sgt v5 c0_i32
  let v200 : BitVec 1 := Scalar.andi v199 v12
  let v203 : BitVec 32 := Scalar.extui v200
  let c0_i32_113 : BitVec 32 := 0#32
  let v204 : BitVec 1 := Scalar.cmpi .ne v203 c0_i32_113
  v204

def k0_off74 (d0 : Dev nD) : Fin 2 → Nat :=
  let c3_i32_219 : BitVec 32 := 3#32
  let c0_i32_218 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_107 : BitVec 32 := 1#32
  let v195 : BitVec 32 := Scalar.subi v5 c1_i32_107
  let c1_i32_108 : BitVec 32 := 1#32
  let v196 : BitVec 32 := Scalar.subi v195 c1_i32_108
  let v388 : BitVec 32 := Scalar.maxsi c0_i32_218 v196
  let v389 : BitVec 32 := Scalar.minsi c3_i32_219 v388
  let c16384_i32_220 : BitVec 32 := 16384#32
  let v390 : BitVec 32 := Scalar.muli v389 c16384_i32_220
  let c1_i32_221 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v391 : BitVec 32 := Scalar.subi c1_i32_221 v2
  let c8192_i32_222 : BitVec 32 := 8192#32
  let v392 : BitVec 32 := Scalar.muli v391 c8192_i32_222
  let v393 : BitVec 32 := Scalar.addi v390 v392
  let c0_i32_223 : BitVec 32 := 0#32
  let v394 : BitVec 32 := Scalar.addi v393 c0_i32_223
  let c0_i32_234 : BitVec 32 := 0#32
  ![v394.toNat, 0]
def k0_off75 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_107 : BitVec 32 := 1#32
  let v195 : BitVec 32 := Scalar.subi v5 c1_i32_107
  let c1_i32_108 : BitVec 32 := 1#32
  let v196 : BitVec 32 := Scalar.subi v195 c1_i32_108
  let v382 : BitVec 32 := Scalar.maxsi c0_i32_214 v196
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c0_i32_217 : BitVec 32 := 0#32
  let v387 : BitVec 32 := Scalar.addi v386 c0_i32_217
  let c0_i32_235 : BitVec 32 := 0#32
  ![v387.toNat, 0]
def k0_cond62 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_109 : BitVec 32 := 1#32
  let v197 : BitVec 32 := Scalar.addi v5 c1_i32_109
  let c1_i32_110 : BitVec 32 := 1#32
  let v198 : BitVec 32 := Scalar.addi v197 c1_i32_110
  let c3_i32_112 : BitVec 32 := 3#32
  let v201 : BitVec 1 := Scalar.cmpi .sle v198 c3_i32_112
  let c3_i32 : BitVec 32 := 3#32
  let v13 : BitVec 1 := Scalar.cmpi .slt v5 c3_i32
  let v202 : BitVec 1 := Scalar.andi v201 v13
  let v205 : BitVec 32 := Scalar.extui v202
  let c0_i32_114 : BitVec 32 := 0#32
  let v206 : BitVec 1 := Scalar.cmpi .ne v205 c0_i32_114
  v206

def k0_off76 (d0 : Dev nD) : Fin 2 → Nat :=
  let c3_i32_219 : BitVec 32 := 3#32
  let c0_i32_218 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_109 : BitVec 32 := 1#32
  let v197 : BitVec 32 := Scalar.addi v5 c1_i32_109
  let c1_i32_110 : BitVec 32 := 1#32
  let v198 : BitVec 32 := Scalar.addi v197 c1_i32_110
  let v388 : BitVec 32 := Scalar.maxsi c0_i32_218 v198
  let v389 : BitVec 32 := Scalar.minsi c3_i32_219 v388
  let c16384_i32_220 : BitVec 32 := 16384#32
  let v390 : BitVec 32 := Scalar.muli v389 c16384_i32_220
  let c1_i32_221 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v391 : BitVec 32 := Scalar.subi c1_i32_221 v2
  let c8192_i32_222 : BitVec 32 := 8192#32
  let v392 : BitVec 32 := Scalar.muli v391 c8192_i32_222
  let v393 : BitVec 32 := Scalar.addi v390 v392
  let c0_i32_223 : BitVec 32 := 0#32
  let v394 : BitVec 32 := Scalar.addi v393 c0_i32_223
  let c0_i32_234 : BitVec 32 := 0#32
  ![v394.toNat, 0]
def k0_off77 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_109 : BitVec 32 := 1#32
  let v197 : BitVec 32 := Scalar.addi v5 c1_i32_109
  let c1_i32_110 : BitVec 32 := 1#32
  let v198 : BitVec 32 := Scalar.addi v197 c1_i32_110
  let v382 : BitVec 32 := Scalar.maxsi c0_i32_214 v198
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c0_i32_217 : BitVec 32 := 0#32
  let v387 : BitVec 32 := Scalar.addi v386 c0_i32_217
  let c0_i32_235 : BitVec 32 := 0#32
  ![v387.toNat, 0]
def k0_cond63 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_107 : BitVec 32 := 1#32
  let v195 : BitVec 32 := Scalar.subi v5 c1_i32_107
  let c1_i32_108 : BitVec 32 := 1#32
  let v196 : BitVec 32 := Scalar.subi v195 c1_i32_108
  let c0_i32_111 : BitVec 32 := 0#32
  let v199 : BitVec 1 := Scalar.cmpi .sge v196 c0_i32_111
  let c0_i32 : BitVec 32 := 0#32
  let v12 : BitVec 1 := Scalar.cmpi .sgt v5 c0_i32
  let v200 : BitVec 1 := Scalar.andi v199 v12
  let v207 : BitVec 32 := Scalar.extui v200
  let c0_i32_115 : BitVec 32 := 0#32
  let v208 : BitVec 1 := Scalar.cmpi .ne v207 c0_i32_115
  v208

def k0_off78 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_107 : BitVec 32 := 1#32
  let v195 : BitVec 32 := Scalar.subi v5 c1_i32_107
  let c1_i32_108 : BitVec 32 := 1#32
  let v196 : BitVec 32 := Scalar.subi v195 c1_i32_108
  let v388 : BitVec 32 := Scalar.maxsi c0_i32_217 v196
  let v389 : BitVec 32 := Scalar.minsi c3_i32_218 v388
  let c16384_i32_219 : BitVec 32 := 16384#32
  let v390 : BitVec 32 := Scalar.muli v389 c16384_i32_219
  let c1_i32_220 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v391 : BitVec 32 := Scalar.subi c1_i32_220 v2
  let c8192_i32_221 : BitVec 32 := 8192#32
  let v392 : BitVec 32 := Scalar.muli v391 c8192_i32_221
  let v393 : BitVec 32 := Scalar.addi v390 v392
  let c2048_i32_222 : BitVec 32 := 2048#32
  let v394 : BitVec 32 := Scalar.addi v393 c2048_i32_222
  let c0_i32_233 : BitVec 32 := 0#32
  ![v394.toNat, 0]
def k0_off79 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_107 : BitVec 32 := 1#32
  let v195 : BitVec 32 := Scalar.subi v5 c1_i32_107
  let c1_i32_108 : BitVec 32 := 1#32
  let v196 : BitVec 32 := Scalar.subi v195 c1_i32_108
  let v382 : BitVec 32 := Scalar.maxsi c0_i32_214 v196
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c2048_i32 : BitVec 32 := 2048#32
  let v387 : BitVec 32 := Scalar.addi v386 c2048_i32
  let c0_i32_234 : BitVec 32 := 0#32
  ![v387.toNat, 0]
def k0_cond64 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_109 : BitVec 32 := 1#32
  let v197 : BitVec 32 := Scalar.addi v5 c1_i32_109
  let c1_i32_110 : BitVec 32 := 1#32
  let v198 : BitVec 32 := Scalar.addi v197 c1_i32_110
  let c3_i32_112 : BitVec 32 := 3#32
  let v201 : BitVec 1 := Scalar.cmpi .sle v198 c3_i32_112
  let c3_i32 : BitVec 32 := 3#32
  let v13 : BitVec 1 := Scalar.cmpi .slt v5 c3_i32
  let v202 : BitVec 1 := Scalar.andi v201 v13
  let v209 : BitVec 32 := Scalar.extui v202
  let c0_i32_116 : BitVec 32 := 0#32
  let v210 : BitVec 1 := Scalar.cmpi .ne v209 c0_i32_116
  v210

def k0_off80 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_109 : BitVec 32 := 1#32
  let v197 : BitVec 32 := Scalar.addi v5 c1_i32_109
  let c1_i32_110 : BitVec 32 := 1#32
  let v198 : BitVec 32 := Scalar.addi v197 c1_i32_110
  let v388 : BitVec 32 := Scalar.maxsi c0_i32_217 v198
  let v389 : BitVec 32 := Scalar.minsi c3_i32_218 v388
  let c16384_i32_219 : BitVec 32 := 16384#32
  let v390 : BitVec 32 := Scalar.muli v389 c16384_i32_219
  let c1_i32_220 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v391 : BitVec 32 := Scalar.subi c1_i32_220 v2
  let c8192_i32_221 : BitVec 32 := 8192#32
  let v392 : BitVec 32 := Scalar.muli v391 c8192_i32_221
  let v393 : BitVec 32 := Scalar.addi v390 v392
  let c2048_i32_222 : BitVec 32 := 2048#32
  let v394 : BitVec 32 := Scalar.addi v393 c2048_i32_222
  let c0_i32_233 : BitVec 32 := 0#32
  ![v394.toNat, 0]
def k0_off81 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_109 : BitVec 32 := 1#32
  let v197 : BitVec 32 := Scalar.addi v5 c1_i32_109
  let c1_i32_110 : BitVec 32 := 1#32
  let v198 : BitVec 32 := Scalar.addi v197 c1_i32_110
  let v382 : BitVec 32 := Scalar.maxsi c0_i32_214 v198
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c2048_i32 : BitVec 32 := 2048#32
  let v387 : BitVec 32 := Scalar.addi v386 c2048_i32
  let c0_i32_234 : BitVec 32 := 0#32
  ![v387.toNat, 0]
def k0_cond65 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_107 : BitVec 32 := 1#32
  let v195 : BitVec 32 := Scalar.subi v5 c1_i32_107
  let c1_i32_108 : BitVec 32 := 1#32
  let v196 : BitVec 32 := Scalar.subi v195 c1_i32_108
  let c0_i32_111 : BitVec 32 := 0#32
  let v199 : BitVec 1 := Scalar.cmpi .sge v196 c0_i32_111
  let c0_i32 : BitVec 32 := 0#32
  let v12 : BitVec 1 := Scalar.cmpi .sgt v5 c0_i32
  let v200 : BitVec 1 := Scalar.andi v199 v12
  let v211 : BitVec 32 := Scalar.extui v200
  let c0_i32_117 : BitVec 32 := 0#32
  let v212 : BitVec 1 := Scalar.cmpi .ne v211 c0_i32_117
  v212

def k0_off82 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_107 : BitVec 32 := 1#32
  let v195 : BitVec 32 := Scalar.subi v5 c1_i32_107
  let c1_i32_108 : BitVec 32 := 1#32
  let v196 : BitVec 32 := Scalar.subi v195 c1_i32_108
  let v388 : BitVec 32 := Scalar.maxsi c0_i32_217 v196
  let v389 : BitVec 32 := Scalar.minsi c3_i32_218 v388
  let c16384_i32_219 : BitVec 32 := 16384#32
  let v390 : BitVec 32 := Scalar.muli v389 c16384_i32_219
  let c1_i32_220 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v391 : BitVec 32 := Scalar.subi c1_i32_220 v2
  let c8192_i32_221 : BitVec 32 := 8192#32
  let v392 : BitVec 32 := Scalar.muli v391 c8192_i32_221
  let v393 : BitVec 32 := Scalar.addi v390 v392
  let c4096_i32_222 : BitVec 32 := 4096#32
  let v394 : BitVec 32 := Scalar.addi v393 c4096_i32_222
  let c0_i32_233 : BitVec 32 := 0#32
  ![v394.toNat, 0]
def k0_off83 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_107 : BitVec 32 := 1#32
  let v195 : BitVec 32 := Scalar.subi v5 c1_i32_107
  let c1_i32_108 : BitVec 32 := 1#32
  let v196 : BitVec 32 := Scalar.subi v195 c1_i32_108
  let v382 : BitVec 32 := Scalar.maxsi c0_i32_214 v196
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c4096_i32 : BitVec 32 := 4096#32
  let v387 : BitVec 32 := Scalar.addi v386 c4096_i32
  let c0_i32_234 : BitVec 32 := 0#32
  ![v387.toNat, 0]
def k0_cond66 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_109 : BitVec 32 := 1#32
  let v197 : BitVec 32 := Scalar.addi v5 c1_i32_109
  let c1_i32_110 : BitVec 32 := 1#32
  let v198 : BitVec 32 := Scalar.addi v197 c1_i32_110
  let c3_i32_112 : BitVec 32 := 3#32
  let v201 : BitVec 1 := Scalar.cmpi .sle v198 c3_i32_112
  let c3_i32 : BitVec 32 := 3#32
  let v13 : BitVec 1 := Scalar.cmpi .slt v5 c3_i32
  let v202 : BitVec 1 := Scalar.andi v201 v13
  let v213 : BitVec 32 := Scalar.extui v202
  let c0_i32_118 : BitVec 32 := 0#32
  let v214 : BitVec 1 := Scalar.cmpi .ne v213 c0_i32_118
  v214

def k0_off84 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_109 : BitVec 32 := 1#32
  let v197 : BitVec 32 := Scalar.addi v5 c1_i32_109
  let c1_i32_110 : BitVec 32 := 1#32
  let v198 : BitVec 32 := Scalar.addi v197 c1_i32_110
  let v388 : BitVec 32 := Scalar.maxsi c0_i32_217 v198
  let v389 : BitVec 32 := Scalar.minsi c3_i32_218 v388
  let c16384_i32_219 : BitVec 32 := 16384#32
  let v390 : BitVec 32 := Scalar.muli v389 c16384_i32_219
  let c1_i32_220 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v391 : BitVec 32 := Scalar.subi c1_i32_220 v2
  let c8192_i32_221 : BitVec 32 := 8192#32
  let v392 : BitVec 32 := Scalar.muli v391 c8192_i32_221
  let v393 : BitVec 32 := Scalar.addi v390 v392
  let c4096_i32_222 : BitVec 32 := 4096#32
  let v394 : BitVec 32 := Scalar.addi v393 c4096_i32_222
  let c0_i32_233 : BitVec 32 := 0#32
  ![v394.toNat, 0]
def k0_off85 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_109 : BitVec 32 := 1#32
  let v197 : BitVec 32 := Scalar.addi v5 c1_i32_109
  let c1_i32_110 : BitVec 32 := 1#32
  let v198 : BitVec 32 := Scalar.addi v197 c1_i32_110
  let v382 : BitVec 32 := Scalar.maxsi c0_i32_214 v198
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c4096_i32 : BitVec 32 := 4096#32
  let v387 : BitVec 32 := Scalar.addi v386 c4096_i32
  let c0_i32_234 : BitVec 32 := 0#32
  ![v387.toNat, 0]
def k0_cond67 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_107 : BitVec 32 := 1#32
  let v195 : BitVec 32 := Scalar.subi v5 c1_i32_107
  let c1_i32_108 : BitVec 32 := 1#32
  let v196 : BitVec 32 := Scalar.subi v195 c1_i32_108
  let c0_i32_111 : BitVec 32 := 0#32
  let v199 : BitVec 1 := Scalar.cmpi .sge v196 c0_i32_111
  let c0_i32 : BitVec 32 := 0#32
  let v12 : BitVec 1 := Scalar.cmpi .sgt v5 c0_i32
  let v200 : BitVec 1 := Scalar.andi v199 v12
  let v215 : BitVec 32 := Scalar.extui v200
  let c0_i32_119 : BitVec 32 := 0#32
  let v216 : BitVec 1 := Scalar.cmpi .ne v215 c0_i32_119
  v216

def k0_off86 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_107 : BitVec 32 := 1#32
  let v195 : BitVec 32 := Scalar.subi v5 c1_i32_107
  let c1_i32_108 : BitVec 32 := 1#32
  let v196 : BitVec 32 := Scalar.subi v195 c1_i32_108
  let v388 : BitVec 32 := Scalar.maxsi c0_i32_217 v196
  let v389 : BitVec 32 := Scalar.minsi c3_i32_218 v388
  let c16384_i32_219 : BitVec 32 := 16384#32
  let v390 : BitVec 32 := Scalar.muli v389 c16384_i32_219
  let c1_i32_220 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v391 : BitVec 32 := Scalar.subi c1_i32_220 v2
  let c8192_i32_221 : BitVec 32 := 8192#32
  let v392 : BitVec 32 := Scalar.muli v391 c8192_i32_221
  let v393 : BitVec 32 := Scalar.addi v390 v392
  let c6144_i32_222 : BitVec 32 := 6144#32
  let v394 : BitVec 32 := Scalar.addi v393 c6144_i32_222
  let c0_i32_233 : BitVec 32 := 0#32
  ![v394.toNat, 0]
def k0_off87 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_107 : BitVec 32 := 1#32
  let v195 : BitVec 32 := Scalar.subi v5 c1_i32_107
  let c1_i32_108 : BitVec 32 := 1#32
  let v196 : BitVec 32 := Scalar.subi v195 c1_i32_108
  let v382 : BitVec 32 := Scalar.maxsi c0_i32_214 v196
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c6144_i32 : BitVec 32 := 6144#32
  let v387 : BitVec 32 := Scalar.addi v386 c6144_i32
  let c0_i32_234 : BitVec 32 := 0#32
  ![v387.toNat, 0]
def k0_cond68 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_109 : BitVec 32 := 1#32
  let v197 : BitVec 32 := Scalar.addi v5 c1_i32_109
  let c1_i32_110 : BitVec 32 := 1#32
  let v198 : BitVec 32 := Scalar.addi v197 c1_i32_110
  let c3_i32_112 : BitVec 32 := 3#32
  let v201 : BitVec 1 := Scalar.cmpi .sle v198 c3_i32_112
  let c3_i32 : BitVec 32 := 3#32
  let v13 : BitVec 1 := Scalar.cmpi .slt v5 c3_i32
  let v202 : BitVec 1 := Scalar.andi v201 v13
  let v217 : BitVec 32 := Scalar.extui v202
  let c0_i32_120 : BitVec 32 := 0#32
  let v218 : BitVec 1 := Scalar.cmpi .ne v217 c0_i32_120
  v218

def k0_off88 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_109 : BitVec 32 := 1#32
  let v197 : BitVec 32 := Scalar.addi v5 c1_i32_109
  let c1_i32_110 : BitVec 32 := 1#32
  let v198 : BitVec 32 := Scalar.addi v197 c1_i32_110
  let v388 : BitVec 32 := Scalar.maxsi c0_i32_217 v198
  let v389 : BitVec 32 := Scalar.minsi c3_i32_218 v388
  let c16384_i32_219 : BitVec 32 := 16384#32
  let v390 : BitVec 32 := Scalar.muli v389 c16384_i32_219
  let c1_i32_220 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v391 : BitVec 32 := Scalar.subi c1_i32_220 v2
  let c8192_i32_221 : BitVec 32 := 8192#32
  let v392 : BitVec 32 := Scalar.muli v391 c8192_i32_221
  let v393 : BitVec 32 := Scalar.addi v390 v392
  let c6144_i32_222 : BitVec 32 := 6144#32
  let v394 : BitVec 32 := Scalar.addi v393 c6144_i32_222
  let c0_i32_233 : BitVec 32 := 0#32
  ![v394.toNat, 0]
def k0_off89 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_109 : BitVec 32 := 1#32
  let v197 : BitVec 32 := Scalar.addi v5 c1_i32_109
  let c1_i32_110 : BitVec 32 := 1#32
  let v198 : BitVec 32 := Scalar.addi v197 c1_i32_110
  let v382 : BitVec 32 := Scalar.maxsi c0_i32_214 v198
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c6144_i32 : BitVec 32 := 6144#32
  let v387 : BitVec 32 := Scalar.addi v386 c6144_i32
  let c0_i32_234 : BitVec 32 := 0#32
  ![v387.toNat, 0]
def k0_cond69 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_121 : BitVec 32 := 1#32
  let v219 : BitVec 32 := Scalar.subi v5 c1_i32_121
  let c2_i32_122 : BitVec 32 := 2#32
  let v220 : BitVec 32 := Scalar.subi v219 c2_i32_122
  let c0_i32_125 : BitVec 32 := 0#32
  let v223 : BitVec 1 := Scalar.cmpi .sge v220 c0_i32_125
  let c0_i32 : BitVec 32 := 0#32
  let v12 : BitVec 1 := Scalar.cmpi .sgt v5 c0_i32
  let v224 : BitVec 1 := Scalar.andi v223 v12
  let v227 : BitVec 32 := Scalar.extui v224
  let c0_i32_127 : BitVec 32 := 0#32
  let v228 : BitVec 1 := Scalar.cmpi .ne v227 c0_i32_127
  v228

def k0_off90 (d0 : Dev nD) : Fin 2 → Nat :=
  let c3_i32_219 : BitVec 32 := 3#32
  let c0_i32_218 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_121 : BitVec 32 := 1#32
  let v219 : BitVec 32 := Scalar.subi v5 c1_i32_121
  let c2_i32_122 : BitVec 32 := 2#32
  let v220 : BitVec 32 := Scalar.subi v219 c2_i32_122
  let v388 : BitVec 32 := Scalar.maxsi c0_i32_218 v220
  let v389 : BitVec 32 := Scalar.minsi c3_i32_219 v388
  let c16384_i32_220 : BitVec 32 := 16384#32
  let v390 : BitVec 32 := Scalar.muli v389 c16384_i32_220
  let c1_i32_221 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v391 : BitVec 32 := Scalar.subi c1_i32_221 v2
  let c8192_i32_222 : BitVec 32 := 8192#32
  let v392 : BitVec 32 := Scalar.muli v391 c8192_i32_222
  let v393 : BitVec 32 := Scalar.addi v390 v392
  let c0_i32_223 : BitVec 32 := 0#32
  let v394 : BitVec 32 := Scalar.addi v393 c0_i32_223
  let c0_i32_234 : BitVec 32 := 0#32
  ![v394.toNat, 0]
def k0_off91 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_121 : BitVec 32 := 1#32
  let v219 : BitVec 32 := Scalar.subi v5 c1_i32_121
  let c2_i32_122 : BitVec 32 := 2#32
  let v220 : BitVec 32 := Scalar.subi v219 c2_i32_122
  let v382 : BitVec 32 := Scalar.maxsi c0_i32_214 v220
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c0_i32_217 : BitVec 32 := 0#32
  let v387 : BitVec 32 := Scalar.addi v386 c0_i32_217
  let c0_i32_235 : BitVec 32 := 0#32
  ![v387.toNat, 0]
def k0_cond70 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_123 : BitVec 32 := 1#32
  let v221 : BitVec 32 := Scalar.addi v5 c1_i32_123
  let c2_i32_124 : BitVec 32 := 2#32
  let v222 : BitVec 32 := Scalar.addi v221 c2_i32_124
  let c3_i32_126 : BitVec 32 := 3#32
  let v225 : BitVec 1 := Scalar.cmpi .sle v222 c3_i32_126
  let c3_i32 : BitVec 32 := 3#32
  let v13 : BitVec 1 := Scalar.cmpi .slt v5 c3_i32
  let v226 : BitVec 1 := Scalar.andi v225 v13
  let v229 : BitVec 32 := Scalar.extui v226
  let c0_i32_128 : BitVec 32 := 0#32
  let v230 : BitVec 1 := Scalar.cmpi .ne v229 c0_i32_128
  v230

def k0_off92 (d0 : Dev nD) : Fin 2 → Nat :=
  let c3_i32_219 : BitVec 32 := 3#32
  let c0_i32_218 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_123 : BitVec 32 := 1#32
  let v221 : BitVec 32 := Scalar.addi v5 c1_i32_123
  let c2_i32_124 : BitVec 32 := 2#32
  let v222 : BitVec 32 := Scalar.addi v221 c2_i32_124
  let v388 : BitVec 32 := Scalar.maxsi c0_i32_218 v222
  let v389 : BitVec 32 := Scalar.minsi c3_i32_219 v388
  let c16384_i32_220 : BitVec 32 := 16384#32
  let v390 : BitVec 32 := Scalar.muli v389 c16384_i32_220
  let c1_i32_221 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v391 : BitVec 32 := Scalar.subi c1_i32_221 v2
  let c8192_i32_222 : BitVec 32 := 8192#32
  let v392 : BitVec 32 := Scalar.muli v391 c8192_i32_222
  let v393 : BitVec 32 := Scalar.addi v390 v392
  let c0_i32_223 : BitVec 32 := 0#32
  let v394 : BitVec 32 := Scalar.addi v393 c0_i32_223
  let c0_i32_234 : BitVec 32 := 0#32
  ![v394.toNat, 0]
def k0_off93 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_123 : BitVec 32 := 1#32
  let v221 : BitVec 32 := Scalar.addi v5 c1_i32_123
  let c2_i32_124 : BitVec 32 := 2#32
  let v222 : BitVec 32 := Scalar.addi v221 c2_i32_124
  let v382 : BitVec 32 := Scalar.maxsi c0_i32_214 v222
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c0_i32_217 : BitVec 32 := 0#32
  let v387 : BitVec 32 := Scalar.addi v386 c0_i32_217
  let c0_i32_235 : BitVec 32 := 0#32
  ![v387.toNat, 0]
def k0_cond71 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_121 : BitVec 32 := 1#32
  let v219 : BitVec 32 := Scalar.subi v5 c1_i32_121
  let c2_i32_122 : BitVec 32 := 2#32
  let v220 : BitVec 32 := Scalar.subi v219 c2_i32_122
  let c0_i32_125 : BitVec 32 := 0#32
  let v223 : BitVec 1 := Scalar.cmpi .sge v220 c0_i32_125
  let c0_i32 : BitVec 32 := 0#32
  let v12 : BitVec 1 := Scalar.cmpi .sgt v5 c0_i32
  let v224 : BitVec 1 := Scalar.andi v223 v12
  let v231 : BitVec 32 := Scalar.extui v224
  let c0_i32_129 : BitVec 32 := 0#32
  let v232 : BitVec 1 := Scalar.cmpi .ne v231 c0_i32_129
  v232

def k0_off94 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_121 : BitVec 32 := 1#32
  let v219 : BitVec 32 := Scalar.subi v5 c1_i32_121
  let c2_i32_122 : BitVec 32 := 2#32
  let v220 : BitVec 32 := Scalar.subi v219 c2_i32_122
  let v388 : BitVec 32 := Scalar.maxsi c0_i32_217 v220
  let v389 : BitVec 32 := Scalar.minsi c3_i32_218 v388
  let c16384_i32_219 : BitVec 32 := 16384#32
  let v390 : BitVec 32 := Scalar.muli v389 c16384_i32_219
  let c1_i32_220 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v391 : BitVec 32 := Scalar.subi c1_i32_220 v2
  let c8192_i32_221 : BitVec 32 := 8192#32
  let v392 : BitVec 32 := Scalar.muli v391 c8192_i32_221
  let v393 : BitVec 32 := Scalar.addi v390 v392
  let c2048_i32_222 : BitVec 32 := 2048#32
  let v394 : BitVec 32 := Scalar.addi v393 c2048_i32_222
  let c0_i32_233 : BitVec 32 := 0#32
  ![v394.toNat, 0]
def k0_off95 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_121 : BitVec 32 := 1#32
  let v219 : BitVec 32 := Scalar.subi v5 c1_i32_121
  let c2_i32_122 : BitVec 32 := 2#32
  let v220 : BitVec 32 := Scalar.subi v219 c2_i32_122
  let v382 : BitVec 32 := Scalar.maxsi c0_i32_214 v220
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c2048_i32 : BitVec 32 := 2048#32
  let v387 : BitVec 32 := Scalar.addi v386 c2048_i32
  let c0_i32_234 : BitVec 32 := 0#32
  ![v387.toNat, 0]
def k0_cond72 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_123 : BitVec 32 := 1#32
  let v221 : BitVec 32 := Scalar.addi v5 c1_i32_123
  let c2_i32_124 : BitVec 32 := 2#32
  let v222 : BitVec 32 := Scalar.addi v221 c2_i32_124
  let c3_i32_126 : BitVec 32 := 3#32
  let v225 : BitVec 1 := Scalar.cmpi .sle v222 c3_i32_126
  let c3_i32 : BitVec 32 := 3#32
  let v13 : BitVec 1 := Scalar.cmpi .slt v5 c3_i32
  let v226 : BitVec 1 := Scalar.andi v225 v13
  let v233 : BitVec 32 := Scalar.extui v226
  let c0_i32_130 : BitVec 32 := 0#32
  let v234 : BitVec 1 := Scalar.cmpi .ne v233 c0_i32_130
  v234

def k0_off96 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_123 : BitVec 32 := 1#32
  let v221 : BitVec 32 := Scalar.addi v5 c1_i32_123
  let c2_i32_124 : BitVec 32 := 2#32
  let v222 : BitVec 32 := Scalar.addi v221 c2_i32_124
  let v388 : BitVec 32 := Scalar.maxsi c0_i32_217 v222
  let v389 : BitVec 32 := Scalar.minsi c3_i32_218 v388
  let c16384_i32_219 : BitVec 32 := 16384#32
  let v390 : BitVec 32 := Scalar.muli v389 c16384_i32_219
  let c1_i32_220 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v391 : BitVec 32 := Scalar.subi c1_i32_220 v2
  let c8192_i32_221 : BitVec 32 := 8192#32
  let v392 : BitVec 32 := Scalar.muli v391 c8192_i32_221
  let v393 : BitVec 32 := Scalar.addi v390 v392
  let c2048_i32_222 : BitVec 32 := 2048#32
  let v394 : BitVec 32 := Scalar.addi v393 c2048_i32_222
  let c0_i32_233 : BitVec 32 := 0#32
  ![v394.toNat, 0]
def k0_off97 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_123 : BitVec 32 := 1#32
  let v221 : BitVec 32 := Scalar.addi v5 c1_i32_123
  let c2_i32_124 : BitVec 32 := 2#32
  let v222 : BitVec 32 := Scalar.addi v221 c2_i32_124
  let v382 : BitVec 32 := Scalar.maxsi c0_i32_214 v222
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c2048_i32 : BitVec 32 := 2048#32
  let v387 : BitVec 32 := Scalar.addi v386 c2048_i32
  let c0_i32_234 : BitVec 32 := 0#32
  ![v387.toNat, 0]
def k0_cond73 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_121 : BitVec 32 := 1#32
  let v219 : BitVec 32 := Scalar.subi v5 c1_i32_121
  let c2_i32_122 : BitVec 32 := 2#32
  let v220 : BitVec 32 := Scalar.subi v219 c2_i32_122
  let c0_i32_125 : BitVec 32 := 0#32
  let v223 : BitVec 1 := Scalar.cmpi .sge v220 c0_i32_125
  let c0_i32 : BitVec 32 := 0#32
  let v12 : BitVec 1 := Scalar.cmpi .sgt v5 c0_i32
  let v224 : BitVec 1 := Scalar.andi v223 v12
  let v235 : BitVec 32 := Scalar.extui v224
  let c0_i32_131 : BitVec 32 := 0#32
  let v236 : BitVec 1 := Scalar.cmpi .ne v235 c0_i32_131
  v236

def k0_off98 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_121 : BitVec 32 := 1#32
  let v219 : BitVec 32 := Scalar.subi v5 c1_i32_121
  let c2_i32_122 : BitVec 32 := 2#32
  let v220 : BitVec 32 := Scalar.subi v219 c2_i32_122
  let v388 : BitVec 32 := Scalar.maxsi c0_i32_217 v220
  let v389 : BitVec 32 := Scalar.minsi c3_i32_218 v388
  let c16384_i32_219 : BitVec 32 := 16384#32
  let v390 : BitVec 32 := Scalar.muli v389 c16384_i32_219
  let c1_i32_220 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v391 : BitVec 32 := Scalar.subi c1_i32_220 v2
  let c8192_i32_221 : BitVec 32 := 8192#32
  let v392 : BitVec 32 := Scalar.muli v391 c8192_i32_221
  let v393 : BitVec 32 := Scalar.addi v390 v392
  let c4096_i32_222 : BitVec 32 := 4096#32
  let v394 : BitVec 32 := Scalar.addi v393 c4096_i32_222
  let c0_i32_233 : BitVec 32 := 0#32
  ![v394.toNat, 0]
def k0_off99 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_121 : BitVec 32 := 1#32
  let v219 : BitVec 32 := Scalar.subi v5 c1_i32_121
  let c2_i32_122 : BitVec 32 := 2#32
  let v220 : BitVec 32 := Scalar.subi v219 c2_i32_122
  let v382 : BitVec 32 := Scalar.maxsi c0_i32_214 v220
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c4096_i32 : BitVec 32 := 4096#32
  let v387 : BitVec 32 := Scalar.addi v386 c4096_i32
  let c0_i32_234 : BitVec 32 := 0#32
  ![v387.toNat, 0]
def k0_cond74 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_123 : BitVec 32 := 1#32
  let v221 : BitVec 32 := Scalar.addi v5 c1_i32_123
  let c2_i32_124 : BitVec 32 := 2#32
  let v222 : BitVec 32 := Scalar.addi v221 c2_i32_124
  let c3_i32_126 : BitVec 32 := 3#32
  let v225 : BitVec 1 := Scalar.cmpi .sle v222 c3_i32_126
  let c3_i32 : BitVec 32 := 3#32
  let v13 : BitVec 1 := Scalar.cmpi .slt v5 c3_i32
  let v226 : BitVec 1 := Scalar.andi v225 v13
  let v237 : BitVec 32 := Scalar.extui v226
  let c0_i32_132 : BitVec 32 := 0#32
  let v238 : BitVec 1 := Scalar.cmpi .ne v237 c0_i32_132
  v238

def k0_off100 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_123 : BitVec 32 := 1#32
  let v221 : BitVec 32 := Scalar.addi v5 c1_i32_123
  let c2_i32_124 : BitVec 32 := 2#32
  let v222 : BitVec 32 := Scalar.addi v221 c2_i32_124
  let v388 : BitVec 32 := Scalar.maxsi c0_i32_217 v222
  let v389 : BitVec 32 := Scalar.minsi c3_i32_218 v388
  let c16384_i32_219 : BitVec 32 := 16384#32
  let v390 : BitVec 32 := Scalar.muli v389 c16384_i32_219
  let c1_i32_220 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v391 : BitVec 32 := Scalar.subi c1_i32_220 v2
  let c8192_i32_221 : BitVec 32 := 8192#32
  let v392 : BitVec 32 := Scalar.muli v391 c8192_i32_221
  let v393 : BitVec 32 := Scalar.addi v390 v392
  let c4096_i32_222 : BitVec 32 := 4096#32
  let v394 : BitVec 32 := Scalar.addi v393 c4096_i32_222
  let c0_i32_233 : BitVec 32 := 0#32
  ![v394.toNat, 0]
def k0_off101 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_123 : BitVec 32 := 1#32
  let v221 : BitVec 32 := Scalar.addi v5 c1_i32_123
  let c2_i32_124 : BitVec 32 := 2#32
  let v222 : BitVec 32 := Scalar.addi v221 c2_i32_124
  let v382 : BitVec 32 := Scalar.maxsi c0_i32_214 v222
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c4096_i32 : BitVec 32 := 4096#32
  let v387 : BitVec 32 := Scalar.addi v386 c4096_i32
  let c0_i32_234 : BitVec 32 := 0#32
  ![v387.toNat, 0]
def k0_cond75 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_121 : BitVec 32 := 1#32
  let v219 : BitVec 32 := Scalar.subi v5 c1_i32_121
  let c2_i32_122 : BitVec 32 := 2#32
  let v220 : BitVec 32 := Scalar.subi v219 c2_i32_122
  let c0_i32_125 : BitVec 32 := 0#32
  let v223 : BitVec 1 := Scalar.cmpi .sge v220 c0_i32_125
  let c0_i32 : BitVec 32 := 0#32
  let v12 : BitVec 1 := Scalar.cmpi .sgt v5 c0_i32
  let v224 : BitVec 1 := Scalar.andi v223 v12
  let v239 : BitVec 32 := Scalar.extui v224
  let c0_i32_133 : BitVec 32 := 0#32
  let v240 : BitVec 1 := Scalar.cmpi .ne v239 c0_i32_133
  v240

def k0_off102 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_121 : BitVec 32 := 1#32
  let v219 : BitVec 32 := Scalar.subi v5 c1_i32_121
  let c2_i32_122 : BitVec 32 := 2#32
  let v220 : BitVec 32 := Scalar.subi v219 c2_i32_122
  let v388 : BitVec 32 := Scalar.maxsi c0_i32_217 v220
  let v389 : BitVec 32 := Scalar.minsi c3_i32_218 v388
  let c16384_i32_219 : BitVec 32 := 16384#32
  let v390 : BitVec 32 := Scalar.muli v389 c16384_i32_219
  let c1_i32_220 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v391 : BitVec 32 := Scalar.subi c1_i32_220 v2
  let c8192_i32_221 : BitVec 32 := 8192#32
  let v392 : BitVec 32 := Scalar.muli v391 c8192_i32_221
  let v393 : BitVec 32 := Scalar.addi v390 v392
  let c6144_i32_222 : BitVec 32 := 6144#32
  let v394 : BitVec 32 := Scalar.addi v393 c6144_i32_222
  let c0_i32_233 : BitVec 32 := 0#32
  ![v394.toNat, 0]
def k0_off103 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_121 : BitVec 32 := 1#32
  let v219 : BitVec 32 := Scalar.subi v5 c1_i32_121
  let c2_i32_122 : BitVec 32 := 2#32
  let v220 : BitVec 32 := Scalar.subi v219 c2_i32_122
  let v382 : BitVec 32 := Scalar.maxsi c0_i32_214 v220
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c6144_i32 : BitVec 32 := 6144#32
  let v387 : BitVec 32 := Scalar.addi v386 c6144_i32
  let c0_i32_234 : BitVec 32 := 0#32
  ![v387.toNat, 0]
def k0_cond76 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_123 : BitVec 32 := 1#32
  let v221 : BitVec 32 := Scalar.addi v5 c1_i32_123
  let c2_i32_124 : BitVec 32 := 2#32
  let v222 : BitVec 32 := Scalar.addi v221 c2_i32_124
  let c3_i32_126 : BitVec 32 := 3#32
  let v225 : BitVec 1 := Scalar.cmpi .sle v222 c3_i32_126
  let c3_i32 : BitVec 32 := 3#32
  let v13 : BitVec 1 := Scalar.cmpi .slt v5 c3_i32
  let v226 : BitVec 1 := Scalar.andi v225 v13
  let v241 : BitVec 32 := Scalar.extui v226
  let c0_i32_134 : BitVec 32 := 0#32
  let v242 : BitVec 1 := Scalar.cmpi .ne v241 c0_i32_134
  v242

def k0_off104 (d0 : Dev nD) : Fin 2 → Nat :=
  let c3_i32_218 : BitVec 32 := 3#32
  let c0_i32_217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_123 : BitVec 32 := 1#32
  let v221 : BitVec 32 := Scalar.addi v5 c1_i32_123
  let c2_i32_124 : BitVec 32 := 2#32
  let v222 : BitVec 32 := Scalar.addi v221 c2_i32_124
  let v388 : BitVec 32 := Scalar.maxsi c0_i32_217 v222
  let v389 : BitVec 32 := Scalar.minsi c3_i32_218 v388
  let c16384_i32_219 : BitVec 32 := 16384#32
  let v390 : BitVec 32 := Scalar.muli v389 c16384_i32_219
  let c1_i32_220 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v391 : BitVec 32 := Scalar.subi c1_i32_220 v2
  let c8192_i32_221 : BitVec 32 := 8192#32
  let v392 : BitVec 32 := Scalar.muli v391 c8192_i32_221
  let v393 : BitVec 32 := Scalar.addi v390 v392
  let c6144_i32_222 : BitVec 32 := 6144#32
  let v394 : BitVec 32 := Scalar.addi v393 c6144_i32_222
  let c0_i32_233 : BitVec 32 := 0#32
  ![v394.toNat, 0]
def k0_off105 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_123 : BitVec 32 := 1#32
  let v221 : BitVec 32 := Scalar.addi v5 c1_i32_123
  let c2_i32_124 : BitVec 32 := 2#32
  let v222 : BitVec 32 := Scalar.addi v221 c2_i32_124
  let v382 : BitVec 32 := Scalar.maxsi c0_i32_214 v222
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c6144_i32 : BitVec 32 := 6144#32
  let v387 : BitVec 32 := Scalar.addi v386 c6144_i32
  let c0_i32_234 : BitVec 32 := 0#32
  ![v387.toNat, 0]
def k0_cond77 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_135 : BitVec 32 := 0#32
  let v243 : BitVec 32 := Scalar.subi v5 c0_i32_135
  let c0_i32_137 : BitVec 32 := 0#32
  let v245 : BitVec 1 := Scalar.cmpi .sge v243 c0_i32_137
  let c3_i32 : BitVec 32 := 3#32
  let v13 : BitVec 1 := Scalar.cmpi .slt v5 c3_i32
  let v246 : BitVec 1 := Scalar.andi v245 v13
  let v257 : BitVec 32 := Scalar.extui v246
  let c0_i32_145 : BitVec 32 := 0#32
  let v258 : BitVec 1 := Scalar.cmpi .ne v257 c0_i32_145
  v258

def k0_off106 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v382 : BitVec 32 := Scalar.muli v2 c8192_i32
  let c0_i32_214 : BitVec 32 := 0#32
  let v383 : BitVec 32 := Scalar.addi v382 c0_i32_214
  let c0_i32_225 : BitVec 32 := 0#32
  ![v383.toNat, 0]
def k0_off107 (d0 : Dev nD) : Fin 2 → Nat :=
  let c3_i32_216 : BitVec 32 := 3#32
  let c0_i32_215 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_135 : BitVec 32 := 0#32
  let v243 : BitVec 32 := Scalar.subi v5 c0_i32_135
  let v384 : BitVec 32 := Scalar.maxsi c0_i32_215 v243
  let v385 : BitVec 32 := Scalar.minsi c3_i32_216 v384
  let c16384_i32_217 : BitVec 32 := 16384#32
  let v386 : BitVec 32 := Scalar.muli v385 c16384_i32_217
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_218 : BitVec 32 := 8192#32
  let v387 : BitVec 32 := Scalar.muli v2 c8192_i32_218
  let v388 : BitVec 32 := Scalar.addi v386 v387
  let c0_i32_219 : BitVec 32 := 0#32
  let v389 : BitVec 32 := Scalar.addi v388 c0_i32_219
  let c0_i32_226 : BitVec 32 := 0#32
  ![v389.toNat, 0]
def k0_cond78 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_136 : BitVec 32 := 0#32
  let v244 : BitVec 32 := Scalar.addi v5 c0_i32_136
  let c3_i32_138 : BitVec 32 := 3#32
  let v247 : BitVec 1 := Scalar.cmpi .sle v244 c3_i32_138
  let c0_i32 : BitVec 32 := 0#32
  let v12 : BitVec 1 := Scalar.cmpi .sgt v5 c0_i32
  let v248 : BitVec 1 := Scalar.andi v247 v12
  let v259 : BitVec 32 := Scalar.extui v248
  let c0_i32_146 : BitVec 32 := 0#32
  let v260 : BitVec 1 := Scalar.cmpi .ne v259 c0_i32_146
  v260

def k0_off108 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v382 : BitVec 32 := Scalar.muli v2 c8192_i32
  let c0_i32_214 : BitVec 32 := 0#32
  let v383 : BitVec 32 := Scalar.addi v382 c0_i32_214
  let c0_i32_225 : BitVec 32 := 0#32
  ![v383.toNat, 0]
def k0_off109 (d0 : Dev nD) : Fin 2 → Nat :=
  let c3_i32_216 : BitVec 32 := 3#32
  let c0_i32_215 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_136 : BitVec 32 := 0#32
  let v244 : BitVec 32 := Scalar.addi v5 c0_i32_136
  let v384 : BitVec 32 := Scalar.maxsi c0_i32_215 v244
  let v385 : BitVec 32 := Scalar.minsi c3_i32_216 v384
  let c16384_i32_217 : BitVec 32 := 16384#32
  let v386 : BitVec 32 := Scalar.muli v385 c16384_i32_217
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_218 : BitVec 32 := 8192#32
  let v387 : BitVec 32 := Scalar.muli v2 c8192_i32_218
  let v388 : BitVec 32 := Scalar.addi v386 v387
  let c0_i32_219 : BitVec 32 := 0#32
  let v389 : BitVec 32 := Scalar.addi v388 c0_i32_219
  let c0_i32_226 : BitVec 32 := 0#32
  ![v389.toNat, 0]
def k0_cond79 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_139 : BitVec 32 := 1#32
  let v249 : BitVec 32 := Scalar.subi v5 c1_i32_139
  let c0_i32_140 : BitVec 32 := 0#32
  let v250 : BitVec 32 := Scalar.subi v249 c0_i32_140
  let c0_i32_143 : BitVec 32 := 0#32
  let v253 : BitVec 1 := Scalar.cmpi .sge v250 c0_i32_143
  let c0_i32 : BitVec 32 := 0#32
  let v12 : BitVec 1 := Scalar.cmpi .sgt v5 c0_i32
  let v254 : BitVec 1 := Scalar.andi v253 v12
  let v261 : BitVec 32 := Scalar.extui v254
  let c0_i32_147 : BitVec 32 := 0#32
  let v262 : BitVec 1 := Scalar.cmpi .ne v261 c0_i32_147
  v262

def k0_off110 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_139 : BitVec 32 := 1#32
  let v249 : BitVec 32 := Scalar.subi v5 c1_i32_139
  let c0_i32_140 : BitVec 32 := 0#32
  let v250 : BitVec 32 := Scalar.subi v249 c0_i32_140
  let v382 : BitVec 32 := Scalar.maxsi c0_i32_214 v250
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c0_i32_217 : BitVec 32 := 0#32
  let v387 : BitVec 32 := Scalar.addi v386 c0_i32_217
  let c0_i32_230 : BitVec 32 := 0#32
  ![v387.toNat, 0]
def k0_cond80 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_141 : BitVec 32 := 1#32
  let v251 : BitVec 32 := Scalar.addi v5 c1_i32_141
  let c0_i32_142 : BitVec 32 := 0#32
  let v252 : BitVec 32 := Scalar.addi v251 c0_i32_142
  let c3_i32_144 : BitVec 32 := 3#32
  let v255 : BitVec 1 := Scalar.cmpi .sle v252 c3_i32_144
  let c3_i32 : BitVec 32 := 3#32
  let v13 : BitVec 1 := Scalar.cmpi .slt v5 c3_i32
  let v256 : BitVec 1 := Scalar.andi v255 v13
  let v263 : BitVec 32 := Scalar.extui v256
  let c0_i32_148 : BitVec 32 := 0#32
  let v264 : BitVec 1 := Scalar.cmpi .ne v263 c0_i32_148
  v264

def k0_off111 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_141 : BitVec 32 := 1#32
  let v251 : BitVec 32 := Scalar.addi v5 c1_i32_141
  let c0_i32_142 : BitVec 32 := 0#32
  let v252 : BitVec 32 := Scalar.addi v251 c0_i32_142
  let v382 : BitVec 32 := Scalar.maxsi c0_i32_214 v252
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c0_i32_217 : BitVec 32 := 0#32
  let v387 : BitVec 32 := Scalar.addi v386 c0_i32_217
  let c0_i32_230 : BitVec 32 := 0#32
  ![v387.toNat, 0]
def k0_cond81 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_135 : BitVec 32 := 0#32
  let v243 : BitVec 32 := Scalar.subi v5 c0_i32_135
  let c0_i32_137 : BitVec 32 := 0#32
  let v245 : BitVec 1 := Scalar.cmpi .sge v243 c0_i32_137
  let c3_i32 : BitVec 32 := 3#32
  let v13 : BitVec 1 := Scalar.cmpi .slt v5 c3_i32
  let v246 : BitVec 1 := Scalar.andi v245 v13
  let v265 : BitVec 32 := Scalar.extui v246
  let c0_i32_149 : BitVec 32 := 0#32
  let v266 : BitVec 1 := Scalar.cmpi .ne v265 c0_i32_149
  v266

def k0_off112 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v382 : BitVec 32 := Scalar.muli v2 c8192_i32
  let c2048_i32 : BitVec 32 := 2048#32
  let v383 : BitVec 32 := Scalar.addi v382 c2048_i32
  let c0_i32_224 : BitVec 32 := 0#32
  ![v383.toNat, 0]
def k0_off113 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_135 : BitVec 32 := 0#32
  let v243 : BitVec 32 := Scalar.subi v5 c0_i32_135
  let v384 : BitVec 32 := Scalar.maxsi c0_i32_214 v243
  let v385 : BitVec 32 := Scalar.minsi c3_i32_215 v384
  let c16384_i32_216 : BitVec 32 := 16384#32
  let v386 : BitVec 32 := Scalar.muli v385 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_217 : BitVec 32 := 8192#32
  let v387 : BitVec 32 := Scalar.muli v2 c8192_i32_217
  let v388 : BitVec 32 := Scalar.addi v386 v387
  let c2048_i32_218 : BitVec 32 := 2048#32
  let v389 : BitVec 32 := Scalar.addi v388 c2048_i32_218
  let c0_i32_225 : BitVec 32 := 0#32
  ![v389.toNat, 0]
def k0_cond82 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_136 : BitVec 32 := 0#32
  let v244 : BitVec 32 := Scalar.addi v5 c0_i32_136
  let c3_i32_138 : BitVec 32 := 3#32
  let v247 : BitVec 1 := Scalar.cmpi .sle v244 c3_i32_138
  let c0_i32 : BitVec 32 := 0#32
  let v12 : BitVec 1 := Scalar.cmpi .sgt v5 c0_i32
  let v248 : BitVec 1 := Scalar.andi v247 v12
  let v267 : BitVec 32 := Scalar.extui v248
  let c0_i32_150 : BitVec 32 := 0#32
  let v268 : BitVec 1 := Scalar.cmpi .ne v267 c0_i32_150
  v268

def k0_off114 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v382 : BitVec 32 := Scalar.muli v2 c8192_i32
  let c2048_i32 : BitVec 32 := 2048#32
  let v383 : BitVec 32 := Scalar.addi v382 c2048_i32
  let c0_i32_224 : BitVec 32 := 0#32
  ![v383.toNat, 0]
def k0_off115 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_136 : BitVec 32 := 0#32
  let v244 : BitVec 32 := Scalar.addi v5 c0_i32_136
  let v384 : BitVec 32 := Scalar.maxsi c0_i32_214 v244
  let v385 : BitVec 32 := Scalar.minsi c3_i32_215 v384
  let c16384_i32_216 : BitVec 32 := 16384#32
  let v386 : BitVec 32 := Scalar.muli v385 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_217 : BitVec 32 := 8192#32
  let v387 : BitVec 32 := Scalar.muli v2 c8192_i32_217
  let v388 : BitVec 32 := Scalar.addi v386 v387
  let c2048_i32_218 : BitVec 32 := 2048#32
  let v389 : BitVec 32 := Scalar.addi v388 c2048_i32_218
  let c0_i32_225 : BitVec 32 := 0#32
  ![v389.toNat, 0]
def k0_cond83 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_139 : BitVec 32 := 1#32
  let v249 : BitVec 32 := Scalar.subi v5 c1_i32_139
  let c0_i32_140 : BitVec 32 := 0#32
  let v250 : BitVec 32 := Scalar.subi v249 c0_i32_140
  let c0_i32_143 : BitVec 32 := 0#32
  let v253 : BitVec 1 := Scalar.cmpi .sge v250 c0_i32_143
  let c0_i32 : BitVec 32 := 0#32
  let v12 : BitVec 1 := Scalar.cmpi .sgt v5 c0_i32
  let v254 : BitVec 1 := Scalar.andi v253 v12
  let v269 : BitVec 32 := Scalar.extui v254
  let c0_i32_151 : BitVec 32 := 0#32
  let v270 : BitVec 1 := Scalar.cmpi .ne v269 c0_i32_151
  v270

def k0_off116 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_139 : BitVec 32 := 1#32
  let v249 : BitVec 32 := Scalar.subi v5 c1_i32_139
  let c0_i32_140 : BitVec 32 := 0#32
  let v250 : BitVec 32 := Scalar.subi v249 c0_i32_140
  let v382 : BitVec 32 := Scalar.maxsi c0_i32_214 v250
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c2048_i32 : BitVec 32 := 2048#32
  let v387 : BitVec 32 := Scalar.addi v386 c2048_i32
  let c0_i32_229 : BitVec 32 := 0#32
  ![v387.toNat, 0]
def k0_cond84 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_141 : BitVec 32 := 1#32
  let v251 : BitVec 32 := Scalar.addi v5 c1_i32_141
  let c0_i32_142 : BitVec 32 := 0#32
  let v252 : BitVec 32 := Scalar.addi v251 c0_i32_142
  let c3_i32_144 : BitVec 32 := 3#32
  let v255 : BitVec 1 := Scalar.cmpi .sle v252 c3_i32_144
  let c3_i32 : BitVec 32 := 3#32
  let v13 : BitVec 1 := Scalar.cmpi .slt v5 c3_i32
  let v256 : BitVec 1 := Scalar.andi v255 v13
  let v271 : BitVec 32 := Scalar.extui v256
  let c0_i32_152 : BitVec 32 := 0#32
  let v272 : BitVec 1 := Scalar.cmpi .ne v271 c0_i32_152
  v272

def k0_off117 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_141 : BitVec 32 := 1#32
  let v251 : BitVec 32 := Scalar.addi v5 c1_i32_141
  let c0_i32_142 : BitVec 32 := 0#32
  let v252 : BitVec 32 := Scalar.addi v251 c0_i32_142
  let v382 : BitVec 32 := Scalar.maxsi c0_i32_214 v252
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c2048_i32 : BitVec 32 := 2048#32
  let v387 : BitVec 32 := Scalar.addi v386 c2048_i32
  let c0_i32_229 : BitVec 32 := 0#32
  ![v387.toNat, 0]
def k0_cond85 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_135 : BitVec 32 := 0#32
  let v243 : BitVec 32 := Scalar.subi v5 c0_i32_135
  let c0_i32_137 : BitVec 32 := 0#32
  let v245 : BitVec 1 := Scalar.cmpi .sge v243 c0_i32_137
  let c3_i32 : BitVec 32 := 3#32
  let v13 : BitVec 1 := Scalar.cmpi .slt v5 c3_i32
  let v246 : BitVec 1 := Scalar.andi v245 v13
  let v273 : BitVec 32 := Scalar.extui v246
  let c0_i32_153 : BitVec 32 := 0#32
  let v274 : BitVec 1 := Scalar.cmpi .ne v273 c0_i32_153
  v274

def k0_off118 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v382 : BitVec 32 := Scalar.muli v2 c8192_i32
  let c4096_i32 : BitVec 32 := 4096#32
  let v383 : BitVec 32 := Scalar.addi v382 c4096_i32
  let c0_i32_224 : BitVec 32 := 0#32
  ![v383.toNat, 0]
def k0_off119 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_135 : BitVec 32 := 0#32
  let v243 : BitVec 32 := Scalar.subi v5 c0_i32_135
  let v384 : BitVec 32 := Scalar.maxsi c0_i32_214 v243
  let v385 : BitVec 32 := Scalar.minsi c3_i32_215 v384
  let c16384_i32_216 : BitVec 32 := 16384#32
  let v386 : BitVec 32 := Scalar.muli v385 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_217 : BitVec 32 := 8192#32
  let v387 : BitVec 32 := Scalar.muli v2 c8192_i32_217
  let v388 : BitVec 32 := Scalar.addi v386 v387
  let c4096_i32_218 : BitVec 32 := 4096#32
  let v389 : BitVec 32 := Scalar.addi v388 c4096_i32_218
  let c0_i32_225 : BitVec 32 := 0#32
  ![v389.toNat, 0]
def k0_cond86 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_136 : BitVec 32 := 0#32
  let v244 : BitVec 32 := Scalar.addi v5 c0_i32_136
  let c3_i32_138 : BitVec 32 := 3#32
  let v247 : BitVec 1 := Scalar.cmpi .sle v244 c3_i32_138
  let c0_i32 : BitVec 32 := 0#32
  let v12 : BitVec 1 := Scalar.cmpi .sgt v5 c0_i32
  let v248 : BitVec 1 := Scalar.andi v247 v12
  let v275 : BitVec 32 := Scalar.extui v248
  let c0_i32_154 : BitVec 32 := 0#32
  let v276 : BitVec 1 := Scalar.cmpi .ne v275 c0_i32_154
  v276

def k0_off120 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v382 : BitVec 32 := Scalar.muli v2 c8192_i32
  let c4096_i32 : BitVec 32 := 4096#32
  let v383 : BitVec 32 := Scalar.addi v382 c4096_i32
  let c0_i32_224 : BitVec 32 := 0#32
  ![v383.toNat, 0]
def k0_off121 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_136 : BitVec 32 := 0#32
  let v244 : BitVec 32 := Scalar.addi v5 c0_i32_136
  let v384 : BitVec 32 := Scalar.maxsi c0_i32_214 v244
  let v385 : BitVec 32 := Scalar.minsi c3_i32_215 v384
  let c16384_i32_216 : BitVec 32 := 16384#32
  let v386 : BitVec 32 := Scalar.muli v385 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_217 : BitVec 32 := 8192#32
  let v387 : BitVec 32 := Scalar.muli v2 c8192_i32_217
  let v388 : BitVec 32 := Scalar.addi v386 v387
  let c4096_i32_218 : BitVec 32 := 4096#32
  let v389 : BitVec 32 := Scalar.addi v388 c4096_i32_218
  let c0_i32_225 : BitVec 32 := 0#32
  ![v389.toNat, 0]
def k0_cond87 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_139 : BitVec 32 := 1#32
  let v249 : BitVec 32 := Scalar.subi v5 c1_i32_139
  let c0_i32_140 : BitVec 32 := 0#32
  let v250 : BitVec 32 := Scalar.subi v249 c0_i32_140
  let c0_i32_143 : BitVec 32 := 0#32
  let v253 : BitVec 1 := Scalar.cmpi .sge v250 c0_i32_143
  let c0_i32 : BitVec 32 := 0#32
  let v12 : BitVec 1 := Scalar.cmpi .sgt v5 c0_i32
  let v254 : BitVec 1 := Scalar.andi v253 v12
  let v277 : BitVec 32 := Scalar.extui v254
  let c0_i32_155 : BitVec 32 := 0#32
  let v278 : BitVec 1 := Scalar.cmpi .ne v277 c0_i32_155
  v278

def k0_off122 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_139 : BitVec 32 := 1#32
  let v249 : BitVec 32 := Scalar.subi v5 c1_i32_139
  let c0_i32_140 : BitVec 32 := 0#32
  let v250 : BitVec 32 := Scalar.subi v249 c0_i32_140
  let v382 : BitVec 32 := Scalar.maxsi c0_i32_214 v250
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c4096_i32 : BitVec 32 := 4096#32
  let v387 : BitVec 32 := Scalar.addi v386 c4096_i32
  let c0_i32_229 : BitVec 32 := 0#32
  ![v387.toNat, 0]
def k0_cond88 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_141 : BitVec 32 := 1#32
  let v251 : BitVec 32 := Scalar.addi v5 c1_i32_141
  let c0_i32_142 : BitVec 32 := 0#32
  let v252 : BitVec 32 := Scalar.addi v251 c0_i32_142
  let c3_i32_144 : BitVec 32 := 3#32
  let v255 : BitVec 1 := Scalar.cmpi .sle v252 c3_i32_144
  let c3_i32 : BitVec 32 := 3#32
  let v13 : BitVec 1 := Scalar.cmpi .slt v5 c3_i32
  let v256 : BitVec 1 := Scalar.andi v255 v13
  let v279 : BitVec 32 := Scalar.extui v256
  let c0_i32_156 : BitVec 32 := 0#32
  let v280 : BitVec 1 := Scalar.cmpi .ne v279 c0_i32_156
  v280

def k0_off123 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_141 : BitVec 32 := 1#32
  let v251 : BitVec 32 := Scalar.addi v5 c1_i32_141
  let c0_i32_142 : BitVec 32 := 0#32
  let v252 : BitVec 32 := Scalar.addi v251 c0_i32_142
  let v382 : BitVec 32 := Scalar.maxsi c0_i32_214 v252
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c4096_i32 : BitVec 32 := 4096#32
  let v387 : BitVec 32 := Scalar.addi v386 c4096_i32
  let c0_i32_229 : BitVec 32 := 0#32
  ![v387.toNat, 0]
def k0_cond89 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_135 : BitVec 32 := 0#32
  let v243 : BitVec 32 := Scalar.subi v5 c0_i32_135
  let c0_i32_137 : BitVec 32 := 0#32
  let v245 : BitVec 1 := Scalar.cmpi .sge v243 c0_i32_137
  let c3_i32 : BitVec 32 := 3#32
  let v13 : BitVec 1 := Scalar.cmpi .slt v5 c3_i32
  let v246 : BitVec 1 := Scalar.andi v245 v13
  let v281 : BitVec 32 := Scalar.extui v246
  let c0_i32_157 : BitVec 32 := 0#32
  let v282 : BitVec 1 := Scalar.cmpi .ne v281 c0_i32_157
  v282

def k0_off124 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v382 : BitVec 32 := Scalar.muli v2 c8192_i32
  let c6144_i32 : BitVec 32 := 6144#32
  let v383 : BitVec 32 := Scalar.addi v382 c6144_i32
  let c0_i32_224 : BitVec 32 := 0#32
  ![v383.toNat, 0]
def k0_off125 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_135 : BitVec 32 := 0#32
  let v243 : BitVec 32 := Scalar.subi v5 c0_i32_135
  let v384 : BitVec 32 := Scalar.maxsi c0_i32_214 v243
  let v385 : BitVec 32 := Scalar.minsi c3_i32_215 v384
  let c16384_i32_216 : BitVec 32 := 16384#32
  let v386 : BitVec 32 := Scalar.muli v385 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_217 : BitVec 32 := 8192#32
  let v387 : BitVec 32 := Scalar.muli v2 c8192_i32_217
  let v388 : BitVec 32 := Scalar.addi v386 v387
  let c6144_i32_218 : BitVec 32 := 6144#32
  let v389 : BitVec 32 := Scalar.addi v388 c6144_i32_218
  let c0_i32_225 : BitVec 32 := 0#32
  ![v389.toNat, 0]
def k0_cond90 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_136 : BitVec 32 := 0#32
  let v244 : BitVec 32 := Scalar.addi v5 c0_i32_136
  let c3_i32_138 : BitVec 32 := 3#32
  let v247 : BitVec 1 := Scalar.cmpi .sle v244 c3_i32_138
  let c0_i32 : BitVec 32 := 0#32
  let v12 : BitVec 1 := Scalar.cmpi .sgt v5 c0_i32
  let v248 : BitVec 1 := Scalar.andi v247 v12
  let v283 : BitVec 32 := Scalar.extui v248
  let c0_i32_158 : BitVec 32 := 0#32
  let v284 : BitVec 1 := Scalar.cmpi .ne v283 c0_i32_158
  v284

def k0_off126 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v382 : BitVec 32 := Scalar.muli v2 c8192_i32
  let c6144_i32 : BitVec 32 := 6144#32
  let v383 : BitVec 32 := Scalar.addi v382 c6144_i32
  let c0_i32_224 : BitVec 32 := 0#32
  ![v383.toNat, 0]
def k0_off127 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_136 : BitVec 32 := 0#32
  let v244 : BitVec 32 := Scalar.addi v5 c0_i32_136
  let v384 : BitVec 32 := Scalar.maxsi c0_i32_214 v244
  let v385 : BitVec 32 := Scalar.minsi c3_i32_215 v384
  let c16384_i32_216 : BitVec 32 := 16384#32
  let v386 : BitVec 32 := Scalar.muli v385 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32_217 : BitVec 32 := 8192#32
  let v387 : BitVec 32 := Scalar.muli v2 c8192_i32_217
  let v388 : BitVec 32 := Scalar.addi v386 v387
  let c6144_i32_218 : BitVec 32 := 6144#32
  let v389 : BitVec 32 := Scalar.addi v388 c6144_i32_218
  let c0_i32_225 : BitVec 32 := 0#32
  ![v389.toNat, 0]
def k0_cond91 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_139 : BitVec 32 := 1#32
  let v249 : BitVec 32 := Scalar.subi v5 c1_i32_139
  let c0_i32_140 : BitVec 32 := 0#32
  let v250 : BitVec 32 := Scalar.subi v249 c0_i32_140
  let c0_i32_143 : BitVec 32 := 0#32
  let v253 : BitVec 1 := Scalar.cmpi .sge v250 c0_i32_143
  let c0_i32 : BitVec 32 := 0#32
  let v12 : BitVec 1 := Scalar.cmpi .sgt v5 c0_i32
  let v254 : BitVec 1 := Scalar.andi v253 v12
  let v285 : BitVec 32 := Scalar.extui v254
  let c0_i32_159 : BitVec 32 := 0#32
  let v286 : BitVec 1 := Scalar.cmpi .ne v285 c0_i32_159
  v286

def k0_off128 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_139 : BitVec 32 := 1#32
  let v249 : BitVec 32 := Scalar.subi v5 c1_i32_139
  let c0_i32_140 : BitVec 32 := 0#32
  let v250 : BitVec 32 := Scalar.subi v249 c0_i32_140
  let v382 : BitVec 32 := Scalar.maxsi c0_i32_214 v250
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c6144_i32 : BitVec 32 := 6144#32
  let v387 : BitVec 32 := Scalar.addi v386 c6144_i32
  let c0_i32_229 : BitVec 32 := 0#32
  ![v387.toNat, 0]
def k0_cond92 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_141 : BitVec 32 := 1#32
  let v251 : BitVec 32 := Scalar.addi v5 c1_i32_141
  let c0_i32_142 : BitVec 32 := 0#32
  let v252 : BitVec 32 := Scalar.addi v251 c0_i32_142
  let c3_i32_144 : BitVec 32 := 3#32
  let v255 : BitVec 1 := Scalar.cmpi .sle v252 c3_i32_144
  let c3_i32 : BitVec 32 := 3#32
  let v13 : BitVec 1 := Scalar.cmpi .slt v5 c3_i32
  let v256 : BitVec 1 := Scalar.andi v255 v13
  let v287 : BitVec 32 := Scalar.extui v256
  let c0_i32_160 : BitVec 32 := 0#32
  let v288 : BitVec 1 := Scalar.cmpi .ne v287 c0_i32_160
  v288

def k0_off129 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_141 : BitVec 32 := 1#32
  let v251 : BitVec 32 := Scalar.addi v5 c1_i32_141
  let c0_i32_142 : BitVec 32 := 0#32
  let v252 : BitVec 32 := Scalar.addi v251 c0_i32_142
  let v382 : BitVec 32 := Scalar.maxsi c0_i32_214 v252
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c6144_i32 : BitVec 32 := 6144#32
  let v387 : BitVec 32 := Scalar.addi v386 c6144_i32
  let c0_i32_229 : BitVec 32 := 0#32
  ![v387.toNat, 0]
def k0_cond93 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_161 : BitVec 32 := 1#32
  let v289 : BitVec 32 := Scalar.subi v5 c1_i32_161
  let c0_i32_163 : BitVec 32 := 0#32
  let v291 : BitVec 1 := Scalar.cmpi .sge v289 c0_i32_163
  let c3_i32 : BitVec 32 := 3#32
  let v13 : BitVec 1 := Scalar.cmpi .slt v5 c3_i32
  let v292 : BitVec 1 := Scalar.andi v291 v13
  let v303 : BitVec 32 := Scalar.extui v292
  let c0_i32_171 : BitVec 32 := 0#32
  let v304 : BitVec 1 := Scalar.cmpi .ne v303 c0_i32_171
  v304

def k0_off130 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_161 : BitVec 32 := 1#32
  let v289 : BitVec 32 := Scalar.subi v5 c1_i32_161
  let v382 : BitVec 32 := Scalar.maxsi c0_i32_214 v289
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c0_i32_217 : BitVec 32 := 0#32
  let v387 : BitVec 32 := Scalar.addi v386 c0_i32_217
  let c0_i32_228 : BitVec 32 := 0#32
  ![v387.toNat, 0]
def k0_cond94 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_162 : BitVec 32 := 1#32
  let v290 : BitVec 32 := Scalar.addi v5 c1_i32_162
  let c3_i32_164 : BitVec 32 := 3#32
  let v293 : BitVec 1 := Scalar.cmpi .sle v290 c3_i32_164
  let c0_i32 : BitVec 32 := 0#32
  let v12 : BitVec 1 := Scalar.cmpi .sgt v5 c0_i32
  let v294 : BitVec 1 := Scalar.andi v293 v12
  let v305 : BitVec 32 := Scalar.extui v294
  let c0_i32_172 : BitVec 32 := 0#32
  let v306 : BitVec 1 := Scalar.cmpi .ne v305 c0_i32_172
  v306

def k0_off131 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_162 : BitVec 32 := 1#32
  let v290 : BitVec 32 := Scalar.addi v5 c1_i32_162
  let v382 : BitVec 32 := Scalar.maxsi c0_i32_214 v290
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c0_i32_217 : BitVec 32 := 0#32
  let v387 : BitVec 32 := Scalar.addi v386 c0_i32_217
  let c0_i32_228 : BitVec 32 := 0#32
  ![v387.toNat, 0]
def k0_cond95 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_165 : BitVec 32 := 1#32
  let v295 : BitVec 32 := Scalar.subi v5 c1_i32_165
  let c1_i32_166 : BitVec 32 := 1#32
  let v296 : BitVec 32 := Scalar.subi v295 c1_i32_166
  let c0_i32_169 : BitVec 32 := 0#32
  let v299 : BitVec 1 := Scalar.cmpi .sge v296 c0_i32_169
  let c0_i32 : BitVec 32 := 0#32
  let v12 : BitVec 1 := Scalar.cmpi .sgt v5 c0_i32
  let v300 : BitVec 1 := Scalar.andi v299 v12
  let v307 : BitVec 32 := Scalar.extui v300
  let c0_i32_173 : BitVec 32 := 0#32
  let v308 : BitVec 1 := Scalar.cmpi .ne v307 c0_i32_173
  v308

def k0_off132 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_165 : BitVec 32 := 1#32
  let v295 : BitVec 32 := Scalar.subi v5 c1_i32_165
  let c1_i32_166 : BitVec 32 := 1#32
  let v296 : BitVec 32 := Scalar.subi v295 c1_i32_166
  let v382 : BitVec 32 := Scalar.maxsi c0_i32_214 v296
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c0_i32_217 : BitVec 32 := 0#32
  let v387 : BitVec 32 := Scalar.addi v386 c0_i32_217
  let c0_i32_230 : BitVec 32 := 0#32
  ![v387.toNat, 0]
def k0_cond96 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_167 : BitVec 32 := 1#32
  let v297 : BitVec 32 := Scalar.addi v5 c1_i32_167
  let c1_i32_168 : BitVec 32 := 1#32
  let v298 : BitVec 32 := Scalar.addi v297 c1_i32_168
  let c3_i32_170 : BitVec 32 := 3#32
  let v301 : BitVec 1 := Scalar.cmpi .sle v298 c3_i32_170
  let c3_i32 : BitVec 32 := 3#32
  let v13 : BitVec 1 := Scalar.cmpi .slt v5 c3_i32
  let v302 : BitVec 1 := Scalar.andi v301 v13
  let v309 : BitVec 32 := Scalar.extui v302
  let c0_i32_174 : BitVec 32 := 0#32
  let v310 : BitVec 1 := Scalar.cmpi .ne v309 c0_i32_174
  v310

def k0_off133 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_167 : BitVec 32 := 1#32
  let v297 : BitVec 32 := Scalar.addi v5 c1_i32_167
  let c1_i32_168 : BitVec 32 := 1#32
  let v298 : BitVec 32 := Scalar.addi v297 c1_i32_168
  let v382 : BitVec 32 := Scalar.maxsi c0_i32_214 v298
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c0_i32_217 : BitVec 32 := 0#32
  let v387 : BitVec 32 := Scalar.addi v386 c0_i32_217
  let c0_i32_230 : BitVec 32 := 0#32
  ![v387.toNat, 0]
def k0_cond97 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_161 : BitVec 32 := 1#32
  let v289 : BitVec 32 := Scalar.subi v5 c1_i32_161
  let c0_i32_163 : BitVec 32 := 0#32
  let v291 : BitVec 1 := Scalar.cmpi .sge v289 c0_i32_163
  let c3_i32 : BitVec 32 := 3#32
  let v13 : BitVec 1 := Scalar.cmpi .slt v5 c3_i32
  let v292 : BitVec 1 := Scalar.andi v291 v13
  let v311 : BitVec 32 := Scalar.extui v292
  let c0_i32_175 : BitVec 32 := 0#32
  let v312 : BitVec 1 := Scalar.cmpi .ne v311 c0_i32_175
  v312

def k0_off134 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_161 : BitVec 32 := 1#32
  let v289 : BitVec 32 := Scalar.subi v5 c1_i32_161
  let v382 : BitVec 32 := Scalar.maxsi c0_i32_214 v289
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c2048_i32 : BitVec 32 := 2048#32
  let v387 : BitVec 32 := Scalar.addi v386 c2048_i32
  let c0_i32_227 : BitVec 32 := 0#32
  ![v387.toNat, 0]
def k0_cond98 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_162 : BitVec 32 := 1#32
  let v290 : BitVec 32 := Scalar.addi v5 c1_i32_162
  let c3_i32_164 : BitVec 32 := 3#32
  let v293 : BitVec 1 := Scalar.cmpi .sle v290 c3_i32_164
  let c0_i32 : BitVec 32 := 0#32
  let v12 : BitVec 1 := Scalar.cmpi .sgt v5 c0_i32
  let v294 : BitVec 1 := Scalar.andi v293 v12
  let v313 : BitVec 32 := Scalar.extui v294
  let c0_i32_176 : BitVec 32 := 0#32
  let v314 : BitVec 1 := Scalar.cmpi .ne v313 c0_i32_176
  v314

def k0_off135 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_162 : BitVec 32 := 1#32
  let v290 : BitVec 32 := Scalar.addi v5 c1_i32_162
  let v382 : BitVec 32 := Scalar.maxsi c0_i32_214 v290
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c2048_i32 : BitVec 32 := 2048#32
  let v387 : BitVec 32 := Scalar.addi v386 c2048_i32
  let c0_i32_227 : BitVec 32 := 0#32
  ![v387.toNat, 0]
def k0_cond99 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_165 : BitVec 32 := 1#32
  let v295 : BitVec 32 := Scalar.subi v5 c1_i32_165
  let c1_i32_166 : BitVec 32 := 1#32
  let v296 : BitVec 32 := Scalar.subi v295 c1_i32_166
  let c0_i32_169 : BitVec 32 := 0#32
  let v299 : BitVec 1 := Scalar.cmpi .sge v296 c0_i32_169
  let c0_i32 : BitVec 32 := 0#32
  let v12 : BitVec 1 := Scalar.cmpi .sgt v5 c0_i32
  let v300 : BitVec 1 := Scalar.andi v299 v12
  let v315 : BitVec 32 := Scalar.extui v300
  let c0_i32_177 : BitVec 32 := 0#32
  let v316 : BitVec 1 := Scalar.cmpi .ne v315 c0_i32_177
  v316

def k0_off136 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_165 : BitVec 32 := 1#32
  let v295 : BitVec 32 := Scalar.subi v5 c1_i32_165
  let c1_i32_166 : BitVec 32 := 1#32
  let v296 : BitVec 32 := Scalar.subi v295 c1_i32_166
  let v382 : BitVec 32 := Scalar.maxsi c0_i32_214 v296
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c2048_i32 : BitVec 32 := 2048#32
  let v387 : BitVec 32 := Scalar.addi v386 c2048_i32
  let c0_i32_229 : BitVec 32 := 0#32
  ![v387.toNat, 0]
def k0_cond100 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_167 : BitVec 32 := 1#32
  let v297 : BitVec 32 := Scalar.addi v5 c1_i32_167
  let c1_i32_168 : BitVec 32 := 1#32
  let v298 : BitVec 32 := Scalar.addi v297 c1_i32_168
  let c3_i32_170 : BitVec 32 := 3#32
  let v301 : BitVec 1 := Scalar.cmpi .sle v298 c3_i32_170
  let c3_i32 : BitVec 32 := 3#32
  let v13 : BitVec 1 := Scalar.cmpi .slt v5 c3_i32
  let v302 : BitVec 1 := Scalar.andi v301 v13
  let v317 : BitVec 32 := Scalar.extui v302
  let c0_i32_178 : BitVec 32 := 0#32
  let v318 : BitVec 1 := Scalar.cmpi .ne v317 c0_i32_178
  v318

def k0_off137 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_167 : BitVec 32 := 1#32
  let v297 : BitVec 32 := Scalar.addi v5 c1_i32_167
  let c1_i32_168 : BitVec 32 := 1#32
  let v298 : BitVec 32 := Scalar.addi v297 c1_i32_168
  let v382 : BitVec 32 := Scalar.maxsi c0_i32_214 v298
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c2048_i32 : BitVec 32 := 2048#32
  let v387 : BitVec 32 := Scalar.addi v386 c2048_i32
  let c0_i32_229 : BitVec 32 := 0#32
  ![v387.toNat, 0]
def k0_cond101 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_161 : BitVec 32 := 1#32
  let v289 : BitVec 32 := Scalar.subi v5 c1_i32_161
  let c0_i32_163 : BitVec 32 := 0#32
  let v291 : BitVec 1 := Scalar.cmpi .sge v289 c0_i32_163
  let c3_i32 : BitVec 32 := 3#32
  let v13 : BitVec 1 := Scalar.cmpi .slt v5 c3_i32
  let v292 : BitVec 1 := Scalar.andi v291 v13
  let v319 : BitVec 32 := Scalar.extui v292
  let c0_i32_179 : BitVec 32 := 0#32
  let v320 : BitVec 1 := Scalar.cmpi .ne v319 c0_i32_179
  v320

def k0_off138 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_161 : BitVec 32 := 1#32
  let v289 : BitVec 32 := Scalar.subi v5 c1_i32_161
  let v382 : BitVec 32 := Scalar.maxsi c0_i32_214 v289
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c4096_i32 : BitVec 32 := 4096#32
  let v387 : BitVec 32 := Scalar.addi v386 c4096_i32
  let c0_i32_227 : BitVec 32 := 0#32
  ![v387.toNat, 0]
def k0_cond102 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_162 : BitVec 32 := 1#32
  let v290 : BitVec 32 := Scalar.addi v5 c1_i32_162
  let c3_i32_164 : BitVec 32 := 3#32
  let v293 : BitVec 1 := Scalar.cmpi .sle v290 c3_i32_164
  let c0_i32 : BitVec 32 := 0#32
  let v12 : BitVec 1 := Scalar.cmpi .sgt v5 c0_i32
  let v294 : BitVec 1 := Scalar.andi v293 v12
  let v321 : BitVec 32 := Scalar.extui v294
  let c0_i32_180 : BitVec 32 := 0#32
  let v322 : BitVec 1 := Scalar.cmpi .ne v321 c0_i32_180
  v322

def k0_off139 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_162 : BitVec 32 := 1#32
  let v290 : BitVec 32 := Scalar.addi v5 c1_i32_162
  let v382 : BitVec 32 := Scalar.maxsi c0_i32_214 v290
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c4096_i32 : BitVec 32 := 4096#32
  let v387 : BitVec 32 := Scalar.addi v386 c4096_i32
  let c0_i32_227 : BitVec 32 := 0#32
  ![v387.toNat, 0]
def k0_cond103 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_165 : BitVec 32 := 1#32
  let v295 : BitVec 32 := Scalar.subi v5 c1_i32_165
  let c1_i32_166 : BitVec 32 := 1#32
  let v296 : BitVec 32 := Scalar.subi v295 c1_i32_166
  let c0_i32_169 : BitVec 32 := 0#32
  let v299 : BitVec 1 := Scalar.cmpi .sge v296 c0_i32_169
  let c0_i32 : BitVec 32 := 0#32
  let v12 : BitVec 1 := Scalar.cmpi .sgt v5 c0_i32
  let v300 : BitVec 1 := Scalar.andi v299 v12
  let v323 : BitVec 32 := Scalar.extui v300
  let c0_i32_181 : BitVec 32 := 0#32
  let v324 : BitVec 1 := Scalar.cmpi .ne v323 c0_i32_181
  v324

def k0_off140 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_165 : BitVec 32 := 1#32
  let v295 : BitVec 32 := Scalar.subi v5 c1_i32_165
  let c1_i32_166 : BitVec 32 := 1#32
  let v296 : BitVec 32 := Scalar.subi v295 c1_i32_166
  let v382 : BitVec 32 := Scalar.maxsi c0_i32_214 v296
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c4096_i32 : BitVec 32 := 4096#32
  let v387 : BitVec 32 := Scalar.addi v386 c4096_i32
  let c0_i32_229 : BitVec 32 := 0#32
  ![v387.toNat, 0]
def k0_cond104 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_167 : BitVec 32 := 1#32
  let v297 : BitVec 32 := Scalar.addi v5 c1_i32_167
  let c1_i32_168 : BitVec 32 := 1#32
  let v298 : BitVec 32 := Scalar.addi v297 c1_i32_168
  let c3_i32_170 : BitVec 32 := 3#32
  let v301 : BitVec 1 := Scalar.cmpi .sle v298 c3_i32_170
  let c3_i32 : BitVec 32 := 3#32
  let v13 : BitVec 1 := Scalar.cmpi .slt v5 c3_i32
  let v302 : BitVec 1 := Scalar.andi v301 v13
  let v325 : BitVec 32 := Scalar.extui v302
  let c0_i32_182 : BitVec 32 := 0#32
  let v326 : BitVec 1 := Scalar.cmpi .ne v325 c0_i32_182
  v326

def k0_off141 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_167 : BitVec 32 := 1#32
  let v297 : BitVec 32 := Scalar.addi v5 c1_i32_167
  let c1_i32_168 : BitVec 32 := 1#32
  let v298 : BitVec 32 := Scalar.addi v297 c1_i32_168
  let v382 : BitVec 32 := Scalar.maxsi c0_i32_214 v298
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c4096_i32 : BitVec 32 := 4096#32
  let v387 : BitVec 32 := Scalar.addi v386 c4096_i32
  let c0_i32_229 : BitVec 32 := 0#32
  ![v387.toNat, 0]
def k0_cond105 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_161 : BitVec 32 := 1#32
  let v289 : BitVec 32 := Scalar.subi v5 c1_i32_161
  let c0_i32_163 : BitVec 32 := 0#32
  let v291 : BitVec 1 := Scalar.cmpi .sge v289 c0_i32_163
  let c3_i32 : BitVec 32 := 3#32
  let v13 : BitVec 1 := Scalar.cmpi .slt v5 c3_i32
  let v292 : BitVec 1 := Scalar.andi v291 v13
  let v327 : BitVec 32 := Scalar.extui v292
  let c0_i32_183 : BitVec 32 := 0#32
  let v328 : BitVec 1 := Scalar.cmpi .ne v327 c0_i32_183
  v328

def k0_off142 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_161 : BitVec 32 := 1#32
  let v289 : BitVec 32 := Scalar.subi v5 c1_i32_161
  let v382 : BitVec 32 := Scalar.maxsi c0_i32_214 v289
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c6144_i32 : BitVec 32 := 6144#32
  let v387 : BitVec 32 := Scalar.addi v386 c6144_i32
  let c0_i32_227 : BitVec 32 := 0#32
  ![v387.toNat, 0]
def k0_cond106 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_162 : BitVec 32 := 1#32
  let v290 : BitVec 32 := Scalar.addi v5 c1_i32_162
  let c3_i32_164 : BitVec 32 := 3#32
  let v293 : BitVec 1 := Scalar.cmpi .sle v290 c3_i32_164
  let c0_i32 : BitVec 32 := 0#32
  let v12 : BitVec 1 := Scalar.cmpi .sgt v5 c0_i32
  let v294 : BitVec 1 := Scalar.andi v293 v12
  let v329 : BitVec 32 := Scalar.extui v294
  let c0_i32_184 : BitVec 32 := 0#32
  let v330 : BitVec 1 := Scalar.cmpi .ne v329 c0_i32_184
  v330

def k0_off143 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_162 : BitVec 32 := 1#32
  let v290 : BitVec 32 := Scalar.addi v5 c1_i32_162
  let v382 : BitVec 32 := Scalar.maxsi c0_i32_214 v290
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c6144_i32 : BitVec 32 := 6144#32
  let v387 : BitVec 32 := Scalar.addi v386 c6144_i32
  let c0_i32_227 : BitVec 32 := 0#32
  ![v387.toNat, 0]
def k0_cond107 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_165 : BitVec 32 := 1#32
  let v295 : BitVec 32 := Scalar.subi v5 c1_i32_165
  let c1_i32_166 : BitVec 32 := 1#32
  let v296 : BitVec 32 := Scalar.subi v295 c1_i32_166
  let c0_i32_169 : BitVec 32 := 0#32
  let v299 : BitVec 1 := Scalar.cmpi .sge v296 c0_i32_169
  let c0_i32 : BitVec 32 := 0#32
  let v12 : BitVec 1 := Scalar.cmpi .sgt v5 c0_i32
  let v300 : BitVec 1 := Scalar.andi v299 v12
  let v331 : BitVec 32 := Scalar.extui v300
  let c0_i32_185 : BitVec 32 := 0#32
  let v332 : BitVec 1 := Scalar.cmpi .ne v331 c0_i32_185
  v332

def k0_off144 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_165 : BitVec 32 := 1#32
  let v295 : BitVec 32 := Scalar.subi v5 c1_i32_165
  let c1_i32_166 : BitVec 32 := 1#32
  let v296 : BitVec 32 := Scalar.subi v295 c1_i32_166
  let v382 : BitVec 32 := Scalar.maxsi c0_i32_214 v296
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c6144_i32 : BitVec 32 := 6144#32
  let v387 : BitVec 32 := Scalar.addi v386 c6144_i32
  let c0_i32_229 : BitVec 32 := 0#32
  ![v387.toNat, 0]
def k0_cond108 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_167 : BitVec 32 := 1#32
  let v297 : BitVec 32 := Scalar.addi v5 c1_i32_167
  let c1_i32_168 : BitVec 32 := 1#32
  let v298 : BitVec 32 := Scalar.addi v297 c1_i32_168
  let c3_i32_170 : BitVec 32 := 3#32
  let v301 : BitVec 1 := Scalar.cmpi .sle v298 c3_i32_170
  let c3_i32 : BitVec 32 := 3#32
  let v13 : BitVec 1 := Scalar.cmpi .slt v5 c3_i32
  let v302 : BitVec 1 := Scalar.andi v301 v13
  let v333 : BitVec 32 := Scalar.extui v302
  let c0_i32_186 : BitVec 32 := 0#32
  let v334 : BitVec 1 := Scalar.cmpi .ne v333 c0_i32_186
  v334

def k0_off145 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_167 : BitVec 32 := 1#32
  let v297 : BitVec 32 := Scalar.addi v5 c1_i32_167
  let c1_i32_168 : BitVec 32 := 1#32
  let v298 : BitVec 32 := Scalar.addi v297 c1_i32_168
  let v382 : BitVec 32 := Scalar.maxsi c0_i32_214 v298
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c6144_i32 : BitVec 32 := 6144#32
  let v387 : BitVec 32 := Scalar.addi v386 c6144_i32
  let c0_i32_229 : BitVec 32 := 0#32
  ![v387.toNat, 0]
def k0_cond109 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_187 : BitVec 32 := 2#32
  let v335 : BitVec 32 := Scalar.subi v5 c2_i32_187
  let c0_i32_189 : BitVec 32 := 0#32
  let v337 : BitVec 1 := Scalar.cmpi .sge v335 c0_i32_189
  let c3_i32 : BitVec 32 := 3#32
  let v13 : BitVec 1 := Scalar.cmpi .slt v5 c3_i32
  let v338 : BitVec 1 := Scalar.andi v337 v13
  let v349 : BitVec 32 := Scalar.extui v338
  let c0_i32_197 : BitVec 32 := 0#32
  let v350 : BitVec 1 := Scalar.cmpi .ne v349 c0_i32_197
  v350

def k0_off146 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_187 : BitVec 32 := 2#32
  let v335 : BitVec 32 := Scalar.subi v5 c2_i32_187
  let v382 : BitVec 32 := Scalar.maxsi c0_i32_214 v335
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c0_i32_217 : BitVec 32 := 0#32
  let v387 : BitVec 32 := Scalar.addi v386 c0_i32_217
  let c0_i32_228 : BitVec 32 := 0#32
  ![v387.toNat, 0]
def k0_cond110 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_188 : BitVec 32 := 2#32
  let v336 : BitVec 32 := Scalar.addi v5 c2_i32_188
  let c3_i32_190 : BitVec 32 := 3#32
  let v339 : BitVec 1 := Scalar.cmpi .sle v336 c3_i32_190
  let c0_i32 : BitVec 32 := 0#32
  let v12 : BitVec 1 := Scalar.cmpi .sgt v5 c0_i32
  let v340 : BitVec 1 := Scalar.andi v339 v12
  let v351 : BitVec 32 := Scalar.extui v340
  let c0_i32_198 : BitVec 32 := 0#32
  let v352 : BitVec 1 := Scalar.cmpi .ne v351 c0_i32_198
  v352

def k0_off147 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_188 : BitVec 32 := 2#32
  let v336 : BitVec 32 := Scalar.addi v5 c2_i32_188
  let v382 : BitVec 32 := Scalar.maxsi c0_i32_214 v336
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c0_i32_217 : BitVec 32 := 0#32
  let v387 : BitVec 32 := Scalar.addi v386 c0_i32_217
  let c0_i32_228 : BitVec 32 := 0#32
  ![v387.toNat, 0]
def k0_cond111 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_191 : BitVec 32 := 1#32
  let v341 : BitVec 32 := Scalar.subi v5 c1_i32_191
  let c2_i32_192 : BitVec 32 := 2#32
  let v342 : BitVec 32 := Scalar.subi v341 c2_i32_192
  let c0_i32_195 : BitVec 32 := 0#32
  let v345 : BitVec 1 := Scalar.cmpi .sge v342 c0_i32_195
  let c0_i32 : BitVec 32 := 0#32
  let v12 : BitVec 1 := Scalar.cmpi .sgt v5 c0_i32
  let v346 : BitVec 1 := Scalar.andi v345 v12
  let v353 : BitVec 32 := Scalar.extui v346
  let c0_i32_199 : BitVec 32 := 0#32
  let v354 : BitVec 1 := Scalar.cmpi .ne v353 c0_i32_199
  v354

def k0_off148 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_191 : BitVec 32 := 1#32
  let v341 : BitVec 32 := Scalar.subi v5 c1_i32_191
  let c2_i32_192 : BitVec 32 := 2#32
  let v342 : BitVec 32 := Scalar.subi v341 c2_i32_192
  let v382 : BitVec 32 := Scalar.maxsi c0_i32_214 v342
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c0_i32_217 : BitVec 32 := 0#32
  let v387 : BitVec 32 := Scalar.addi v386 c0_i32_217
  let c0_i32_230 : BitVec 32 := 0#32
  ![v387.toNat, 0]
def k0_cond112 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_193 : BitVec 32 := 1#32
  let v343 : BitVec 32 := Scalar.addi v5 c1_i32_193
  let c2_i32_194 : BitVec 32 := 2#32
  let v344 : BitVec 32 := Scalar.addi v343 c2_i32_194
  let c3_i32_196 : BitVec 32 := 3#32
  let v347 : BitVec 1 := Scalar.cmpi .sle v344 c3_i32_196
  let c3_i32 : BitVec 32 := 3#32
  let v13 : BitVec 1 := Scalar.cmpi .slt v5 c3_i32
  let v348 : BitVec 1 := Scalar.andi v347 v13
  let v355 : BitVec 32 := Scalar.extui v348
  let c0_i32_200 : BitVec 32 := 0#32
  let v356 : BitVec 1 := Scalar.cmpi .ne v355 c0_i32_200
  v356

def k0_off149 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_193 : BitVec 32 := 1#32
  let v343 : BitVec 32 := Scalar.addi v5 c1_i32_193
  let c2_i32_194 : BitVec 32 := 2#32
  let v344 : BitVec 32 := Scalar.addi v343 c2_i32_194
  let v382 : BitVec 32 := Scalar.maxsi c0_i32_214 v344
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c0_i32_217 : BitVec 32 := 0#32
  let v387 : BitVec 32 := Scalar.addi v386 c0_i32_217
  let c0_i32_230 : BitVec 32 := 0#32
  ![v387.toNat, 0]
def k0_cond113 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_187 : BitVec 32 := 2#32
  let v335 : BitVec 32 := Scalar.subi v5 c2_i32_187
  let c0_i32_189 : BitVec 32 := 0#32
  let v337 : BitVec 1 := Scalar.cmpi .sge v335 c0_i32_189
  let c3_i32 : BitVec 32 := 3#32
  let v13 : BitVec 1 := Scalar.cmpi .slt v5 c3_i32
  let v338 : BitVec 1 := Scalar.andi v337 v13
  let v357 : BitVec 32 := Scalar.extui v338
  let c0_i32_201 : BitVec 32 := 0#32
  let v358 : BitVec 1 := Scalar.cmpi .ne v357 c0_i32_201
  v358

def k0_off150 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_187 : BitVec 32 := 2#32
  let v335 : BitVec 32 := Scalar.subi v5 c2_i32_187
  let v382 : BitVec 32 := Scalar.maxsi c0_i32_214 v335
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c2048_i32 : BitVec 32 := 2048#32
  let v387 : BitVec 32 := Scalar.addi v386 c2048_i32
  let c0_i32_227 : BitVec 32 := 0#32
  ![v387.toNat, 0]
def k0_cond114 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_188 : BitVec 32 := 2#32
  let v336 : BitVec 32 := Scalar.addi v5 c2_i32_188
  let c3_i32_190 : BitVec 32 := 3#32
  let v339 : BitVec 1 := Scalar.cmpi .sle v336 c3_i32_190
  let c0_i32 : BitVec 32 := 0#32
  let v12 : BitVec 1 := Scalar.cmpi .sgt v5 c0_i32
  let v340 : BitVec 1 := Scalar.andi v339 v12
  let v359 : BitVec 32 := Scalar.extui v340
  let c0_i32_202 : BitVec 32 := 0#32
  let v360 : BitVec 1 := Scalar.cmpi .ne v359 c0_i32_202
  v360

def k0_off151 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_188 : BitVec 32 := 2#32
  let v336 : BitVec 32 := Scalar.addi v5 c2_i32_188
  let v382 : BitVec 32 := Scalar.maxsi c0_i32_214 v336
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c2048_i32 : BitVec 32 := 2048#32
  let v387 : BitVec 32 := Scalar.addi v386 c2048_i32
  let c0_i32_227 : BitVec 32 := 0#32
  ![v387.toNat, 0]
def k0_cond115 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_191 : BitVec 32 := 1#32
  let v341 : BitVec 32 := Scalar.subi v5 c1_i32_191
  let c2_i32_192 : BitVec 32 := 2#32
  let v342 : BitVec 32 := Scalar.subi v341 c2_i32_192
  let c0_i32_195 : BitVec 32 := 0#32
  let v345 : BitVec 1 := Scalar.cmpi .sge v342 c0_i32_195
  let c0_i32 : BitVec 32 := 0#32
  let v12 : BitVec 1 := Scalar.cmpi .sgt v5 c0_i32
  let v346 : BitVec 1 := Scalar.andi v345 v12
  let v361 : BitVec 32 := Scalar.extui v346
  let c0_i32_203 : BitVec 32 := 0#32
  let v362 : BitVec 1 := Scalar.cmpi .ne v361 c0_i32_203
  v362

def k0_off152 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_191 : BitVec 32 := 1#32
  let v341 : BitVec 32 := Scalar.subi v5 c1_i32_191
  let c2_i32_192 : BitVec 32 := 2#32
  let v342 : BitVec 32 := Scalar.subi v341 c2_i32_192
  let v382 : BitVec 32 := Scalar.maxsi c0_i32_214 v342
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c2048_i32 : BitVec 32 := 2048#32
  let v387 : BitVec 32 := Scalar.addi v386 c2048_i32
  let c0_i32_229 : BitVec 32 := 0#32
  ![v387.toNat, 0]
def k0_cond116 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_193 : BitVec 32 := 1#32
  let v343 : BitVec 32 := Scalar.addi v5 c1_i32_193
  let c2_i32_194 : BitVec 32 := 2#32
  let v344 : BitVec 32 := Scalar.addi v343 c2_i32_194
  let c3_i32_196 : BitVec 32 := 3#32
  let v347 : BitVec 1 := Scalar.cmpi .sle v344 c3_i32_196
  let c3_i32 : BitVec 32 := 3#32
  let v13 : BitVec 1 := Scalar.cmpi .slt v5 c3_i32
  let v348 : BitVec 1 := Scalar.andi v347 v13
  let v363 : BitVec 32 := Scalar.extui v348
  let c0_i32_204 : BitVec 32 := 0#32
  let v364 : BitVec 1 := Scalar.cmpi .ne v363 c0_i32_204
  v364

def k0_off153 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_193 : BitVec 32 := 1#32
  let v343 : BitVec 32 := Scalar.addi v5 c1_i32_193
  let c2_i32_194 : BitVec 32 := 2#32
  let v344 : BitVec 32 := Scalar.addi v343 c2_i32_194
  let v382 : BitVec 32 := Scalar.maxsi c0_i32_214 v344
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c2048_i32 : BitVec 32 := 2048#32
  let v387 : BitVec 32 := Scalar.addi v386 c2048_i32
  let c0_i32_229 : BitVec 32 := 0#32
  ![v387.toNat, 0]
def k0_cond117 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_187 : BitVec 32 := 2#32
  let v335 : BitVec 32 := Scalar.subi v5 c2_i32_187
  let c0_i32_189 : BitVec 32 := 0#32
  let v337 : BitVec 1 := Scalar.cmpi .sge v335 c0_i32_189
  let c3_i32 : BitVec 32 := 3#32
  let v13 : BitVec 1 := Scalar.cmpi .slt v5 c3_i32
  let v338 : BitVec 1 := Scalar.andi v337 v13
  let v365 : BitVec 32 := Scalar.extui v338
  let c0_i32_205 : BitVec 32 := 0#32
  let v366 : BitVec 1 := Scalar.cmpi .ne v365 c0_i32_205
  v366

def k0_off154 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_187 : BitVec 32 := 2#32
  let v335 : BitVec 32 := Scalar.subi v5 c2_i32_187
  let v382 : BitVec 32 := Scalar.maxsi c0_i32_214 v335
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c4096_i32 : BitVec 32 := 4096#32
  let v387 : BitVec 32 := Scalar.addi v386 c4096_i32
  let c0_i32_227 : BitVec 32 := 0#32
  ![v387.toNat, 0]
def k0_cond118 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_188 : BitVec 32 := 2#32
  let v336 : BitVec 32 := Scalar.addi v5 c2_i32_188
  let c3_i32_190 : BitVec 32 := 3#32
  let v339 : BitVec 1 := Scalar.cmpi .sle v336 c3_i32_190
  let c0_i32 : BitVec 32 := 0#32
  let v12 : BitVec 1 := Scalar.cmpi .sgt v5 c0_i32
  let v340 : BitVec 1 := Scalar.andi v339 v12
  let v367 : BitVec 32 := Scalar.extui v340
  let c0_i32_206 : BitVec 32 := 0#32
  let v368 : BitVec 1 := Scalar.cmpi .ne v367 c0_i32_206
  v368

def k0_off155 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_188 : BitVec 32 := 2#32
  let v336 : BitVec 32 := Scalar.addi v5 c2_i32_188
  let v382 : BitVec 32 := Scalar.maxsi c0_i32_214 v336
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c4096_i32 : BitVec 32 := 4096#32
  let v387 : BitVec 32 := Scalar.addi v386 c4096_i32
  let c0_i32_227 : BitVec 32 := 0#32
  ![v387.toNat, 0]
def k0_cond119 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_191 : BitVec 32 := 1#32
  let v341 : BitVec 32 := Scalar.subi v5 c1_i32_191
  let c2_i32_192 : BitVec 32 := 2#32
  let v342 : BitVec 32 := Scalar.subi v341 c2_i32_192
  let c0_i32_195 : BitVec 32 := 0#32
  let v345 : BitVec 1 := Scalar.cmpi .sge v342 c0_i32_195
  let c0_i32 : BitVec 32 := 0#32
  let v12 : BitVec 1 := Scalar.cmpi .sgt v5 c0_i32
  let v346 : BitVec 1 := Scalar.andi v345 v12
  let v369 : BitVec 32 := Scalar.extui v346
  let c0_i32_207 : BitVec 32 := 0#32
  let v370 : BitVec 1 := Scalar.cmpi .ne v369 c0_i32_207
  v370

def k0_off156 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_191 : BitVec 32 := 1#32
  let v341 : BitVec 32 := Scalar.subi v5 c1_i32_191
  let c2_i32_192 : BitVec 32 := 2#32
  let v342 : BitVec 32 := Scalar.subi v341 c2_i32_192
  let v382 : BitVec 32 := Scalar.maxsi c0_i32_214 v342
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c4096_i32 : BitVec 32 := 4096#32
  let v387 : BitVec 32 := Scalar.addi v386 c4096_i32
  let c0_i32_229 : BitVec 32 := 0#32
  ![v387.toNat, 0]
def k0_cond120 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_193 : BitVec 32 := 1#32
  let v343 : BitVec 32 := Scalar.addi v5 c1_i32_193
  let c2_i32_194 : BitVec 32 := 2#32
  let v344 : BitVec 32 := Scalar.addi v343 c2_i32_194
  let c3_i32_196 : BitVec 32 := 3#32
  let v347 : BitVec 1 := Scalar.cmpi .sle v344 c3_i32_196
  let c3_i32 : BitVec 32 := 3#32
  let v13 : BitVec 1 := Scalar.cmpi .slt v5 c3_i32
  let v348 : BitVec 1 := Scalar.andi v347 v13
  let v371 : BitVec 32 := Scalar.extui v348
  let c0_i32_208 : BitVec 32 := 0#32
  let v372 : BitVec 1 := Scalar.cmpi .ne v371 c0_i32_208
  v372

def k0_off157 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_193 : BitVec 32 := 1#32
  let v343 : BitVec 32 := Scalar.addi v5 c1_i32_193
  let c2_i32_194 : BitVec 32 := 2#32
  let v344 : BitVec 32 := Scalar.addi v343 c2_i32_194
  let v382 : BitVec 32 := Scalar.maxsi c0_i32_214 v344
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c4096_i32 : BitVec 32 := 4096#32
  let v387 : BitVec 32 := Scalar.addi v386 c4096_i32
  let c0_i32_229 : BitVec 32 := 0#32
  ![v387.toNat, 0]
def k0_cond121 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_187 : BitVec 32 := 2#32
  let v335 : BitVec 32 := Scalar.subi v5 c2_i32_187
  let c0_i32_189 : BitVec 32 := 0#32
  let v337 : BitVec 1 := Scalar.cmpi .sge v335 c0_i32_189
  let c3_i32 : BitVec 32 := 3#32
  let v13 : BitVec 1 := Scalar.cmpi .slt v5 c3_i32
  let v338 : BitVec 1 := Scalar.andi v337 v13
  let v373 : BitVec 32 := Scalar.extui v338
  let c0_i32_209 : BitVec 32 := 0#32
  let v374 : BitVec 1 := Scalar.cmpi .ne v373 c0_i32_209
  v374

def k0_off158 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_187 : BitVec 32 := 2#32
  let v335 : BitVec 32 := Scalar.subi v5 c2_i32_187
  let v382 : BitVec 32 := Scalar.maxsi c0_i32_214 v335
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c6144_i32 : BitVec 32 := 6144#32
  let v387 : BitVec 32 := Scalar.addi v386 c6144_i32
  let c0_i32_227 : BitVec 32 := 0#32
  ![v387.toNat, 0]
def k0_cond122 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_188 : BitVec 32 := 2#32
  let v336 : BitVec 32 := Scalar.addi v5 c2_i32_188
  let c3_i32_190 : BitVec 32 := 3#32
  let v339 : BitVec 1 := Scalar.cmpi .sle v336 c3_i32_190
  let c0_i32 : BitVec 32 := 0#32
  let v12 : BitVec 1 := Scalar.cmpi .sgt v5 c0_i32
  let v340 : BitVec 1 := Scalar.andi v339 v12
  let v375 : BitVec 32 := Scalar.extui v340
  let c0_i32_210 : BitVec 32 := 0#32
  let v376 : BitVec 1 := Scalar.cmpi .ne v375 c0_i32_210
  v376

def k0_off159 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_188 : BitVec 32 := 2#32
  let v336 : BitVec 32 := Scalar.addi v5 c2_i32_188
  let v382 : BitVec 32 := Scalar.maxsi c0_i32_214 v336
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c6144_i32 : BitVec 32 := 6144#32
  let v387 : BitVec 32 := Scalar.addi v386 c6144_i32
  let c0_i32_227 : BitVec 32 := 0#32
  ![v387.toNat, 0]
def k0_cond123 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_191 : BitVec 32 := 1#32
  let v341 : BitVec 32 := Scalar.subi v5 c1_i32_191
  let c2_i32_192 : BitVec 32 := 2#32
  let v342 : BitVec 32 := Scalar.subi v341 c2_i32_192
  let c0_i32_195 : BitVec 32 := 0#32
  let v345 : BitVec 1 := Scalar.cmpi .sge v342 c0_i32_195
  let c0_i32 : BitVec 32 := 0#32
  let v12 : BitVec 1 := Scalar.cmpi .sgt v5 c0_i32
  let v346 : BitVec 1 := Scalar.andi v345 v12
  let v377 : BitVec 32 := Scalar.extui v346
  let c0_i32_211 : BitVec 32 := 0#32
  let v378 : BitVec 1 := Scalar.cmpi .ne v377 c0_i32_211
  v378

def k0_off160 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_191 : BitVec 32 := 1#32
  let v341 : BitVec 32 := Scalar.subi v5 c1_i32_191
  let c2_i32_192 : BitVec 32 := 2#32
  let v342 : BitVec 32 := Scalar.subi v341 c2_i32_192
  let v382 : BitVec 32 := Scalar.maxsi c0_i32_214 v342
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c6144_i32 : BitVec 32 := 6144#32
  let v387 : BitVec 32 := Scalar.addi v386 c6144_i32
  let c0_i32_229 : BitVec 32 := 0#32
  ![v387.toNat, 0]
def k0_cond124 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_193 : BitVec 32 := 1#32
  let v343 : BitVec 32 := Scalar.addi v5 c1_i32_193
  let c2_i32_194 : BitVec 32 := 2#32
  let v344 : BitVec 32 := Scalar.addi v343 c2_i32_194
  let c3_i32_196 : BitVec 32 := 3#32
  let v347 : BitVec 1 := Scalar.cmpi .sle v344 c3_i32_196
  let c3_i32 : BitVec 32 := 3#32
  let v13 : BitVec 1 := Scalar.cmpi .slt v5 c3_i32
  let v348 : BitVec 1 := Scalar.andi v347 v13
  let v379 : BitVec 32 := Scalar.extui v348
  let c0_i32_212 : BitVec 32 := 0#32
  let v380 : BitVec 1 := Scalar.cmpi .ne v379 c0_i32_212
  v380

def k0_off161 (d0 : Dev nD) : Fin 2 → Nat :=
  let c3_i32_215 : BitVec 32 := 3#32
  let c0_i32_214 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_193 : BitVec 32 := 1#32
  let v343 : BitVec 32 := Scalar.addi v5 c1_i32_193
  let c2_i32_194 : BitVec 32 := 2#32
  let v344 : BitVec 32 := Scalar.addi v343 c2_i32_194
  let v382 : BitVec 32 := Scalar.maxsi c0_i32_214 v344
  let v383 : BitVec 32 := Scalar.minsi c3_i32_215 v382
  let c16384_i32_216 : BitVec 32 := 16384#32
  let v384 : BitVec 32 := Scalar.muli v383 c16384_i32_216
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v385 : BitVec 32 := Scalar.muli v2 c8192_i32
  let v386 : BitVec 32 := Scalar.addi v384 v385
  let c6144_i32 : BitVec 32 := 6144#32
  let v387 : BitVec 32 := Scalar.addi v386 c6144_i32
  let c0_i32_229 : BitVec 32 := 0#32
  ![v387.toNat, 0]
-- ==== ReferenceIdeal.lean ====
abbrev S65536x1024 : Shape := ⟨2, ![65536, 1024]⟩

abbrev nBuf : Space → Nat
  | .hbm => 1
  | .vmem => 0
  | .smem => 0
  | _ => 0

abbrev bufTy : (tb : Table) → Fin (tcTables nBuf tb) → BufTy
  | .hbm, ⟨0, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Mesh.lean ====
/-
# The mesh, the transfers and the blocks of the all-gather

Plain facts about the 32 devices and the 24 transfers each of them takes part in, with no program in sight.

Device `c` sits at `(x, y, z) = (c / 16, c / 4 % 4, c % 4)`. Rows of the result come in 32 blocks of 2048 rows; block
`8 k + 4 h + b` is quarter `b` of half `h` of chunk `k`. A transfer is numbered `e = 8 s + 2 b + r`: step `s`, quarter
`b`, and `r = 0` for the one that travels towards larger `y`, `r = 1` for the other.
-/
module

public import proofs.«01_k».proof.Proof.Gen.KernelIdeal

@[expose] public section

set_option maxRecDepth 16384

namespace Cert.AllGather

open Cert.KernelIdeal
open Idealize.ShloMosaic

/-- The number of a transfer. -/
abbrev Ev : Type := Fin 24

/-! ## Coordinates and neighbours -/

/-- The device at given coordinates, each read modulo its axis. -/
def dev (x y z : ℕ) : Dev nD := ⟨16 * (x % 2) + 4 * (y % 4) + z % 4, by show _ < 32; omega⟩

def xx (c : Dev nD) : ℕ := c.val / 16
def yy (c : Dev nD) : ℕ := c.val / 4 % 4
def zz (c : Dev nD) : ℕ := c.val % 4

/-- The device that differs along `x` alone. -/
def par (c : Dev nD) : Dev nD := dev (xx c + 1) (yy c) (zz c)
/-- The next device along `y`, and the one before, both cyclically. -/
def rt (c : Dev nD) : Dev nD := dev (xx c) (yy c + 1) (zz c)
def lf (c : Dev nD) : Dev nD := dev (xx c) (yy c + 3) (zz c)

/-- Where device `c`'s transfer `e` goes, and where the transfer `e` it receives comes from. -/
def nb (c : Dev nD) (e : Ev) : Dev nD := if e.val % 2 = 0 then rt c else lf c
def fr (c : Dev nD) (e : Ev) : Dev nD := if e.val % 2 = 0 then lf c else rt c

/-- The device across `x` has this one across `x`. -/
theorem par_par (c : Dev nD) : par (par c) = c := by revert c; decide +kernel
/-- Left of the right neighbour (the line closed to a ring) is the device, -/
theorem lf_rt (c : Dev nD) : lf (rt c) = c := by revert c; decide +kernel
/-- and right of the left one. -/
theorem rt_lf (c : Dev nD) : rt (lf c) = c := by revert c; decide +kernel
/-- The device a transfer is sent to receives it from the sender, -/
theorem fr_nb (c : Dev nD) (e : Ev) : fr (nb c e) e = c := by unfold fr nb; split <;> simp only [lf_rt, rt_lf]
/-- and the device it comes from sends it to the receiver. -/
theorem nb_fr (c : Dev nD) (e : Ev) : nb (fr c e) e = c := by unfold fr nb; split <;> simp only [lf_rt, rt_lf]

/-- The three relations as permutations of the mesh. -/
def parEquiv : Dev nD ≃ Dev nD := ⟨par, par, par_par, par_par⟩
def rtEquiv : Dev nD ≃ Dev nD := ⟨rt, lf, lf_rt, rt_lf⟩
def nbEquiv (e : Ev) : Dev nD ≃ Dev nD := ⟨fun c => nb c e, fun c => fr c e, fun c => fr_nb c e, fun c => nb_fr c e⟩

/-! ## Which transfers happen, and which block each moves -/

/-- Device `c` makes the transfer `e`. -/
def sv (c : Dev nD) (e : Ev) : Bool :=
  if e.val % 2 = 0 then decide (e.val / 8 ≤ yy c ∧ yy c < 3) else decide (yy c + e.val / 8 ≤ 3 ∧ 0 < yy c)
/-- Device `c` receives the transfer `e` (and then passes its block on along `x`). -/
def rv (c : Dev nD) (e : Ev) : Bool :=
  if e.val % 2 = 0 then decide (e.val / 8 + 1 ≤ yy c) else decide (yy c + 1 + e.val / 8 ≤ 3)

/-- The block device `c` sends in transfer `e`; -/
def js (c : Dev nD) (e : Ev) : Fin 32 :=
  ⟨(8 * (if e.val % 2 = 0 then yy c - e.val / 8 else yy c + e.val / 8) + 4 * xx c + e.val / 2 % 4) % 32, Nat.mod_lt _ (by decide)⟩
/-- the block it receives in transfer `e`; -/
def jr (c : Dev nD) (e : Ev) : Fin 32 :=
  ⟨(8 * (if e.val % 2 = 0 then yy c - 1 - e.val / 8 else yy c + 1 + e.val / 8) + 4 * xx c + e.val / 2 % 4) % 32, Nat.mod_lt _ (by decide)⟩
/-- the block it receives from the device across `x`, after that one received transfer `e`. -/
def jx (c : Dev nD) (e : Ev) : Fin 32 :=
  ⟨(8 * (if e.val % 2 = 0 then yy c - 1 - e.val / 8 else yy c + 1 + e.val / 8) + 4 * (1 - xx c) + e.val / 2 % 4) % 32, Nat.mod_lt _ (by decide)⟩

/-- The transfer of the next step that passes on what transfer `e` brought (meaningful below step 2). -/
def fwd (e : Ev) : Ev := ⟨(e.val + 8) % 24, Nat.mod_lt _ (by decide)⟩

/-- The one sent to receives what is sent, -/
theorem rv_nb (c : Dev nD) (e : Ev) : rv (nb c e) e = sv c e := by revert c e; decide +kernel
/-- and the one received from sends what is received. -/
theorem sv_fr (c : Dev nD) (e : Ev) : sv (fr c e) e = rv c e := by revert c e; decide +kernel
/-- Two devices across `x` receive the same transfers along `y`. -/
theorem rv_par (c : Dev nD) (e : Ev) : rv (par c) e = rv c e := by revert c e; decide +kernel
/-- The block received is the block sent. -/
theorem jr_nb (c : Dev nD) (e : Ev) : sv c e = true → jr (nb c e) e = js c e := by revert c e; decide +kernel
/-- The block from across is the block the device across received, -/
theorem jx_par (c : Dev nD) (e : Ev) : jx (par c) e = jr c e := by revert c e; decide +kernel
/-- and the other way round. -/
theorem jr_par (c : Dev nD) (e : Ev) : jr (par c) e = jx c e := by revert c e; decide +kernel
/-- A transfer passed on was received. -/
theorem rv_of_fwd (c : Dev nD) (e : Ev) : e.val < 16 → sv c (fwd e) = true → rv c e = true := by revert c e; decide +kernel
/-- The block passed on is the block received. -/
theorem js_fwd (c : Dev nD) (e : Ev) : e.val < 16 → sv c (fwd e) = true → js c (fwd e) = jr c e := by revert c e; decide +kernel
/-- Across `x` and along `y` commute. -/
theorem nb_par_comm (c : Dev nD) (e : Ev) : nb (par c) e = par (nb c e) := by revert c e; decide +kernel

/-- No block is received twice, none of the received ones lies in the device's own chunk, -/
theorem jr_inj (c : Dev nD) (e e' : Ev) : rv c e = true → rv c e' = true → jr c e = jr c e' → e = e' := by
  revert c e e'; decide +kernel
/-- Different transfers bring different blocks from across. -/
theorem jx_inj (c : Dev nD) (e e' : Ev) : rv c e = true → rv c e' = true → jx c e = jx c e' → e = e' := by
  revert c e e'; decide +kernel
/-- No block comes both along `y` and across `x`. -/
theorem jr_ne_jx (c : Dev nD) (e e' : Ev) : rv c e = true → rv c e' = true → jr c e ≠ jx c e' := by
  revert c e e'; decide +kernel
/-- A block received along `y` is not of the device's own chunk, -/
theorem jr_chunk (c : Dev nD) (e : Ev) : rv c e = true → (jr c e).val / 8 ≠ yy c := by revert c e; decide +kernel
/-- and neither is one from across. -/
theorem jx_chunk (c : Dev nD) (e : Ev) : rv c e = true → (jx c e).val / 8 ≠ yy c := by revert c e; decide +kernel
/-- and together with that chunk they are all the blocks there are. -/
theorem covered (c : Dev nD) (j : Fin 32) :
    j.val / 8 = yy c ∨ (∃ e, rv c e = true ∧ jr c e = j) ∨ (∃ e, rv c e = true ∧ jx c e = j) := by
  revert c j; decide +kernel

/-! ## Whose rows a block holds -/

/-- The device whose argument fills block `j` of device `c`'s result: `c` itself for its own chunk, and for another
    chunk the device of that chunk, with `x` the half the block lies in. -/
def own (c : Dev nD) (j : ℕ) : Dev nD := if j / 8 = yy c then c else dev (j / 4) (j / 8) (zz c)

/-- The owner of a block lies on the `y` coordinate that the block's chunk names. -/
theorem own_yy (c : Dev nD) (j : Fin 32) : yy (own c j.val) = j.val / 8 := by revert c j; decide +kernel
/-- A block sent in step 0 is the sender's own; -/
theorem own_first (c : Dev nD) (e : Ev) : e.val < 8 → sv c e = true → own (nb c e) (js c e).val = c := by
  revert c e; decide +kernel
/-- The block sent in step 0, in closed form. -/
theorem js_first (c : Dev nD) (e : Ev) : e.val < 8 → (js c e).val = 8 * yy c + 4 * xx c + e.val / 2 := by
  revert c e; decide +kernel
/-- a block passed on belongs to the same device at both ends, -/
theorem own_next (c : Dev nD) (e : Ev) : 8 ≤ e.val → sv c e = true → own (nb c e) (js c e).val = own c (js c e).val := by
  revert c e; decide +kernel
/-- and so does one passed across `x`. -/
theorem own_across (c : Dev nD) (e : Ev) : rv c e = true → own (par c) (jr c e).val = own c (jr c e).val := by
  revert c e; decide +kernel

/-! ## The semaphores -/

/-- The kernel's DMA semaphores: the local copy's, and four per transfer — 0 its send, 1 its receive, 2 the send and
    3 the receive of the copy across `x` that follows it. -/
abbrev Dk : Type := Option (Fin 4 × Ev)

/-- Where each is among the kernel's 97. -/
def code : Dk → DmaSem sig
  | none => ⟨0, by decide⟩
  | some (k, e) => ⟨match k with
      | 0 => 1 + 24 * (e.val % 2) + e.val / 2
      | 1 => 13 + 24 * (e.val % 2) + e.val / 2
      | 2 => 49 + 8 * (e.val / 8) + 4 * (e.val % 2) + e.val / 2 % 4
      | 3 => 73 + 8 * (e.val / 8) + 4 * (e.val % 2) + e.val / 2 % 4, by
      have := e.isLt
      show _ < 97
      split <;> omega⟩

/-- Which one the semaphore at a place is. -/
def dec (q : DmaSem sig) : Dk :=
  if q.val = 0 then none
  else if q.val < 13 then some (0, ⟨2 * (q.val - 1) % 24, Nat.mod_lt _ (by decide)⟩)
  else if q.val < 25 then some (1, ⟨2 * (q.val - 13) % 24, Nat.mod_lt _ (by decide)⟩)
  else if q.val < 37 then some (0, ⟨(2 * (q.val - 25) + 1) % 24, Nat.mod_lt _ (by decide)⟩)
  else if q.val < 49 then some (1, ⟨(2 * (q.val - 37) + 1) % 24, Nat.mod_lt _ (by decide)⟩)
  else if q.val < 73 then
    some (2, ⟨(8 * ((q.val - 49) / 8) + 2 * ((q.val - 49) % 4) + (q.val - 49) / 4 % 2) % 24, Nat.mod_lt _ (by decide)⟩)
  else some (3, ⟨(8 * ((q.val - 73) / 8) + 2 * ((q.val - 73) % 4) + (q.val - 73) / 4 % 2) % 24, Nat.mod_lt _ (by decide)⟩)

/-- The numbering of the kernel's semaphores, taken back, -/
theorem dec_code (k : Dk) : dec (code k) = k := by revert k; decide +kernel
/-- from both sides. -/
theorem code_dec (q : DmaSem sig) : code (dec q) = q := by
  have h : ∀ q : Fin 97, code (dec q) = q := by decide +kernel
  exact h q
/-- Different semaphores have different numbers. -/
theorem code_inj {k k' : Dk} (h : code k = code k') : k = k' := by rw [← dec_code k, h, dec_code]

/-! ## How many senders each cell has -/

/-- A receive semaphore along `y` has one sender where a transfer is received, and none elsewhere; -/
theorem card_send (c : Dev nD) (e : Ev) :
    (Finset.univ.filter fun d : Dev nD => sv d e = true ∧ nb d e = c).card = if rv c e = true then 1 else 0 := by
  revert c e; decide +kernel
/-- and so has one across `x`. -/
theorem card_across (c : Dev nD) (e : Ev) :
    (Finset.univ.filter fun d : Dev nD => rv d e = true ∧ par d = c).card = if rv c e = true then 1 else 0 := by
  revert c e; decide +kernel

end Cert.AllGather
-- ==== Proof.Sched.lean ====
/-
# The resources and the schedule of the all-gather

What each device's result holds in the end (`gath`), the blocks of the buffers, and the schedule of the semaphores: for
each of a device's 98 semaphores, who raises it, by how much, and what the raise hands to the waiting device.
-/
module

public import proofs.«01_k».proof.Proof.Mesh
public import proofs.«01_k».proof.Proof.Gen.KernelIdeal.Launch
public import Idealize.ShloMosaic.Lib.Pipeline.Launch
public import Idealize.ShloMosaic.Lib.Pipeline.Kit
public import Idealize.ShloMosaic.Lib.Pipeline.ValueKit
public import Idealize.ShloMosaic.Lib.ValueIdxCore
public import Idealize.ShloMosaic.Lib.Tactic

@[expose] public section

set_option maxRecDepth 16384

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds library's algebra, at duties numbered 0, 1, 2, beside the launch library's own. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Something, if a condition holds -/

/-- `P` if `b` holds, nothing otherwise. -/
def gd (b : Bool) (P : sProp 𝕄) : sProp 𝕄 := if b = true then P else iprop(emp)

omit [FloatOps F] in
/-- Under a condition that holds, the thing itself; -/
theorem gd_true {b : Bool} (h : b = true) (P : sProp 𝕄) : gd b P = P := if_pos h
omit [FloatOps F] in
/-- under one that fails, nothing. -/
theorem gd_false {b : Bool} (h : ¬ b = true) (P : sProp 𝕄) : gd b P = iprop(emp) := if_neg h

omit [FloatOps F] in
instance gd_storable (b : Bool) (P : sProp 𝕄) [BI.Storable (upEmb : UEmb _ 𝕄) P] : BI.Storable (upEmb : UEmb _ 𝕄) (gd b P) := by
  unfold gd; split <;> infer_instance

omit [FloatOps F] in
/-- Under a guard one may assume it. -/
theorem gd_mono {b b' : Bool} {P Q : sProp 𝕄} (hb : b' = true → b = true) (h : b' = true → P ⊢ Q) : gd b P ⊢ gd b' Q := by
  by_cases hb' : b' = true
  · rw [gd_true hb', gd_true (hb hb')]; exact h hb'
  · rw [gd_false hb']; iintro -; iempintro

omit [FloatOps F] in
/-- A guard implied by every member's own may be dropped. -/
theorem gd_all {b : Bool} {g : Ev → Bool} (R : Ev → sProp 𝕄) (h : ∀ e, g e = true → b = true) :
    gd b (bigSep Finset.univ fun e => gd (g e) (R e)) ⊢ bigSep Finset.univ fun e => gd (g e) (R e) := by
  by_cases hb : b = true
  · rw [gd_true hb]
  · rw [gd_false hb, bigSep_congr (s := Finset.univ) fun e _ => gd_false (fun hg => hb (h e hg)) (R e)]
    exact bigSep_of_persistent Finset.univ iprop(emp)

omit [FloatOps F] in
/-- A family split by a condition, joined. -/
theorem gd_join {g p q : Ev → Bool} (R : Ev → sProp 𝕄) (h : ∀ e, p e = !q e) :
    iprop((bigSep Finset.univ fun e => gd (g e && p e) (R e)) ∗ bigSep Finset.univ fun e => gd (g e && q e) (R e))
      = bigSep Finset.univ fun e => gd (g e) (R e) := by
  rw [← bigSep_sep']
  refine bigSep_congr fun e _ => ?_
  have := h e
  cases hg : g e <;> cases hq : q e <;> rw [hq] at this <;> rw [this]
  · exact equiv_iff.mp BI.emp_sep
  · exact equiv_iff.mp BI.emp_sep
  · exact equiv_iff.mp BI.sep_emp
  · exact equiv_iff.mp BI.emp_sep

/-! ## Blocks of the buffers -/

/-- A block of the result lies in the result. -/
theorem inb_out (j : Fin 32) : ∀ a, (![2048 * j.val, 0] : Fin 2 → ℕ) a + S2048x1024.size a ≤ S65536x1024.size a := fun a => by
  have := j.isLt
  fin_cases a
  · show 2048 * j.val + 2048 ≤ 65536; omega
  · show 0 + 1024 ≤ 1024; omega
/-- A block of the argument lies in the argument. -/
theorem inb_arg (i : Fin 8) : ∀ a, (![2048 * i.val, 0] : Fin 2 → ℕ) a + S2048x1024.size a ≤ S16384x1024.size a := fun a => by
  have := i.isLt
  fin_cases a
  · show 2048 * i.val + 2048 ≤ 16384; omega
  · show 0 + 1024 ≤ 1024; omega
/-- A chunk lies in the result. -/
theorem inb_own (y : Fin 4) : ∀ a, (![16384 * y.val, 0] : Fin 2 → ℕ) a + S16384x1024.size a ≤ S65536x1024.size a := fun a => by
  have := y.isLt
  fin_cases a
  · show 16384 * y.val + 16384 ≤ 65536; omega
  · show 0 + 1024 ≤ 1024; omega

/-- The argument, the result, and their blocks of 2048 rows; the chunk of the result a device fills itself. -/
abbrev xM : Memref sig .tc .hbm S16384x1024 .f32 := Memref.whole main_arg0
abbrev oM : Memref sig .tc .hbm S65536x1024 .f32 := Memref.whole main_v1
abbrev oB (j : Fin 32) : Memref sig .tc .hbm S2048x1024 .f32 :=
  oM.slice (Rect.unit (s := S65536x1024) ![2048 * j.val, 0] S2048x1024.size (inb_out j)) (fun _ => rfl)
abbrev xB (i : Fin 8) : Memref sig .tc .hbm S2048x1024 .f32 :=
  xM.slice (Rect.unit (s := S16384x1024) ![2048 * i.val, 0] S2048x1024.size (inb_arg i)) (fun _ => rfl)
abbrev oC (y : Fin 4) : Memref sig .tc .hbm S16384x1024 .f32 :=
  oM.slice (Rect.unit (s := S65536x1024) ![16384 * y.val, 0] S16384x1024.size (inb_own y)) (fun _ => rfl)

/-- The place along `y` as a number below 4, and the quarter of its half a step-0 transfer sends, as a block of the argument. -/
def yF (c : Dev nD) : Fin 4 := ⟨yy c, Nat.mod_lt _ (by decide)⟩
def jq (c : Dev nD) (e : Ev) : Fin 8 := ⟨(4 * xx c + e.val / 2) % 8, Nat.mod_lt _ (by decide)⟩

/-- Where a block of the result lies. -/
theorem mem_oB (j : Fin 32) (i : S65536x1024.Idx) : i ∈ (oB j).view.set ↔ (i 0).val / 2048 = j.val := by
  refine ValueKit.mem_set_slice_whole_iff main_v1 _ i ?_
  rw [Rect.mem_set_unit]
  have h1 : (i 1).val < 1024 := (i 1).isLt
  constructor
  · intro h
    have h0 : 2048 * j.val ≤ (i 0).val ∧ (i 0).val < 2048 * j.val + 2048 := h 0
    omega
  · intro h a
    fin_cases a
    · show 2048 * j.val ≤ (i 0).val ∧ (i 0).val < 2048 * j.val + 2048; omega
    · show 0 ≤ (i 1).val ∧ (i 1).val < 0 + 1024; omega

/-- Where a chunk of the result lies. -/
theorem mem_oC (y : Fin 4) (i : S65536x1024.Idx) : i ∈ (oC y).view.set ↔ (i 0).val / 16384 = y.val := by
  refine ValueKit.mem_set_slice_whole_iff main_v1 _ i ?_
  rw [Rect.mem_set_unit]
  have h1 : (i 1).val < 1024 := (i 1).isLt
  constructor
  · intro h
    have h0 : 16384 * y.val ≤ (i 0).val ∧ (i 0).val < 16384 * y.val + 16384 := h 0
    omega
  · intro h a
    fin_cases a
    · show 16384 * y.val ≤ (i 0).val ∧ (i 0).val < 16384 * y.val + 16384; omega
    · show 0 ≤ (i 1).val ∧ (i 1).val < 0 + 1024; omega

/-! ## What the result holds -/

/-- A row of the result, as a row of the argument of the device whose chunk it is. -/
def argIx (i : S65536x1024.Idx) : S16384x1024.Idx :=
  ValueIdx.ix2 (n0 := 16384) (n1 := 1024) ⟨(i 0).val % 16384, Nat.mod_lt _ (by decide)⟩ ⟨(i 1).val, (i 1).isLt⟩

/-- Device `c`'s argument. -/
def xv (c : Dev nD) : Buf (Elt F) ((c : Thread nD τ).loc main_arg0) := m ((c : Thread nD τ).loc main_arg0)

/-- Device `c`'s gathered result: each block taken from the argument of the device that owns it. -/
def gath (c : Dev nD) : Buf (Elt F) ((c : Thread nD τ).loc main_v1) :=
  fun i => xv m (own c ((i 0).val / 2048)) (argIx i)

/-- Rows `j` of device `c`'s result, holding `f`, at share `q`; rows `i` of its argument. -/
def ob (c : Dev nD) (j : Fin 32) (q : PosShare TreeShare) (f : Buf (Elt F) ((c : Thread nD τ).loc main_v1)) : sProp 𝕄 :=
  ((c : Thread nD τ).loc main_v1) ↦[(oB j).view.set]{q} f
def xb (c : Dev nD) (i : Fin 8) (q : PosShare TreeShare) : sProp 𝕄 :=
  ((c : Thread nD τ).loc main_arg0) ↦[(xB i).view.set]{q} xv m c
/-- The device's own chunk of its result; its whole argument. -/
def oc (c : Dev nD) (f : Buf (Elt F) ((c : Thread nD τ).loc main_v1)) : sProp 𝕄 :=
  ((c : Thread nD τ).loc main_v1) ↦[(oC (yF c)).view.set]{fullShare} f
def xw (c : Dev nD) (q : PosShare TreeShare) : sProp 𝕄 :=
  ((c : Thread nD τ).loc main_arg0) ↦{q} xv m c

omit [FloatOps F] in
instance ob_storable (c : Dev nD) (j q f) : BI.Storable (upEmb : UEmb _ 𝕄) (ob (F := F) c j q f) := by unfold ob; infer_instance
omit [FloatOps F] in
instance xb_storable (c : Dev nD) (i q) : BI.Storable (upEmb : UEmb _ 𝕄) (xb (F := F) m c i q) := by unfold xb; infer_instance
omit [FloatOps F] in
instance oc_storable (c : Dev nD) (f) : BI.Storable (upEmb : UEmb _ 𝕄) (oc (F := F) c f) := by unfold oc; infer_instance
omit [FloatOps F] in
instance xw_storable (c : Dev nD) (q) : BI.Storable (upEmb : UEmb _ 𝕄) (xw (F := F) m c q) := by unfold xw; infer_instance

/-- The room a transfer of device `c` writes to: the block at its neighbour along `y`, and the block across `x`. -/
def roomS (c : Dev nD) (e : Ev) : sProp 𝕄 := iprop(∃ f, ob (nb c e) (js c e) fullShare f)
def roomX (c : Dev nD) (e : Ev) : sProp 𝕄 := iprop(∃ f, ob (par c) (jr c e) fullShare f)

omit [FloatOps F] in
instance roomS_storable (c : Dev nD) (e) : BI.Storable (upEmb : UEmb _ 𝕄) (roomS (F := F) c e) := by unfold roomS; infer_instance
omit [FloatOps F] in
instance roomX_storable (c : Dev nD) (e) : BI.Storable (upEmb : UEmb _ 𝕄) (roomX (F := F) c e) := by unfold roomX; infer_instance

/-! ## The semaphores -/

/-- The runtime's barrier semaphore. -/
abbrev barS : Sem sig := (SemArray.scalar (sig.barrier 0 rfl) : Sems sig S_).sem

/-- All of a device's semaphores: the barrier's (`none`) and the kernel's own. -/
abbrev Kx : Type := Option Dk
abbrev csem : Kx → SemLoc sig
  | none => .reg barS
  | some k => .dma (code k)
def kx : SemLoc sig → Kx
  | .reg _ => none
  | .dma q => some (dec q)

/-- The naming of the semaphores, taken back, -/
theorem kx_csem (k : Kx) : kx (csem k) = k := by
  cases k with
  | none => rfl
  | some k => exact congrArg some (dec_code k)
/-- from both sides. -/
theorem csem_kx (s : SemLoc sig) : csem (kx s) = s := by
  cases s with
  | reg q => exact congrArg SemLoc.reg ((show ∀ a b : Fin 1, a = b by decide) barS q)
  | dma q => exact congrArg SemLoc.dma (code_dec q)
/-- Different names are different semaphores. -/
theorem csem_inj {k k' : Kx} (h : csem k = csem k') : k = k' := by rw [← kx_csem k, h, kx_csem]
def kxEquiv : Kx ≃ SemLoc sig := ⟨csem, kx, kx_csem, csem_kx⟩

/-- Device `c`'s semaphore `k`, and the six families by name. -/
abbrev cell (c : Dev nD) (k : Kx) : GSem nD τ sig := ((c : Thread nD τ), csem k)
abbrev kSs (e : Ev) : Kx := some (some (0, e))
abbrev kRs (e : Ev) : Kx := some (some (1, e))
abbrev kSx (e : Ev) : Kx := some (some (2, e))
abbrev kRx (e : Ev) : Kx := some (some (3, e))
abbrev kCp : Kx := some none

/-- The same semaphore of the mesh has the same device and the same name. -/
theorem cell_inj {c c' : Dev nD} {k k' : Kx} (h : cell c k = cell c' k') : c = c' ∧ k = k' :=
  ⟨congrArg (fun g : GSem nD τ sig => g.1.1) h, csem_inj (congrArg Prod.snd h)⟩

/-! ## The schedule -/

/-- The units a copy of one block, and of one chunk, is counted by. -/
def NB : ℕ := (oB 0).view.dmaCredit
def NC : ℕ := (oC 0).view.dmaCredit
/-- A block is worth something, -/
theorem NB_pos : 0 < NB := View.dmaCredit_pos _ (by decide +kernel)
/-- and so is a chunk. -/
theorem NC_pos : 0 < NC := View.dmaCredit_pos _ (by decide +kernel)
/-- Every block of either buffer counts the same. -/
theorem credit_oB (j : Fin 32) : (oB j).view.dmaCredit = NB := rfl
/-- A block of the argument is worth as much as one of the result. -/
theorem credit_xB (i : Fin 8) : (xB i).view.dmaCredit = NB := rfl
/-- What a chunk is worth. -/
theorem credit_oC (y : Fin 4) : (oC y).view.dmaCredit = NC := rfl

/-- Whether the kernel's semaphore `k` is used on device `c`. -/
def used (c : Dev nD) : Dk → Bool
  | none => true
  | some (0, e) => sv c e
  | some (_, e) => rv c e
/-- The raises of device `c`'s semaphore `k`: the barrier's by the device across `x` (0), by the one before along `y` (1)
    and by the one after (2), where there is one; any other's by the one copy that names it (0). -/
def hasDuty (c : Dev nD) : Kx → Fin 3 → Bool
  | none, d => if d = 0 then true else if d = 1 then decide (0 < yy c) else decide (yy c < 3)
  | some k, d => decide (d = 0) && used c k
def amt : Kx → ℕ
  | none => 1
  | some none => NC
  | some (some _) => NB

/-- A device that sends to the left has a left neighbour, whose signal it awaits; -/
theorem odd_left (c : Dev nD) : ∀ e, (sv c e && decide (e.val % 2 = 1)) = true → hasDuty c none 1 = true := by
  revert c; decide +kernel
/-- and one that sends to the right a right neighbour. -/
theorem even_right (c : Dev nD) : ∀ e, (sv c e && decide (e.val % 2 = 0)) = true → hasDuty c none 2 = true := by
  revert c; decide +kernel

/-- With a barrier signal a device hands over the room the receiver will write to on it. -/
def barPay (c : Dev nD) (d : Fin 3) : sProp 𝕄 :=
  if d = 0 then bigSep Finset.univ fun e : Ev => gd (rv c e) (roomX c e)
  else if d = 1 then bigSep Finset.univ fun e : Ev => gd (sv c e && decide (e.val % 2 = 1)) (roomS c e)
  else bigSep Finset.univ fun e : Ev => gd (sv c e && decide (e.val % 2 = 0)) (roomS c e)
/-- What a finished copy hands over: its destination, filled; the copy to the device across `x` also hands its sender a
    half share of the source back, and the local copy its source. -/
def dmaPay (c : Dev nD) : Dk → sProp 𝕄
  | none => iprop(oc c (gath m c) ∗ xw m c fullShare.left)
  | some (0, _) => iprop(emp)
  | some (1, e) => ob c (jr c e) fullShare (gath m c)
  | some (2, e) => ob c (jr c e) fullShare.right (gath m c)
  | some (3, e) => ob c (jx c e) fullShare (gath m c)
def pay (c : Dev nD) : Kx → Fin 3 → sProp 𝕄
  | none, d => barPay c d
  | some k, _ => dmaPay m c k

omit [FloatOps F] in
instance pay_storable (c : Dev nD) (k : Kx) (d : Fin 3) : BI.Storable (upEmb : UEmb _ 𝕄) (pay (F := F) m c k d) := by
  rcases k with _ | _ | ⟨k, e⟩
  · show BI.Storable upEmb (barPay c d); unfold barPay; (repeat' split) <;> infer_instance
  · show BI.Storable upEmb iprop(oc c (gath m c) ∗ xw m c fullShare.left); infer_instance
  · show BI.Storable upEmb (dmaPay m c (some (k, e)))
    unfold dmaPay; fin_cases k <;> infer_instance

/-- Every raise is by something. -/
theorem amt_pos : ∀ k : Kx, 0 < amt k
  | none => Nat.one_pos
  | some none => NC_pos
  | some (some _) => NB_pos

/-- One round, round 0, on every semaphore. -/
def Rd : Rounds.Schedule (GSem nD τ sig) (Fin 3) 𝕄 where
  duties g r := if r = 0 ∧ g.1.2 = .tc then Finset.univ.filter (fun d => hasDuty g.1.1 (kx g.2) d = true) else ∅
  unitless _ := False
  amount g _ _ := amt (kx g.2)
  payload g _ d := pay m g.1.1 (kx g.2) d
  amount_pos g _ _ _ := amt_pos _

instance Rd_storable (g : GSem nD τ sig) (r : ℕ) (d : Fin 3) : BI.Storable (upEmb : UEmb _ 𝕄) ((Rd (F := F) m).payload g r d) :=
  pay_storable m g.1.1 (kx g.2) d

section
variable (c : Dev nD)

omit [FloatOps F] in
/-- The raises of a semaphore in its one round. -/
theorem duties_cell (k : Kx) : (Rd (F := F) m).duties (cell c k) 0 = Finset.univ.filter (fun d => hasDuty c k d = true) := by
  dsimp only [Rd]; rw [if_pos ⟨rfl, rfl⟩, kx_csem]
omit [FloatOps F] in
/-- There is no later round. -/
theorem duties_later (g : GSem nD τ sig) : ∀ r, 1 ≤ r → (Rd (F := F) m).duties g r = ∅ :=
  fun r hr => by dsimp only [Rd]; rw [if_neg fun h => by omega]
omit [FloatOps F] in
/-- By how much a raise is. -/
theorem amount_cell (k : Kx) (d : Fin 3) : (Rd (F := F) m).amount (cell c k) 0 d = amt k := by dsimp only [Rd]; rw [kx_csem]
omit [FloatOps F] in
/-- What a raise hands over. -/
theorem payload_cell (k : Kx) (d : Fin 3) : (Rd (F := F) m).payload (cell c k) 0 d = pay m c k d := by dsimp only [Rd]; rw [kx_csem]

omit [FloatOps F] in
/-- A semaphore in use has one raise. -/
theorem duties_used {k : Dk} (h : used c k = true) : (Rd (F := F) m).duties (cell c (some k)) 0 = {0} := by
  rw [duties_cell]
  ext d
  simp only [Finset.mem_filter, Finset.mem_univ, true_and, Finset.mem_singleton, hasDuty, h, Bool.and_true, decide_eq_true_eq]
omit [FloatOps F] in
/-- A semaphore not in use has none. -/
theorem duties_unused {k : Dk} (h : ¬ used c k = true) : ∀ r, 0 ≤ r → (Rd (F := F) m).duties (cell c (some k)) r = ∅ := by
  intro r _
  rcases Nat.eq_zero_or_pos r with rfl | hr
  · rw [duties_cell]
    ext d
    simp only [Finset.mem_filter, Finset.mem_univ, true_and, hasDuty, Bool.and_eq_true, h, and_false, Finset.notMem_empty,
      Bool.false_eq_true]
  · exact duties_later m _ r hr
omit [FloatOps F] in
/-- The raise of a semaphore in use is in its round. -/
theorem mem_used {k : Dk} (h : used c k = true) : (0 : Fin 3) ∈ (Rd (F := F) m).duties (cell c (some k)) 0 := by
  rw [duties_used m c h]; exact Finset.mem_singleton_self _
omit [FloatOps F] in
/-- What a wait on it takes. -/
theorem expect_used {k : Dk} (h : used c k = true) : (Rd (F := F) m).expect (cell c (some k)) 0 = amt (some k) := by
  unfold Schedule.expect Schedule.amountOf; rw [duties_used m c h, Finset.sum_singleton, amount_cell]
omit [FloatOps F] in
/-- All a used semaphore's round hands over. -/
theorem rest_used {k : Dk} (h : used c k = true) :
    bigSep ((Rd (F := F) m).duties (cell c (some k)) 0 \ ∅) (fun d => (Rd (F := F) m).payload (cell c (some k)) 0 d) = dmaPay m c k := by
  rw [Finset.sdiff_empty, duties_used m c h, bigSep_singleton, payload_cell]; rfl

/-- How many signals the barrier waits for. -/
def barN (c : Dev nD) : ℕ := 1 + (if 0 < yy c then 1 else 0) + (if yy c < 3 then 1 else 0)
omit [FloatOps F] in
/-- What the barrier's wait takes. -/
theorem expect_bar : (Rd (F := F) m).expect (cell c none) 0 = barN c := by
  unfold Schedule.expect Schedule.amountOf
  rw [duties_cell, Finset.sum_congr rfl fun d _ => amount_cell m c none d, Finset.sum_const, smul_eq_mul]
  show _ * 1 = _
  rw [Nat.mul_one]
  revert c; decide +kernel
omit [FloatOps F] in
/-- All the barrier hands over: the room for every transfer the device makes. -/
theorem rest_bar :
    bigSep ((Rd (F := F) m).duties (cell c none) 0 \ ∅) (fun d => (Rd (F := F) m).payload (cell c none) 0 d)
      ⊢ iprop((bigSep Finset.univ fun e : Ev => gd (rv c e) (roomX c e)) ∗ bigSep Finset.univ fun e : Ev => gd (sv c e) (roomS c e)) := by
  have hall : bigSep ((Rd (F := F) m).duties (cell c none) 0 \ ∅) (fun d => (Rd (F := F) m).payload (cell c none) 0 d)
      = iprop(gd (hasDuty c none 0) (barPay c 0) ∗ gd (hasDuty c none 1) (barPay c 1) ∗ gd (hasDuty c none 2) (barPay c 2)) := by
    rw [Finset.sdiff_empty, duties_cell, bigSep_filter,
      bigSep_univ_eq_bigSepL [0, 1, 2] (by decide) (by decide), bigSepL_cons_cons, bigSepL_cons_cons, bigSepL_singleton,
      payload_cell, payload_cell, payload_cell]
    rfl
  rw [hall, gd_true (show hasDuty c none 0 = true from rfl),
    ← gd_join (g := sv c) (p := fun e => decide (e.val % 2 = 1)) (q := fun e => decide (e.val % 2 = 0)) (roomS c) (by decide)]
  exact BI.sep_mono (BI.Entails.refl _) (BI.sep_mono (gd_all (roomS c) (odd_left c)) (gd_all (roomS c) (even_right c)))
end

end Cert.AllGather

end
-- ==== Proof.Copy.lean ====
/-
# What the copies of the all-gather leave in their destinations

Each kind of copy, at the contents its source has when it starts: the destination's rows then hold what `gath` says they
hold on the receiving device.
-/
module

public import proofs.«01_k».proof.Proof.Sched

@[expose] public section

set_option maxRecDepth 16384

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-- Where an element of a block, or of a chunk, lies in its buffer. -/
theorem emb_oB (j : Fin 32) (x : S2048x1024.Idx) (a : Fin 2) :
    (((oB j).view.emb x : S65536x1024.Idx) a).val = (![2048 * j.val, 0] : Fin 2 → ℕ) a + (x a).val :=
  ValueKit.view_emb_slice_whole_unit_val main_v1 ![2048 * j.val, 0] S2048x1024.size (inb_out j) x a
/-- Where an element of a block of the argument lies in the argument. -/
theorem emb_xB (i : Fin 8) (x : S2048x1024.Idx) (a : Fin 2) :
    (((xB i).view.emb x : S16384x1024.Idx) a).val = (![2048 * i.val, 0] : Fin 2 → ℕ) a + (x a).val :=
  ValueKit.view_emb_slice_whole_unit_val main_arg0 ![2048 * i.val, 0] S2048x1024.size (inb_arg i) x a
/-- Where an element of a chunk of the result lies in the result. -/
theorem emb_oC (y : Fin 4) (x : S16384x1024.Idx) (a : Fin 2) :
    (((oC y).view.emb x : S65536x1024.Idx) a).val = (![16384 * y.val, 0] : Fin 2 → ℕ) a + (x a).val :=
  ValueKit.view_emb_slice_whole_unit_val main_v1 ![16384 * y.val, 0] S16384x1024.size (inb_own y) x a

/-- Every element of a view's set is one of its elements placed. -/
theorem exists_emb {sp : Space} {s : Shape} {t : EltTy} (v : View sig .tc sp s t) {i : v.ty.Idx} (h : i ∈ v.set) : ∃ x, v.emb x = i := by
  obtain ⟨x, _, hx⟩ := Finset.mem_map.mp h
  exact ⟨x, hx⟩

omit [FloatOps F] in
/-- A block passed on from `c` to `d` is `gath`'s block there, where the two agree whose rows it holds. -/
theorem pass_on (c d : Dev nD) (j : Fin 32) (fd : Buf (Elt F) ((d : Thread nD τ).loc main_v1))
    (h : own d j.val = own c j.val) :
    (((oB j).view.loc (d : Thread nD τ) ↦[(oB j).view.set]{fullShare}
        ((oB j).view.write (Elt F) fd ((oB j).view.read (Elt F) (gath m c)) Finset.univ)) : sProp 𝕄) = ob d j fullShare (gath m d) := by
  unfold ob
  refine pointsTo_congr fun i hi => ?_
  obtain ⟨x, rfl⟩ := exists_emb (oB j).view hi
  have hj := (mem_oB j _).mp hi
  rw [View.write_emb_of_mem _ _ (Finset.mem_univ x)]
  show gath m c ((oB j).view.emb x) = gath m d ((oB j).view.emb x)
  unfold gath
  rw [hj, h]

omit [FloatOps F] in
/-- The first hop, from the sender's argument. -/
theorem first_hop (c d : Dev nD) (i : Fin 8) (j : Fin 32) (fd : Buf (Elt F) ((d : Thread nD τ).loc main_v1))
    (h : own d j.val = c) (hi : j.val % 8 = i.val) :
    (((oB j).view.loc (d : Thread nD τ) ↦[(oB j).view.set]{fullShare}
        ((oB j).view.write (Elt F) fd ((xB i).view.read (Elt F) (xv m c)) Finset.univ)) : sProp 𝕄) = ob d j fullShare (gath m d) := by
  unfold ob
  refine pointsTo_congr fun i' hi' => ?_
  obtain ⟨x, rfl⟩ := exists_emb (oB j).view hi'
  have hj := (mem_oB j _).mp hi'
  rw [View.write_emb_of_mem _ _ (Finset.mem_univ x)]
  show xv m c ((xB i).view.emb x) = gath m d ((oB j).view.emb x)
  have he : (xB i).view.emb x = argIx ((oB j).view.emb x) := by
    funext a
    have hx : (x 0).val < 2048 := (x 0).isLt
    refine Fin.ext ((emb_xB i x a).trans ?_)
    have ho := emb_oB j x a
    fin_cases a
    · show 2048 * i.val + (x 0).val = ((oB j).view.emb x 0).val % 16384
      have ho : ((oB j).view.emb x 0).val = 2048 * j.val + (x 0).val := ho
      omega
    · exact ho.symm
  unfold gath
  rw [hj, h, he]

omit [FloatOps F] in
/-- The local copy, of the whole argument to the device's own chunk. -/
theorem own_chunk (c : Dev nD) (y : Fin 4) (hy : y = yF c) (fd : Buf (Elt F) ((c : Thread nD τ).loc main_v1)) :
    (((oC y).view.loc (c : Thread nD τ) ↦[(oC y).view.set]{fullShare}
        ((oC y).view.write (Elt F) fd (xM.view.read (Elt F) (xv m c)) Finset.univ)) : sProp 𝕄) = oc c (gath m c) := by
  subst hy
  unfold oc
  refine pointsTo_congr fun i hi => ?_
  obtain ⟨x, rfl⟩ := exists_emb (oC (yF c)).view hi
  have hj := (mem_oC (yF c) _).mp hi
  rw [View.write_emb_of_mem _ _ (Finset.mem_univ x)]
  show xv m c x = gath m c ((oC (yF c)).view.emb x)
  have he : x = argIx ((oC (yF c)).view.emb x) := by
    funext a
    have hx : (x 0).val < 16384 := (x 0).isLt
    refine Fin.ext ?_
    have ho := emb_oC (yF c) x a
    fin_cases a
    · show (x 0).val = ((oC (yF c)).view.emb x 0).val % 16384
      have ho : ((oC (yF c)).view.emb x 0).val = 16384 * (yF c).val + (x 0).val := ho
      omega
    · exact (ho.trans (Nat.zero_add _)).symm
  have hown : own c (((oC (yF c)).view.emb x 0).val / 2048) = c := by
    unfold own; rw [if_pos]
    have : (yF c).val = yy c := rfl
    omega
  unfold gath
  rw [hown, ← he]

end Cert.AllGather

end
-- ==== Proof.State.lean ====
/-
# Where a device stands in its run

What a device still owes the other devices' semaphores, the order its waits respect, and the assertion `St`: everything a
device holds, as a function of how far it has come in the kernel's five runs over the 24 transfers.
-/
module

public import proofs.«01_k».proof.Proof.Copy

@[expose] public section

set_option maxRecDepth 16384

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What a device owes -/

/-- Device `c`'s debt for the transfers numbered `n` and up: a block's count at the receiving semaphore of each; -/
def oS (c : Dev nD) (n : ℕ) : CellTallies nD τ sig Unit :=
  ∑ e : Ev, if n ≤ e.val ∧ sv c e = true then tallyAt (cell (nb c e) (kRs e)) () NB else 0
/-- and the same for the copies across `x`. -/
def oR (c : Dev nD) (n : ℕ) : CellTallies nD τ sig Unit :=
  ∑ e : Ev, if n ≤ e.val ∧ rv c e = true then tallyAt (cell (par c) (kRx e)) () NB else 0
def owed (c : Dev nD) (ns nr : ℕ) : CellTallies nD τ sig Unit := oS c ns + oR c nr

/-- A sum over the transfers from `n` on, with transfer `n` set apart. -/
theorem sum_from (b : Ev → Bool) (T : Ev → CellTallies nD τ sig Unit) (e : Ev) :
    (∑ e' : Ev, if e.val ≤ e'.val ∧ b e' = true then T e' else 0)
      = (∑ e' : Ev, if e.val + 1 ≤ e'.val ∧ b e' = true then T e' else 0) + (if b e = true then T e else 0) := by
  rw [← Finset.add_sum_erase _ _ (Finset.mem_univ e), ← Finset.add_sum_erase (a := e) (s := Finset.univ)
    (f := fun e' : Ev => if e.val + 1 ≤ e'.val ∧ b e' = true then T e' else 0) (Finset.mem_univ e)]
  rw [if_neg (show ¬(e.val + 1 ≤ e.val ∧ b e = true) by omega), zero_add, add_comm]
  congr 1
  · refine Finset.sum_congr rfl fun e' he' => ?_
    have hne : e'.val ≠ e.val := fun h => Finset.ne_of_mem_erase he' (Fin.ext h)
    by_cases h : e.val ≤ e'.val ∧ b e' = true
    · rw [if_pos h, if_pos ⟨by omega, h.2⟩]
    · rw [if_neg h, if_neg fun h' => h ⟨by omega, h'.2⟩]
  · simp only [le_refl, true_and]

/-- A transfer made is owed no more; -/
theorem owed_send (c : Dev nD) (e : Ev) (nr : ℕ) (h : sv c e = true) :
    owed c e.val nr = owed c (e.val + 1) nr + tallyAt (cell (nb c e) (kRs e)) () NB := by
  unfold owed oS
  rw [sum_from (sv c) (fun e => tallyAt (cell (nb c e) (kRs e)) () NB) e, if_pos h, add_right_comm]
/-- one that the device does not make never was. -/
theorem owed_send_none (c : Dev nD) (e : Ev) (nr : ℕ) (h : ¬ sv c e = true) : owed c e.val nr = owed c (e.val + 1) nr := by
  unfold owed oS
  rw [sum_from (sv c) (fun e => tallyAt (cell (nb c e) (kRs e)) () NB) e, if_neg h, add_zero]
/-- A block passed across is owed no more; -/
theorem owed_recv (c : Dev nD) (e : Ev) (ns : ℕ) (h : rv c e = true) :
    owed c ns e.val = owed c ns (e.val + 1) + tallyAt (cell (par c) (kRx e)) () NB := by
  unfold owed oR
  rw [sum_from (rv c) (fun e => tallyAt (cell (par c) (kRx e)) () NB) e, if_pos h, add_assoc]
/-- one that the device does not receive never was. -/
theorem owed_recv_none (c : Dev nD) (e : Ev) (ns : ℕ) (h : ¬ rv c e = true) : owed c ns e.val = owed c ns (e.val + 1) := by
  unfold owed oR
  rw [sum_from (rv c) (fun e => tallyAt (cell (par c) (kRx e)) () NB) e, if_neg h, add_zero]
/-- In the end nothing is owed. -/
theorem owed_done (c : Dev nD) : owed c 24 24 = 0 := by
  unfold owed oS oR
  rw [Finset.sum_eq_zero fun e _ => if_neg fun h => by have := e.isLt; omega,
    Finset.sum_eq_zero fun e _ => if_neg fun h => by have := e.isLt; omega, add_zero]

/-- Where a sum of debts is positive, one of them is. -/
theorem pos_of_sum (n : ℕ) (b : Ev → Bool) (g' : Ev → GSem nD τ sig) {g : GSem nD τ sig} {u : Unit}
    (h : 0 < (∑ e : Ev, if n ≤ e.val ∧ b e = true then tallyAt (g' e) () NB else (0 : CellTallies nD τ sig Unit)) g u) :
    ∃ e : Ev, n ≤ e.val ∧ g = g' e := by
  by_contra hc
  rw [Finset.sum_apply, Finsupp.finset_sum_apply] at h
  refine absurd h (Nat.not_lt.mpr (Nat.le_of_eq (Finset.sum_eq_zero fun e _ => ?_)))
  by_cases he : n ≤ e.val ∧ b e = true
  · rw [if_pos he, tallyAt_apply, if_neg fun hg => hc ⟨e, he.1, hg.1⟩]
  · rw [if_neg he]; rfl
/-- What is owed is owed to a transfer still to be made or a block still to be passed across. -/
theorem owed_pos (c : Dev nD) (ns nr : ℕ) {g : GSem nD τ sig} {u : Unit} (h : 0 < owed c ns nr g u) :
    (∃ e : Ev, ns ≤ e.val ∧ g = cell (nb c e) (kRs e)) ∨ ∃ e : Ev, nr ≤ e.val ∧ g = cell (par c) (kRx e) := by
  unfold owed at h
  rw [Pi.add_apply, Finsupp.add_apply] at h
  rcases Nat.eq_zero_or_pos (oS c ns g u) with h0 | h0
  · rw [h0, Nat.zero_add] at h; right; unfold oR at h; exact pos_of_sum nr (rv c) _ h
  · left; unfold oS at h0; exact pos_of_sum ns (sv c) _ h0

/-! ## The order of the waits -/

/-- The barrier is waited for first, then the transfers, step by step, and last the copies across `x`. -/
def klv : Kx → ℕ
  | none => 1
  | some (some (1, e)) => 2 + e.val / 8
  | some (some (3, _)) => 10
  | _ => 0
def lv (g : GSem nD τ sig) (_ : Unit) : ℕ := klv (kx g.2)
def L (g : GSem nD τ sig) : Finset Unit := if g.1.2 = .tc then {()} else ∅

/-- The level of a semaphore is its name's, -/
theorem lv_cell (c : Dev nD) (k : Kx) (u : Unit) : lv (cell c k) u = klv k := congrArg klv (kx_csem k)
/-- and every semaphore of a TensorCore has one. -/
theorem L_cell (c : Dev nD) (k : Kx) (u : Unit) : u ∈ L (cell c k) := by unfold L; rw [if_pos rfl]; exact Finset.mem_singleton_self _
/-- No other semaphore has. -/
theorem L_of_ne (g : GSem nD τ sig) (h : ¬ g.1.2 = .tc) : L g = ∅ := if_neg h

omit [FloatOps F] in
/-- A wait is allowed when everything still owed lies above it. -/
theorem may_wait (c : Dev nD) (k : Kx) (ns nr : ℕ) (hs : ∀ e : Ev, ns ≤ e.val → klv k < 2 + e.val / 8) (hr : klv k < 10) :
    (levAts L lv : sProp 𝕄) ⊢ MayWait (c : Thread nD τ) (csem k) () (owed c ns nr) :=
  MayOwe.of_cut (L := L) (lev := lv) (klv k)
    (fun p hp => by rw [Finset.mem_singleton.mp hp]; exact L_cell c k _)
    (fun g u hg => by
      rcases owed_pos c ns nr hg with ⟨e, _, rfl⟩ | ⟨e, _, rfl⟩
      · exact L_cell _ _ _
      · exact L_cell _ _ _)
    (fun p hp => by rw [Finset.mem_singleton.mp hp]; exact Nat.le_of_eq (lv_cell c k _))
    (fun g u hg => by
      rcases owed_pos c ns nr hg with ⟨e, he, rfl⟩ | ⟨e, _, rfl⟩
      · rw [lv_cell]; exact hs e he
      · rw [lv_cell]; exact hr)

/-! ## The assertion -/

variable (K : Dev nD × Kx → ℕ)

/-- The records of all the semaphores: the invariant each is under, and that its round 0 is open. -/
def recs : sProp 𝕄 :=
  iprop((bigSep Finset.univ fun p : Dev nD × Kx => cellInv ER (Rd m) (K p) (cell p.1 p.2))
    ∗ bigSep Finset.univ fun p : Dev nD × Kx => reached ER (cell p.1 p.2) 0)

omit [FloatOps F] in
instance recs_persistent : BI.Persistent (recs (F := F) m K) := by unfold recs; infer_instance

omit [FloatOps F] in
/-- Any semaphore's invariant, from the record; -/
theorem recs_inv (c : Dev nD) (k : Kx) : recs (F := F) m K ⊢ cellInv ER (Rd m) (K (c, k)) (cell c k) := by
  have h : (bigSep Finset.univ fun p : Dev nD × Kx => (cellInv ER (Rd (F := F) m) (K p) (cell p.1 p.2) : sProp 𝕄))
      ⊢ cellInv ER (Rd m) (K (c, k)) (cell c k) := bigSep_elim (Finset.mem_univ (c, k))
  unfold recs
  iintro ⟨H, -⟩
  iapply h $$ H
omit [FloatOps F] in
/-- and that its round was reached. -/
theorem recs_reached (c : Dev nD) (k : Kx) : recs (F := F) m K ⊢ reached ER (cell c k) 0 := by
  have h : (bigSep Finset.univ fun p : Dev nD × Kx => (reached ER (cell p.1 p.2) 0 : sProp 𝕄)) ⊢ reached ER (cell c k) 0 :=
    bigSep_elim (Finset.mem_univ (c, k))
  unfold recs
  iintro ⟨-, H⟩
  iapply h $$ H

/-- The share of its argument a step-0 transfer reads. -/
def shr (e : Ev) : PosShare TreeShare := if e.val % 2 = 0 then fullShare.right.left else fullShare.right.right

/-- What transfer `e` reads: rows of the argument in step 0, a received block later. -/
def srcP (c : Dev nD) (e : Ev) : sProp 𝕄 :=
  if e.val < 8 then xb m c (jq c e) (shr e) else ob c (js c e) fullShare.left (gath m c)

abbrev credAt (c : Dev nD) (k : Kx) : sProp 𝕄 := cred (tallyAt (cell c k) () NB)
abbrev tok (c : Dev nD) (k : Kx) : sProp 𝕄 := dutyTok ER (cell c k) 0 0
abbrev pos (c : Dev nD) (k : Kx) : sProp 𝕄 := atPos ER (cell c k) 0 ∅ 0
abbrev closed (c : Dev nD) (k : Kx) : sProp 𝕄 := semVal (cell c k) 0

/-- Transfer `e`'s sending side: before it starts, `n` transfers having been made; -/
def sIdle (c : Dev nD) (e : Ev) : sProp 𝕄 :=
  iprop(pos c (kSs e) ∗ tok c (kSs e) ∗ tok (nb c e) (kRs e) ∗ gd (sv c e) (roomS c e))
/-- after it started; `n₁` of the sends' completions having been waited for. -/
def sSent (n₁ : ℕ) (c : Dev nD) (e : Ev) : sProp 𝕄 :=
  if e.val < n₁ then closed c (kSs e) else iprop(pos c (kSs e) ∗ gd (sv c e) (credAt c (kSs e)))
def sArr (ns n₁ : ℕ) (c : Dev nD) (e : Ev) : sProp 𝕄 := if e.val < ns then sSent n₁ c e else sIdle c e

/-- The transfers whose source is at hand. -/
def qArr (ns nr : ℕ) (c : Dev nD) (e : Ev) : sProp 𝕄 :=
  gd (sv c e && (decide (ns ≤ e.val) && decide (e.val < nr + 8))) (srcP m c e)

/-- Transfer `e`'s receiving side, and its copy across `x`: before it is waited for; -/
def rIdle (c : Dev nD) (e : Ev) : sProp 𝕄 :=
  iprop(pos c (kRs e) ∗ gd (rv c e) (credAt c (kRs e)) ∗ pos c (kSx e) ∗ tok c (kSx e) ∗ tok (par c) (kRx e) ∗ gd (rv c e) (roomX c e))
/-- after; `n₂` of the copies' completions having been waited for. -/
def rGot (n₂ : ℕ) (c : Dev nD) (e : Ev) : sProp 𝕄 :=
  iprop(closed c (kRs e) ∗ if e.val < n₂ then iprop(closed c (kSx e) ∗ gd (rv c e) (ob c (jr c e) fullShare.right (gath m c)))
    else iprop(pos c (kSx e) ∗ gd (rv c e) (credAt c (kSx e))))
def rArr (nr n₂ : ℕ) (c : Dev nD) (e : Ev) : sProp 𝕄 := if e.val < nr then rGot m n₂ c e else rIdle c e

/-- The block that arrives across `x`: waited for, or not yet. -/
def xArr (nx : ℕ) (c : Dev nD) (e : Ev) : sProp 𝕄 :=
  if e.val < nx then iprop(closed c (kRx e) ∗ gd (rv c e) (ob c (jx c e) fullShare (gath m c)))
  else iprop(pos c (kRx e) ∗ gd (rv c e) (credAt c (kRx e)))

/-- Device `c` after `ns` transfers, `nr` receipts, `nx` receipts across `x`, `n₁` and `n₂` completions, holding `A` besides. -/
def St (A : sProp 𝕄) (c : Dev nD) (ns nr nx n₁ n₂ : ℕ) : sProp 𝕄 :=
  iprop(recs m K ∗ levAts L lv ∗ (∃ W, owes (c : Thread nD τ) (owed c ns nr) W)
    ∗ (bigSep Finset.univ fun e => sArr ns n₁ c e) ∗ (bigSep Finset.univ fun e => qArr m ns nr c e)
    ∗ (bigSep Finset.univ fun e => rArr m nr n₂ c e) ∗ (bigSep Finset.univ fun e => xArr m nx c e) ∗ A)

/-- One more transfer done changes nothing for the others. -/
theorem lt_succ_iff {n : ℕ} (hn : n < 24) {j : Ev} (h : j ≠ ⟨n, hn⟩) : (j.val < n + 1) = (j.val < n) := by
  have : j.val ≠ n := fun h' => h (Fin.ext h')
  exact propext ⟨fun _ => by omega, fun _ => by omega⟩

section
variable {c : Dev nD} {n : ℕ} (hn : n < 24) {j : Ev} (h : j ≠ ⟨n, hn⟩)
include h

omit [FloatOps F] in
/-- A transfer made leaves the other transfers' sending sides as they were. -/
theorem sArr_send (n₁ : ℕ) : (sArr (n + 1) n₁ c j : sProp 𝕄) = sArr n n₁ c j := by unfold sArr; simp only [lt_succ_iff hn h]
omit [FloatOps F] in
/-- So does a send waited for. -/
theorem sArr_done (ns : ℕ) : (sArr ns (n + 1) c j : sProp 𝕄) = sArr ns n c j := by unfold sArr sSent; simp only [lt_succ_iff hn h]
omit [FloatOps F] in
/-- A receipt leaves the other receiving sides as they were. -/
theorem rArr_recv (n₂ : ℕ) : rArr m (n + 1) n₂ c j = rArr m n n₂ c j := by unfold rArr; simp only [lt_succ_iff hn h]
omit [FloatOps F] in
/-- So does the wait for a block passed across. -/
theorem rArr_done (nr : ℕ) : rArr m nr (n + 1) c j = rArr m nr n c j := by unfold rArr rGot; simp only [lt_succ_iff hn h]
omit [FloatOps F] in
/-- A block received from across leaves the others as they were. -/
theorem xArr_recv : xArr m (n + 1) c j = xArr m n c j := by unfold xArr; simp only [lt_succ_iff hn h]
omit [FloatOps F] in
/-- A transfer made leaves the other transfers' sources as they were. -/
theorem qArr_send (nr : ℕ) : qArr m (n + 1) nr c j = qArr m n nr c j := by
  have : j.val ≠ n := fun h' => h (Fin.ext h')
  have he : (n + 1 ≤ j.val) = (n ≤ j.val) := propext ⟨fun _ => by omega, fun _ => by omega⟩
  unfold qArr; simp only [he]
end

omit [FloatOps F] in
/-- A receipt adds a source for the transfer that passes the block on, and for no other. -/
theorem qArr_recv {c : Dev nD} {n : ℕ} (hn : n < 24) (ns : ℕ) {j : Ev} (h : j ≠ fwd ⟨n, hn⟩) : qArr m ns (n + 1) c j = qArr m ns n c j := by
  have hj : j.val ≠ (n + 8) % 24 := fun h' => h (Fin.ext h')
  have := j.isLt
  have he : (j.val < n + 1 + 8) = (j.val < n + 8) := propext ⟨fun _ => by omega, fun _ => by omega⟩
  unfold qArr; simp only [he]

/-! ## One transfer's part taken out, to be put back changed -/

section
variable {c : Dev nD} {n : ℕ} (hn : n < 24)

omit [FloatOps F] in
/-- A sending side, to be put back as sent; -/
theorem take_send (n₁ : ℕ) : (bigSep Finset.univ fun e => (sArr n n₁ c e : sProp 𝕄))
    ⊢ iprop(sArr n n₁ c ⟨n, hn⟩ ∗ (sArr (n + 1) n₁ c ⟨n, hn⟩ -∗ bigSep Finset.univ fun e => sArr (n + 1) n₁ c e)) :=
  bigSep_univ_update (Φ := fun e => (sArr n n₁ c e : sProp 𝕄)) (Ψ := fun e => sArr (n + 1) n₁ c e) (⟨n, hn⟩ : Ev)
    fun _ hj => sArr_send hn hj n₁
omit [FloatOps F] in
/-- to be put back as waited for. -/
theorem take_sent (ns : ℕ) : (bigSep Finset.univ fun e => (sArr ns n c e : sProp 𝕄))
    ⊢ iprop(sArr ns n c ⟨n, hn⟩ ∗ (sArr ns (n + 1) c ⟨n, hn⟩ -∗ bigSep Finset.univ fun e => sArr ns (n + 1) c e)) :=
  bigSep_univ_update (Φ := fun e => (sArr ns n c e : sProp 𝕄)) (Ψ := fun e => sArr ns (n + 1) c e) (⟨n, hn⟩ : Ev)
    fun _ hj => sArr_done hn hj ns
omit [FloatOps F] in
/-- A source, to be used up. -/
theorem take_source (nr : ℕ) : (bigSep Finset.univ fun e => qArr m n nr c e)
    ⊢ iprop(qArr m n nr c ⟨n, hn⟩ ∗ (qArr m (n + 1) nr c ⟨n, hn⟩ -∗ bigSep Finset.univ fun e => qArr m (n + 1) nr c e)) :=
  bigSep_univ_update (Φ := fun e => qArr m n nr c e) (Ψ := fun e => qArr m (n + 1) nr c e) (⟨n, hn⟩ : Ev)
    fun _ hj => qArr_send m hn hj nr
omit [FloatOps F] in
/-- The source of the transfer that passes a block on, to be put back filled. -/
theorem take_next (ns : ℕ) : (bigSep Finset.univ fun e => qArr m ns n c e)
    ⊢ iprop(qArr m ns n c (fwd ⟨n, hn⟩) ∗ (qArr m ns (n + 1) c (fwd ⟨n, hn⟩) -∗ bigSep Finset.univ fun e => qArr m ns (n + 1) c e)) :=
  bigSep_univ_update (Φ := fun e => qArr m ns n c e) (Ψ := fun e => qArr m ns (n + 1) c e) (fwd ⟨n, hn⟩)
    fun _ hj => qArr_recv m hn ns hj
omit [FloatOps F] in
/-- A receiving side, to be put back as received; -/
theorem take_recv (n₂ : ℕ) : (bigSep Finset.univ fun e => rArr m n n₂ c e)
    ⊢ iprop(rArr m n n₂ c ⟨n, hn⟩ ∗ (rArr m (n + 1) n₂ c ⟨n, hn⟩ -∗ bigSep Finset.univ fun e => rArr m (n + 1) n₂ c e)) :=
  bigSep_univ_update (Φ := fun e => rArr m n n₂ c e) (Ψ := fun e => rArr m (n + 1) n₂ c e) (⟨n, hn⟩ : Ev)
    fun _ hj => rArr_recv m hn hj n₂
omit [FloatOps F] in
/-- to be put back as passed across and waited for. -/
theorem take_passed (nr : ℕ) : (bigSep Finset.univ fun e => rArr m nr n c e)
    ⊢ iprop(rArr m nr n c ⟨n, hn⟩ ∗ (rArr m nr (n + 1) c ⟨n, hn⟩ -∗ bigSep Finset.univ fun e => rArr m nr (n + 1) c e)) :=
  bigSep_univ_update (Φ := fun e => rArr m nr n c e) (Ψ := fun e => rArr m nr (n + 1) c e) (⟨n, hn⟩ : Ev)
    fun _ hj => rArr_done m hn hj nr
omit [FloatOps F] in
/-- A receipt from across, to be put back as received. -/
theorem take_across : (bigSep Finset.univ fun e => xArr m n c e)
    ⊢ iprop(xArr m n c ⟨n, hn⟩ ∗ (xArr m (n + 1) c ⟨n, hn⟩ -∗ bigSep Finset.univ fun e => xArr m (n + 1) c e)) :=
  bigSep_univ_update (Φ := fun e => xArr m n c e) (Ψ := fun e => xArr m (n + 1) c e) (⟨n, hn⟩ : Ev)
    fun _ hj => xArr_recv m hn hj
end

/-! ## The stages of one transfer, read off -/

omit [FloatOps F] in
/-- Under a condition that holds, and one that fails. -/
theorem gd_elim {b : Bool} (h : b = true) (P : sProp 𝕄) : gd b P ⊢ P := Entails.of_eq (gd_true h P)
omit [FloatOps F] in
/-- A thing held, put under a condition that holds. -/
theorem gd_intro {b : Bool} (h : b = true) (P : sProp 𝕄) : P ⊢ gd b P := Entails.of_eq (gd_true h P).symm
omit [FloatOps F] in
/-- Under a condition that fails there is nothing to show. -/
theorem gd_none {b : Bool} (h : ¬ b = true) (P Q : sProp 𝕄) : Q ⊢ gd b P := by rw [gd_false h]; iintro -; iempintro

section
variable {c : Dev nD} {e : Ev} {n ns nr : ℕ}

omit [FloatOps F] in
/-- A sending side before its transfer, -/
theorem sArr_idle {n₁ : ℕ} (h : ¬ e.val < ns) : (sArr ns n₁ c e : sProp 𝕄) = sIdle c e := if_neg h
omit [FloatOps F] in
/-- after it, -/
theorem sArr_sent {n₁ : ℕ} (h : e.val < ns) (h₁ : ¬ e.val < n₁) :
    (sArr ns n₁ c e : sProp 𝕄) = iprop(pos c (kSs e) ∗ gd (sv c e) (credAt c (kSs e))) := (if_pos h).trans (if_neg h₁)
omit [FloatOps F] in
/-- and after the wait for it. -/
theorem sArr_closed {n₁ : ℕ} (h : e.val < ns) (h₁ : e.val < n₁) : (sArr ns n₁ c e : sProp 𝕄) = closed c (kSs e) :=
  (if_pos h).trans (if_pos h₁)
omit [FloatOps F] in
/-- A source while it is there. -/
theorem qArr_here (h : ns ≤ e.val) (h' : e.val < nr + 8) : qArr m ns nr c e = gd (sv c e) (srcP m c e) := by
  unfold qArr; rw [decide_eq_true h, decide_eq_true h', Bool.and_true, Bool.and_true]
omit [FloatOps F] in
/-- Before it is there and once it is used there is nothing to show. -/
theorem qArr_gone (h : ¬(ns ≤ e.val ∧ e.val < nr + 8)) (Q : sProp 𝕄) : Q ⊢ qArr m ns nr c e := by
  unfold qArr
  refine gd_none (fun hb => h ?_) _ _
  rw [Bool.and_eq_true, Bool.and_eq_true, decide_eq_true_eq, decide_eq_true_eq] at hb
  exact hb.2
omit [FloatOps F] in
/-- A receiving side before its receipt, -/
theorem rArr_idle {n₂ : ℕ} (h : ¬ e.val < nr) : rArr m nr n₂ c e = rIdle c e := if_neg h
omit [FloatOps F] in
/-- after it, the block being passed across, -/
theorem rArr_sent {n₂ : ℕ} (h : e.val < nr) (h₂ : ¬ e.val < n₂) :
    rArr m nr n₂ c e = iprop(closed c (kRs e) ∗ pos c (kSx e) ∗ gd (rv c e) (credAt c (kSx e))) := by
  unfold rArr rGot; rw [if_pos h, if_neg h₂]
omit [FloatOps F] in
/-- and after the wait for that. -/
theorem rArr_closed {n₂ : ℕ} (h : e.val < nr) (h₂ : e.val < n₂) :
    rArr m nr n₂ c e = iprop(closed c (kRs e) ∗ closed c (kSx e) ∗ gd (rv c e) (ob c (jr c e) fullShare.right (gath m c))) := by
  unfold rArr rGot; rw [if_pos h, if_pos h₂]
omit [FloatOps F] in
/-- A receipt from across before its wait, -/
theorem xArr_idle {nx : ℕ} (h : ¬ e.val < nx) : xArr m nx c e = iprop(pos c (kRx e) ∗ gd (rv c e) (credAt c (kRx e))) := if_neg h
omit [FloatOps F] in
/-- and after it. -/
theorem xArr_got {nx : ℕ} (h : e.val < nx) :
    xArr m nx c e = iprop(closed c (kRx e) ∗ gd (rv c e) (ob c (jx c e) fullShare (gath m c))) := if_pos h
end

end Cert.AllGather

end
-- ==== Proof.Steps.lean ====
/-
# One lemma per kind of statement

Each kind of conditional statement of the kernel, at any of the 24 transfers: the transfer to the neighbour, the receipt
that is passed on across `x`, the receipt across `x`, and the two waits for a copy's completion. Each takes a device from
one stage `St` to the next, whether or not the condition holds on it.
-/
module

public import proofs.«01_k».proof.Proof.State

@[expose] public section

set_option maxRecDepth 16384

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Kx → ℕ)

abbrev 𝒱₀ : Variants := Variants.none

/-- The kernel's programs. -/
abbrev Pg (F : FTy → Type) [FloatOps F] (α : Type) : Type 1 := Prog (TpuEff nD τ sig (Elt F) Λ₀ .tc) α

/-- Running `p` on device `c`, to end in `Q`. -/
abbrev WP {α : Type} (c : Dev nD) (p : Pg F α) (Q : α → sProp 𝕄) : sProp 𝕄 :=
  wp frame (wpE (defs₀ (F := F)) 𝒱₀ (c : Thread nD τ) none) Set.univ p Q

/-- Running one piece of the program and then the rest. -/
theorem WP_seq {α β : Type} {c : Dev nD} {p : Pg F α} {f : α → Pg F β} {P : sProp 𝕄} {R : α → sProp 𝕄} {Q : β → sProp 𝕄}
    (h : P ⊢ WP c p R) (hk : ∀ a, R a ⊢ WP c (f a) Q) : P ⊢ WP c (Bind.bind p f) Q := by
  show P ⊢ wp frame _ Set.univ (p >>= f) Q
  rw [wp_bind]
  exact h.trans (wp_mono _ _ _ hk)

/-- A statement under a condition, both ways. -/
theorem WP_ite {α : Type} {c : Dev nD} {p : Prop} [Decidable p] {t : p → Pg F α} {f : ¬p → Pg F α} {P : sProp 𝕄} {Q : α → sProp 𝕄}
    (ht : ∀ h, P ⊢ WP c (t h) Q) (hf : ∀ h, P ⊢ WP c (f h) Q) : P ⊢ WP c (dite p t f) Q := by
  by_cases h : p
  · rw [dif_pos h]; exact ht h
  · rw [dif_neg h]; exact hf h

/-- An update of what a device holds, before it goes on. -/
theorem WP_update {α : Type} {c : Dev nD} {p : Pg F α} {P R : sProp 𝕄} {Q : α → sProp 𝕄}
    (h : P ⊢ iprop(|={Set.univ}=> R)) (hk : R ⊢ WP c p Q) : P ⊢ WP c p Q :=
  h.trans ((fupd_mono hk).trans (fupd_wp _ _ _ _ _))

omit [FloatOps F] in
/-- Anything may be let go. -/
theorem to_emp (P : sProp 𝕄) : P ⊢ (iprop(emp) : sProp 𝕄) := by iintro -; iempintro

/-! ## The three operations -/

/-- A copy to another device's result: the source share and the room go in, the debt for it is paid, and a credit for its
    completion comes out. -/
theorem remote_core (c d : Dev nD) {kS kR : Fin 4 × Ev} (hS : used c (some kS) = true) (hR : used d (some kR) = true) (j : Fin 32)
    {src : Memref sig .tc .hbm S2048x1024 .f32} {q : PosShare TreeShare} {fs : Buf (Elt F) (src.view.loc (c : Thread nD τ))}
    {O₀ : CellTallies nD τ sig Unit} (O : CellTallies nD τ sig Unit) (hO : O₀ = O + tallyAt (cell d (some (some kR))) () NB)
    (hpay₁ : ((src.view.loc (c : Thread nD τ) ↦[src.view.set]{q} fs) : sProp 𝕄) ⊢ dmaPay m c (some kS))
    (hpay₂ : ∀ fd, (((oB j).view.loc (d : Thread nD τ) ↦[(oB j).view.set]{fullShare}
        ((oB j).view.write (Elt F) fd (src.view.read (Elt F) fs) Finset.univ)) : sProp 𝕄) = dmaPay m d (some kR))
    {hsc : (oB j : Memref sig (Dev.tc d : Thread nD τ).2.kind .hbm S2048x1024 .f32).view.ref.isScScratch = false}
    {hsrc : src.view.WordExact} {hdst : (oB j).view.WordExact}
    {hsem : DmaTarget.Typed .hbm (.dma (code (some kR))) (.remote (Dev.tc d : Thread nD τ) (oB j) (.dma (code (some kS))) hsc)}
    {α : Type} {Q : α → sProp 𝕄} {k : PUnit → Pg F α} {W : Waits sig Unit} :
    iprop(recs m K ∗ (src.view.loc (c : Thread nD τ) ↦[src.view.set]{q} fs) ∗ (∃ f, ob d j fullShare f)
        ∗ owes (c : Thread nD τ) O₀ W ∗ tok c (some (some kS)) ∗ tok d (some (some kR)))
      ⊢ iprop(((credAt c (some (some kS)) ∗ owes (c : Thread nD τ) O W) -∗ WP c (k ⟨⟩) Q)
          -∗ WP c (.op (.enqueueDma src (.remote (Dev.tc d : Thread nD τ) (oB j) (.dma (code (some kS))) hsc)
              (.dma (code (some kR))) hsrc hdst hsem) k) Q) := by
  have hp₁ : ((src.view.loc (c : Thread nD τ) ↦[src.view.set]{q} fs) : sProp 𝕄) ⊢ (Rd m).payload (cell c (some (some kS))) 0 0 := by
    rw [payload_cell]; exact hpay₁
  have hp₂ : ∀ fd, (((oB j).view.loc (d : Thread nD τ) ↦[(oB j).view.set]{fullShare}
        ((oB j).view.write (Elt F) fd (src.view.read (Elt F) fs) Finset.univ)) : sProp 𝕄)
      ⊢ (Rd m).payload (cell d (some (some kR))) 0 0 := fun fd => by
    rw [payload_cell, hpay₂ fd]; exact BI.Entails.refl _
  iintro ⟨#Hrec, Hsrc, ⟨%fd, Hroom⟩, HO, Ht1, Ht2⟩
  unfold ob
  iapply (Rounds.wp_send_pointsTo 𝒱₀ ER (Rd m) (c : Thread nD τ) none (κ₁ := K (c, some (some kS))) (κ₂ := K (d, some (some kR)))
    (c' := (d : Thread nD τ)) (src := src) (dst := oB j) (hsc := hsc) (sS := .dma (code (some kS))) (sem := .dma (code (some kR)))
    (r₁ := 0) (r₂ := 0) (d₁ := 0) (d₂ := 0) (fd := fd) (mem_used m c hS) (mem_used m d hR)
    () () NB (credit_oB j) (amount_cell m c (some (some kS)) 0) (amount_cell m d (some (some kR)) 0) O hO (W := W)
    hp₁ (hp₂ fd)) $$ [Hsrc Hroom HO Ht1 Ht2]
  isplitr; · iapply (recs_inv m K c (some (some kS))) $$ Hrec
  isplitr; · iapply (recs_inv m K d (some (some kR))) $$ Hrec
  isplitl [Hsrc]; · iexact Hsrc
  isplitl [Hroom]; · iexact Hroom
  isplitl [HO]; · iexact HO
  isplitl [Ht1]; · iexact Ht1
  isplitr; · iapply (recs_reached m K c (some (some kS))) $$ Hrec
  isplitl [Ht2]; · iexact Ht2
  iapply (recs_reached m K d (some (some kR))) $$ Hrec

/-- A semaphore nothing raises can be retired unwaited. -/
theorem close_unused (c : Dev nD) {k : Dk} (h : ¬ used c k = true) :
    iprop(recs m K ∗ pos c (some k)) ⊢ iprop(|={Set.univ}=> closed c (some k)) := by
  iintro ⟨#Hrec, Hp⟩
  iapply (Rounds.cell_close ER (Rd m) (κ := K (c, some k)) (Set.mem_univ _) (fun h => h) (R := 0) (duties_unused m c h))
  isplitr; · iapply (recs_inv m K c (some k)) $$ Hrec
  iexact Hp

/-- A wait for a copy: what it hands over comes out, and its semaphore is retired. -/
theorem wait_core (c : Dev nD) {k : Dk} (h : used c k = true) {O : CellTallies nD τ sig Unit} {W : Waits sig Unit}
    {s' : Shape} {e' : EltTy} {src dst : Memref sig .tc .hbm s' e'} (hN : dst.view.dmaCredit = amt (some k))
    {hs : src.view.WordExact} {hd : dst.view.WordExact}
    {α : Type} {Q : α → sProp 𝕄} {κ : PUnit → Pg F α} :
    iprop(recs m K ∗ cred (tallyAt (cell c (some k)) () (amt (some k))) ∗ owes (c : Thread nD τ) O W
        ∗ MayWait (c : Thread nD τ) (csem (some k)) () O ∗ pos c (some k))
      ⊢ iprop((((∃ W, owes (c : Thread nD τ) O W) ∗ closed c (some k) ∗ dmaPay m c k) -∗ WP c (κ ⟨⟩) Q)
          -∗ WP c (.op (.waitDma2 (code k) src dst hs hd) κ) Q) := by
  iintro ⟨#Hrec, Hc, HO, Hm, Hp⟩ Hk
  iapply (Rounds.wp_wait_rest_token 𝒱₀ ER (Rd m) (c : Thread nD τ) none (κ := K (c, some k)) (sm := .dma (code k)) (k' := amt (some k))
      (fun Kt => by rw [← hN]; exact wpE_waitDma2_eq 𝒱₀ (c : Thread nD τ) none Set.univ Kt) (Set.mem_univ _) () (O := O) (W := W) (R := 0) (m := 0) (T := ∅)
      (by rw [Nat.zero_add]; exact (expect_used m c h).symm)) $$ [Hc HO Hm Hp]
  · isplitr; · iapply (recs_inv m K c (some k)) $$ Hrec
    isplitl [Hc]; · iexact Hc
    isplitl [HO]; · iexact HO
    isplitl [Hm]; · iexact Hm
    iexact Hp
  iintro ⟨HO, Hp, -, Hpay⟩
  ihave Hpay := (Entails.of_eq (rest_used m c h)) $$ Hpay
  imod (Rounds.cell_close ER (Rd m) (κ := K (c, some k)) (Set.mem_univ _) (fun h => h) (R := 0 + 1) (duties_later m (cell c (some k)))) $$ [Hp] with Hz
  · isplitr; · iapply (recs_inv m K c (some k)) $$ Hrec
    iexact Hp
  iapply Hk
  isplitl [HO]; · iexists _; iexact HO
  isplitl [Hz] <;> iassumption

/-! ## The transfer to the neighbour -/

variable {c : Dev nD}

/-- A transfer the device does not make. -/
theorem send_skip {A : sProp 𝕄} {n nr : ℕ} (hn : n < 24) (hv : ¬ sv c ⟨n, hn⟩ = true) : St m K A c n nr 0 0 0 ⊢ St m K A c (n + 1) nr 0 0 0 := by
  unfold St
  iintro ⟨#Hrec, #Hlev, ⟨%W, HO⟩, HS, HQ, HR⟩
  ihave HS := (take_send hn 0) $$ HS
  icases HS with ⟨Hs, HS⟩
  ihave HQ := (take_source m hn nr) $$ HQ
  icases HQ with ⟨Hq, HQ⟩
  ihave Hs := (Entails.of_eq (sArr_idle (e := ⟨n, hn⟩) (Nat.lt_irrefl n))) $$ Hs
  unfold sIdle
  icases Hs with ⟨Hp, -⟩
  isplitr; · iexact Hrec
  isplitr; · iexact Hlev
  isplitl [HO]
  · iexists W; iapply (Entails.of_eq (congrArg (fun O => owes (c : Thread nD τ) O W) (owed_send_none c ⟨n, hn⟩ nr hv))) $$ HO
  isplitl [HS Hp]
  · iapply HS
    iapply (Entails.of_eq (sArr_sent (e := ⟨n, hn⟩) (Nat.lt_succ_self n) (Nat.not_lt_zero n)).symm)
    isplitl [Hp]; · iexact Hp
    iapply (gd_none hv _ iprop(emp)); iempintro
  isplitl [HQ Hq]
  · iapply HQ
    iapply (qArr_gone m (c := c) (e := ⟨n, hn⟩) (ns := n + 1) (nr := nr) (fun h => Nat.not_succ_le_self n h.1) _) $$ Hq
  iexact HR

/-- A transfer the device makes. -/
theorem send_make {A : sProp 𝕄} {n nr : ℕ} (hn : n < 24) (hq : n < nr + 8) (hv : sv c ⟨n, hn⟩ = true)
    {src : Memref sig .tc .hbm S2048x1024 .f32} {q : PosShare TreeShare} {fs : Buf (Elt F) (src.view.loc (c : Thread nD τ))}
    (hs : srcP m c ⟨n, hn⟩ = (src.view.loc (c : Thread nD τ) ↦[src.view.set]{q} fs))
    (hpay : ∀ fd, (((oB (js c ⟨n, hn⟩)).view.loc (nb c ⟨n, hn⟩ : Thread nD τ) ↦[(oB (js c ⟨n, hn⟩)).view.set]{fullShare}
        ((oB (js c ⟨n, hn⟩)).view.write (Elt F) fd (src.view.read (Elt F) fs) Finset.univ)) : sProp 𝕄)
          = ob (nb c ⟨n, hn⟩) (js c ⟨n, hn⟩) fullShare (gath m (nb c ⟨n, hn⟩)))
    {hsc : (oB (js c ⟨n, hn⟩) : Memref sig (Dev.tc (nb c ⟨n, hn⟩) : Thread nD τ).2.kind .hbm S2048x1024 .f32).view.ref.isScScratch = false}
    {hsrc : src.view.WordExact} {hdst : (oB (js c ⟨n, hn⟩)).view.WordExact}
    {hsem : DmaTarget.Typed .hbm (.dma (code (some (1, ⟨n, hn⟩))))
      (.remote (Dev.tc (nb c ⟨n, hn⟩) : Thread nD τ) (oB (js c ⟨n, hn⟩)) (.dma (code (some (0, ⟨n, hn⟩)))) hsc)}
    {α : Type} {Q : α → sProp 𝕄} {k : PUnit → Pg F α} (hk : St m K A c (n + 1) nr 0 0 0 ⊢ WP c (k ⟨⟩) Q) :
    St m K A c n nr 0 0 0 ⊢ WP c (.op (.enqueueDma src (.remote (Dev.tc (nb c ⟨n, hn⟩) : Thread nD τ) (oB (js c ⟨n, hn⟩))
      (.dma (code (some (0, ⟨n, hn⟩)))) hsc) (.dma (code (some (1, ⟨n, hn⟩)))) hsrc hdst hsem) k) Q := by
  unfold St
  iintro ⟨#Hrec, #Hlev, ⟨%W, HO⟩, HS, HQ, HR⟩
  ihave HS := (take_send hn 0) $$ HS
  icases HS with ⟨Hs, HS⟩
  ihave HQ := (take_source m hn nr) $$ HQ
  icases HQ with ⟨Hq, HQ⟩
  ihave Hs := (Entails.of_eq (sArr_idle (e := ⟨n, hn⟩) (Nat.lt_irrefl n))) $$ Hs
  unfold sIdle roomS
  icases Hs with ⟨Hp, Ht1, Ht2, Hroom⟩
  ihave Hroom := (gd_elim hv _) $$ Hroom
  ihave Hq := (Entails.of_eq (qArr_here m (e := ⟨n, hn⟩) (Nat.le_refl n) hq)) $$ Hq
  ihave Hq := (gd_elim hv _) $$ Hq
  ihave Hq := (Entails.of_eq hs) $$ Hq
  have hpay' : ∀ fd, (((oB (js c ⟨n, hn⟩)).view.loc (nb c ⟨n, hn⟩ : Thread nD τ) ↦[(oB (js c ⟨n, hn⟩)).view.set]{fullShare}
        ((oB (js c ⟨n, hn⟩)).view.write (Elt F) fd (src.view.read (Elt F) fs) Finset.univ)) : sProp 𝕄)
      = dmaPay m (nb c ⟨n, hn⟩) (some (1, ⟨n, hn⟩)) := fun fd => by
    rw [hpay fd, ← jr_nb c _ hv]; rfl
  iapply (remote_core m K c (nb c ⟨n, hn⟩) (kS := (0, ⟨n, hn⟩)) (kR := (1, ⟨n, hn⟩)) hv ((rv_nb c _).trans hv) (js c ⟨n, hn⟩)
    (owed c (n + 1) nr) (owed_send c ⟨n, hn⟩ nr hv) (to_emp _) hpay' (W := W)) $$ [Hq Hroom HO Ht1 Ht2]
  · isplitr; · iexact Hrec
    isplitl [Hq]; · iexact Hq
    isplitl [Hroom]; · iexact Hroom
    isplitl [HO]; · iexact HO
    isplitl [Ht1] <;> iassumption
  iintro ⟨Hc, HO⟩
  iapply hk
  unfold St
  isplitr; · iexact Hrec
  isplitr; · iexact Hlev
  isplitl [HO]; · iexists W; iexact HO
  isplitl [HS Hp Hc]
  · iapply HS
    iapply (Entails.of_eq (sArr_sent (e := ⟨n, hn⟩) (Nat.lt_succ_self n) (Nat.not_lt_zero n)).symm)
    isplitl [Hp]; · iexact Hp
    iapply (gd_intro hv _) $$ Hc
  isplitl [HQ]
  · iapply HQ
    iapply (qArr_gone m (c := c) (e := ⟨n, hn⟩) (ns := n + 1) (nr := nr) (fun h => Nat.not_succ_le_self n h.1) iprop(emp)); iempintro
  iexact HR

/-- A block of the result, and of the argument, at an offset. -/
abbrev oAt (o : Fin 2 → ℕ) (h : ∀ a, o a + S2048x1024.size a ≤ S65536x1024.size a) : Memref sig .tc .hbm S2048x1024 .f32 :=
  oM.slice (Rect.unit (s := S65536x1024) o S2048x1024.size h) (fun _ => rfl)
abbrev xAt (o : Fin 2 → ℕ) (h : ∀ a, o a + S2048x1024.size a ≤ S16384x1024.size a) : Memref sig .tc .hbm S2048x1024 .f32 :=
  xM.slice (Rect.unit (s := S16384x1024) o S2048x1024.size h) (fun _ => rfl)
/-- A block of the result at an offset in closed form. -/
theorem oAt_eq {o : Fin 2 → ℕ} {h} {j : Fin 32} (ho : o = ![2048 * j.val, 0]) : oAt o h = oB j := by subst ho; rfl
/-- Its copy counts as any block's does. -/
theorem credit_oAt (o : Fin 2 → ℕ) (h) : (oAt o h).view.dmaCredit = NB := rfl
/-- A block of the argument at an offset in closed form. -/
theorem xAt_eq {o : Fin 2 → ℕ} {h} {i : Fin 8} (ho : o = ![2048 * i.val, 0]) : xAt o h = xB i := by subst ho; rfl

/-- A transfer the device makes, as the program writes it. -/
theorem send_at {A : sProp 𝕄} {n nr : ℕ} (hn : n < 24) (hq : n < nr + 8) (hv : sv c ⟨n, hn⟩ = true)
    {src src' : Memref sig .tc .hbm S2048x1024 .f32} (hsrc' : src = src') {o : Fin 2 → ℕ} (ho : o = ![2048 * (js c ⟨n, hn⟩).val, 0])
    {d : Dev nD} (hd : d = nb c ⟨n, hn⟩) {sS sR : DmaSem sig} (h0 : sS = code (some (0, ⟨n, hn⟩))) (h1 : sR = code (some (1, ⟨n, hn⟩)))
    {q : PosShare TreeShare} {fs : Buf (Elt F) (src'.view.loc (c : Thread nD τ))}
    (hs : srcP m c ⟨n, hn⟩ = (src'.view.loc (c : Thread nD τ) ↦[src'.view.set]{q} fs))
    (hpay : ∀ fd, (((oB (js c ⟨n, hn⟩)).view.loc (nb c ⟨n, hn⟩ : Thread nD τ) ↦[(oB (js c ⟨n, hn⟩)).view.set]{fullShare}
        ((oB (js c ⟨n, hn⟩)).view.write (Elt F) fd (src'.view.read (Elt F) fs) Finset.univ)) : sProp 𝕄)
          = ob (nb c ⟨n, hn⟩) (js c ⟨n, hn⟩) fullShare (gath m (nb c ⟨n, hn⟩)))
    {inb : ∀ a, o a + S2048x1024.size a ≤ S65536x1024.size a}
    {hsc : (oAt o inb : Memref sig (Dev.tc d : Thread nD τ).2.kind .hbm S2048x1024 .f32).view.ref.isScScratch = false}
    {hsrc : src.view.WordExact} {hdst : (oAt o inb).view.WordExact}
    {hsem : DmaTarget.Typed .hbm (.dma sR) (.remote (Dev.tc d : Thread nD τ) (oAt o inb) (.dma sS) hsc)}
    {α : Type} {Q : α → sProp 𝕄} {k : PUnit → Pg F α} (hk : St m K A c (n + 1) nr 0 0 0 ⊢ WP c (k ⟨⟩) Q) :
    St m K A c n nr 0 0 0 ⊢ WP c (.op (.enqueueDma src (.remote (Dev.tc d : Thread nD τ) (oAt o inb) (.dma sS) hsc)
      (.dma sR) hsrc hdst hsem) k) Q := by
  subst hsrc' ho hd h0 h1
  exact send_make m K hn hq hv hs hpay hk

/-- A transfer of step 0, under its condition. -/
theorem send_first {A : sProp 𝕄} (n : ℕ) (hn : n < 24 := by decide) (hn8 : n < 8 := by decide) {nr : ℕ}
    {cond : Dev nD → BitVec 1} {od ox : Dev nD → Fin 2 → ℕ} {dv : Dev nD → ℕ} {sS sR : DmaSem sig}
    (hc : ∀ d, cond d = 1#1 ↔ sv d ⟨n, hn⟩ = true := by decide +kernel)
    (hd : ∀ d, cond d = 1#1 → od d = ![2048 * (js d ⟨n, hn⟩).val, 0] := by decide +kernel)
    (hx : ∀ d, cond d = 1#1 → ox d = ![2048 * (jq d ⟨n, hn⟩).val, 0] := by decide +kernel)
    (hv : ∀ d, cond d = 1#1 → dv d = (nb d ⟨n, hn⟩).val := by decide +kernel)
    (h0 : sS = code (some (0, ⟨n, hn⟩)) := by decide +kernel) (h1 : sR = code (some (1, ⟨n, hn⟩)) := by decide +kernel)
    {inb : cond c = 1#1 → ∀ a, od c a + S2048x1024.size a ≤ S65536x1024.size a}
    {inbx : cond c = 1#1 → ∀ a, ox c a + S2048x1024.size a ≤ S16384x1024.size a}
    {lt : cond c = 1#1 → dv c < nD}
    {hsc : ∀ h : cond c = 1#1, (oAt (od c) (inb h) : Memref sig (Dev.tc (⟨dv c, lt h⟩ : Dev nD) : Thread nD τ).2.kind .hbm S2048x1024 .f32).view.ref.isScScratch = false}
    {hsrc : ∀ h : cond c = 1#1, (xAt (ox c) (inbx h)).view.WordExact} {hdst : ∀ h : cond c = 1#1, (oAt (od c) (inb h)).view.WordExact}
    {hsem : ∀ h : cond c = 1#1, DmaTarget.Typed .hbm (.dma sR)
      (.remote (Dev.tc (⟨dv c, lt h⟩ : Dev nD) : Thread nD τ) (oAt (od c) (inb h)) (.dma sS) (hsc h))}
    {α : Type} {Q : α → sProp 𝕄} {k : Pg F α} (hk : St m K A c (n + 1) nr 0 0 0 ⊢ WP c k Q) :
    St m K A c n nr 0 0 0 ⊢ WP c (dite (cond c = 1#1)
      (fun h => Bind.bind (Prog.lift (.enqueueDma (xAt (ox c) (inbx h))
        (.remote (Dev.tc (⟨dv c, lt h⟩ : Dev nD) : Thread nD τ) (oAt (od c) (inb h)) (.dma sS) (hsc h)) (.dma sR) (hsrc h) (hdst h) (hsem h)))
        fun _ => k) (fun _ => k)) Q := by
  refine WP_ite (fun h => ?_) (fun h => (send_skip m K hn fun h' => h ((hc c).mpr h')).trans hk)
  have hsv := (hc c).mp h
  simp only [Prog.lift, Prog.bind_op, Prog.bind_ret]
  exact send_at m K hn (by omega) hsv (xAt_eq (hx c h)) (hd c h) (Fin.ext (hv c h)) h0 h1 (q := shr ⟨n, hn⟩) (fs := xv m c) (if_pos hn8)
    (fun fd => first_hop m c (nb c ⟨n, hn⟩) (jq c ⟨n, hn⟩) (js c ⟨n, hn⟩) fd (own_first c _ hn8 hsv)
      (by have := js_first c ⟨n, hn⟩ hn8; have : (jq c ⟨n, hn⟩).val = (4 * xx c + n / 2) % 8 := rfl; simp only at *; omega)) hk

/-- A later transfer, under its condition: it passes on a block received before. -/
theorem send_next {A : sProp 𝕄} (n : ℕ) (hn : n < 24 := by decide) (hn8 : 8 ≤ n := by decide) {nr : ℕ} (hq : n < nr + 8 := by decide)
    {cond : Dev nD → BitVec 1} {od : Dev nD → Fin 2 → ℕ} {dv : Dev nD → ℕ} {sS sR : DmaSem sig}
    (hc : ∀ d, cond d = 1#1 ↔ sv d ⟨n, hn⟩ = true := by decide +kernel)
    (hd : ∀ d, cond d = 1#1 → od d = ![2048 * (js d ⟨n, hn⟩).val, 0] := by decide +kernel)
    (hv : ∀ d, cond d = 1#1 → dv d = (nb d ⟨n, hn⟩).val := by decide +kernel)
    (h0 : sS = code (some (0, ⟨n, hn⟩)) := by decide +kernel) (h1 : sR = code (some (1, ⟨n, hn⟩)) := by decide +kernel)
    {inb : cond c = 1#1 → ∀ a, od c a + S2048x1024.size a ≤ S65536x1024.size a}
    {lt : cond c = 1#1 → dv c < nD}
    {hsc : ∀ h : cond c = 1#1, (oAt (od c) (inb h) : Memref sig (Dev.tc (⟨dv c, lt h⟩ : Dev nD) : Thread nD τ).2.kind .hbm S2048x1024 .f32).view.ref.isScScratch = false}
    {hsrc hdst : ∀ h : cond c = 1#1, (oAt (od c) (inb h)).view.WordExact}
    {hsem : ∀ h : cond c = 1#1, DmaTarget.Typed .hbm (.dma sR)
      (.remote (Dev.tc (⟨dv c, lt h⟩ : Dev nD) : Thread nD τ) (oAt (od c) (inb h)) (.dma sS) (hsc h))}
    {α : Type} {Q : α → sProp 𝕄} {k : Pg F α} (hk : St m K A c (n + 1) nr 0 0 0 ⊢ WP c k Q) :
    St m K A c n nr 0 0 0 ⊢ WP c (dite (cond c = 1#1)
      (fun h => Bind.bind (Prog.lift (.enqueueDma (oAt (od c) (inb h))
        (.remote (Dev.tc (⟨dv c, lt h⟩ : Dev nD) : Thread nD τ) (oAt (od c) (inb h)) (.dma sS) (hsc h)) (.dma sR) (hsrc h) (hdst h) (hsem h)))
        fun _ => k) (fun _ => k)) Q := by
  refine WP_ite (fun h => ?_) (fun h => (send_skip m K hn fun h' => h ((hc c).mpr h')).trans hk)
  have hsv := (hc c).mp h
  simp only [Prog.lift, Prog.bind_op, Prog.bind_ret]
  exact send_at m K hn hq hsv (oAt_eq (hd c h)) (hd c h) (Fin.ext (hv c h)) h0 h1 (q := fullShare.left) (fs := gath m c)
    (if_neg (Nat.not_lt.mpr hn8))
    (fun fd => pass_on m c (nb c ⟨n, hn⟩) (js c ⟨n, hn⟩) fd (own_next c _ hn8 hsv)) hk

/-! ## The receipt, passed on across `x` -/

omit [FloatOps F] in
/-- What a receipt hands over: the block, filled. -/
theorem recv_pay (e : Ev) : dmaPay m c (some (1, e)) = ob c (jr c e) fullShare (gath m c) := rfl
omit [FloatOps F] in
/-- A block held is its two halves. -/
theorem ob_halves (j : Fin 32) (f : Buf (Elt F) ((c : Thread nD τ).loc main_v1)) :
    ob c j fullShare f ⊢ iprop(ob c j fullShare.left f ∗ ob c j fullShare.right f) := by
  unfold ob; exact (pointsTo_share (PosShare.mem_left_op_right fullShare)).1

omit [FloatOps F] in
/-- A block of the result, as the transfers' rules state it. -/
theorem ob_eq (c : Dev nD) (j : Fin 32) (q : PosShare TreeShare) (f : Buf (Elt F) ((c : Thread nD τ).loc main_v1)) :
    ob c j q f = ((oB j).view.loc (c : Thread nD τ) ↦[(oB j).view.set]{q} f) := rfl

omit [FloatOps F] in
/-- Half a share of the received block becomes the source of the transfer that passes it on, if there is one. -/
theorem source_made {n : ℕ} (hn : n < 24) (h16 : n < 16) (ns : ℕ) :
    ob c (jr c ⟨n, hn⟩) fullShare.left (gath m c) ⊢ qArr m ns (n + 1) c (fwd ⟨n, hn⟩) := by
  unfold qArr
  by_cases hb : (sv c (fwd ⟨n, hn⟩) && (decide (ns ≤ (fwd ⟨n, hn⟩).val) && decide ((fwd ⟨n, hn⟩).val < n + 1 + 8))) = true
  · have hf : ¬ (fwd ⟨n, hn⟩).val < 8 := by show ¬(n + 8) % 24 < 8; omega
    have he : srcP m c (fwd ⟨n, hn⟩) = ob c (jr c ⟨n, hn⟩) fullShare.left (gath m c) := by
      unfold srcP
      rw [if_neg hf, js_fwd c ⟨n, hn⟩ h16 ((Bool.and_eq_true _ _).mp hb).1]
    rw [← he]
    exact gd_intro hb _
  · exact gd_none hb _ _
omit [FloatOps F] in
/-- Where nothing is received, no source is added. -/
theorem source_none {n : ℕ} (hn : n < 24) (h : ¬ rv c ⟨n, hn⟩ = true) (ns : ℕ) :
    qArr m ns n c (fwd ⟨n, hn⟩) ⊢ qArr m ns (n + 1) c (fwd ⟨n, hn⟩) := by
  by_cases h16 : n < 16
  · exact gd_none (fun hb => h (rv_of_fwd c ⟨n, hn⟩ h16 ((Bool.and_eq_true _ _).mp hb).1)) _ _
  · refine gd_mono (fun hb => ?_) fun _ => BI.Entails.refl _
    simp only [Bool.and_eq_true, decide_eq_true_eq] at hb ⊢
    have : (fwd ⟨n, hn⟩).val = (n + 8) % 24 := rfl
    exact ⟨hb.1, hb.2.1, by omega⟩
omit [FloatOps F] in
/-- In the last step nothing is passed on. -/
theorem source_last {n : ℕ} (hn : n < 24) (h16 : ¬ n < 16) (ns : ℕ) :
    qArr m ns n c (fwd ⟨n, hn⟩) ⊢ qArr m ns (n + 1) c (fwd ⟨n, hn⟩) := by
  refine gd_mono (fun hb => ?_) fun _ => BI.Entails.refl _
  simp only [Bool.and_eq_true, decide_eq_true_eq] at hb ⊢
  have : (fwd ⟨n, hn⟩).val = (n + 8) % 24 := rfl
  exact ⟨hb.1, hb.2.1, by omega⟩

/-- A transfer the device does not receive. -/
theorem recv_skip {A : sProp 𝕄} {n ns : ℕ} (hn : n < 24) (hv : ¬ rv c ⟨n, hn⟩ = true) :
    St m K A c ns n 0 0 0 ⊢ iprop(|={Set.univ}=> St m K A c ns (n + 1) 0 0 0) := by
  unfold St
  iintro ⟨#Hrec, #Hlev, ⟨%W, HO⟩, HS, HQ, HR, HX⟩
  ihave HR := (take_recv m hn 0) $$ HR
  icases HR with ⟨Hr, HR⟩
  ihave HQ := (take_next m hn ns) $$ HQ
  icases HQ with ⟨Hq, HQ⟩
  ihave Hr := (Entails.of_eq (rArr_idle m (e := ⟨n, hn⟩) (Nat.lt_irrefl n))) $$ Hr
  unfold rIdle
  icases Hr with ⟨Hp, -, Hp', -⟩
  imod (close_unused m K c (k := some (1, ⟨n, hn⟩)) hv) $$ [Hp] with Hz
  · isplitr; · iexact Hrec
    iexact Hp
  imodintro
  isplitr; · iexact Hrec
  isplitr; · iexact Hlev
  isplitl [HO]
  · iexists W; iapply (Entails.of_eq (congrArg (fun O => owes (c : Thread nD τ) O W) (owed_recv_none c ⟨n, hn⟩ ns hv))) $$ HO
  isplitl [HS]; · iexact HS
  isplitl [HQ Hq]
  · iapply HQ
    iapply (source_none m hn hv ns) $$ Hq
  isplitl [HR Hz Hp']
  · iapply HR
    iapply (Entails.of_eq (rArr_sent m (e := ⟨n, hn⟩) (Nat.lt_succ_self n) (Nat.not_lt_zero n)).symm)
    isplitl [Hz]; · iexact Hz
    isplitl [Hp']; · iexact Hp'
    iapply (gd_none hv _ iprop(emp)); iempintro
  iexact HX

/-- A transfer the device receives, and passes on across `x`. -/
theorem recv_make {A : sProp 𝕄} {n ns : ℕ} (hn : n < 24) (hl : 8 * (n / 8) + 8 ≤ ns) (hv : rv c ⟨n, hn⟩ = true)
    {s' : Shape} {e' : EltTy} {src dst : Memref sig .tc .hbm s' e'} (hN : dst.view.dmaCredit = NB)
    {w₁ : src.view.WordExact} {w₂ : dst.view.WordExact}
    {hsc : (oB (jr c ⟨n, hn⟩) : Memref sig (Dev.tc (par c) : Thread nD τ).2.kind .hbm S2048x1024 .f32).view.ref.isScScratch = false}
    {hsrc hdst : (oB (jr c ⟨n, hn⟩)).view.WordExact}
    {hsem : DmaTarget.Typed .hbm (.dma (code (some (3, ⟨n, hn⟩))))
      (.remote (Dev.tc (par c) : Thread nD τ) (oB (jr c ⟨n, hn⟩)) (.dma (code (some (2, ⟨n, hn⟩)))) hsc)}
    {α : Type} {Q : α → sProp 𝕄} {k : PUnit → Pg F α} (hk : St m K A c ns (n + 1) 0 0 0 ⊢ WP c (k ⟨⟩) Q) :
    St m K A c ns n 0 0 0 ⊢ WP c (.op (.waitDma2 (code (some (1, ⟨n, hn⟩))) src dst w₁ w₂) fun _ =>
      .op (.enqueueDma (oB (jr c ⟨n, hn⟩)) (.remote (Dev.tc (par c) : Thread nD τ) (oB (jr c ⟨n, hn⟩))
        (.dma (code (some (2, ⟨n, hn⟩)))) hsc) (.dma (code (some (3, ⟨n, hn⟩)))) hsrc hdst hsem) k) Q := by
  have hpay₂ : ∀ fd, (((oB (jr c ⟨n, hn⟩)).view.loc (par c : Thread nD τ) ↦[(oB (jr c ⟨n, hn⟩)).view.set]{fullShare}
        ((oB (jr c ⟨n, hn⟩)).view.write (Elt F) fd ((oB (jr c ⟨n, hn⟩)).view.read (Elt F) (gath m c)) Finset.univ)) : sProp 𝕄)
      = dmaPay m (par c) (some (3, ⟨n, hn⟩)) := fun fd => by
    rw [pass_on m c (par c) (jr c ⟨n, hn⟩) fd (own_across c _ hv), ← jx_par c ⟨n, hn⟩]; rfl
  have hpay₁ : (((oB (jr c ⟨n, hn⟩)).view.loc (c : Thread nD τ) ↦[(oB (jr c ⟨n, hn⟩)).view.set]{fullShare.right} gath m c) : sProp 𝕄)
      ⊢ dmaPay m c (some (2, ⟨n, hn⟩)) := BI.Entails.refl _
  unfold St
  iintro ⟨#Hrec, #Hlev, ⟨%W, HO⟩, HS, HQ, HR, HX⟩
  ihave HR := (take_recv m hn 0) $$ HR
  icases HR with ⟨Hr, HR⟩
  ihave HQ := (take_next m hn ns) $$ HQ
  icases HQ with ⟨Hq, HQ⟩
  ihave Hr := (Entails.of_eq (rArr_idle m (e := ⟨n, hn⟩) (Nat.lt_irrefl n))) $$ Hr
  unfold rIdle
  icases Hr with ⟨Hp, Hc, Hp', Ht1, Ht2, Hroom⟩
  ihave Hc := (gd_elim hv _) $$ Hc
  ihave Hroom := (gd_elim hv _) $$ Hroom
  unfold roomX
  iapply (wait_core m K c (k := some (1, ⟨n, hn⟩)) hv (O := owed c ns n) (W := W)
      (show dst.view.dmaCredit = amt (some (some (1, ⟨n, hn⟩))) from hN)) $$ [Hc HO Hp]
  · isplitr; · iexact Hrec
    isplitl [Hc]; · iexact Hc
    isplitl [HO]; · iexact HO
    isplitr
    · iapply (may_wait c (kRs ⟨n, hn⟩) ns n (fun e he => by show 2 + n / 8 < 2 + e.val / 8; omega) (by show 2 + n / 8 < 10; omega)) $$ Hlev
    iexact Hp
  iintro ⟨⟨%W', HO⟩, Hz, Hpay⟩
  ihave Hpay := (Entails.of_eq (recv_pay m ⟨n, hn⟩)) $$ Hpay
  ihave Hpay := (ob_halves (jr c ⟨n, hn⟩) (gath m c)) $$ Hpay
  icases Hpay with ⟨Hleft, Hright⟩
  ihave Hright := (Entails.of_eq (ob_eq c (jr c ⟨n, hn⟩) fullShare.right (gath m c))) $$ Hright
  iapply (remote_core m K c (par c) (kS := (2, ⟨n, hn⟩)) (kR := (3, ⟨n, hn⟩)) hv ((rv_par c _).trans hv) (jr c ⟨n, hn⟩)
    (src := oB (jr c ⟨n, hn⟩)) (q := fullShare.right) (fs := gath m c) (hsc := hsc)
    (owed c ns (n + 1)) (owed_recv c ⟨n, hn⟩ ns hv) hpay₁ hpay₂ (W := W')) $$ [Hright Hroom HO Ht1 Ht2]
  · isplitr; · iexact Hrec
    isplitl [Hright]; · iexact Hright
    isplitl [Hroom]; · iexact Hroom
    isplitl [HO]; · iexact HO
    isplitl [Ht1] <;> iassumption
  iintro ⟨Hc, HO⟩
  iapply hk
  unfold St
  isplitr; · iexact Hrec
  isplitr; · iexact Hlev
  isplitl [HO]; · iexists W'; iexact HO
  isplitl [HS]; · iexact HS
  isplitl [HQ Hq Hleft]
  · iapply HQ
    by_cases h16 : n < 16
    · iapply (source_made m hn h16 ns) $$ Hleft
    · iapply (source_last m hn h16 ns) $$ Hq
  isplitl [HR Hz Hp' Hc]
  · iapply HR
    iapply (Entails.of_eq (rArr_sent m (e := ⟨n, hn⟩) (Nat.lt_succ_self n) (Nat.not_lt_zero n)).symm)
    isplitl [Hz]; · iexact Hz
    isplitl [Hp']; · iexact Hp'
    iapply (gd_intro hv _) $$ Hc
  iexact HX

/-- The same as the program writes it, the wait (`p`) being a function of its own. -/
theorem recv_pass {A : sProp 𝕄} (n : ℕ) (hn : n < 24 := by decide) {ns : ℕ} (hl : 8 * (n / 8) + 8 ≤ ns := by decide)
    {cond : Dev nD → BitVec 1} {od : Dev nD → Fin 2 → ℕ} {dv : Dev nD → ℕ} {sW sS sR : DmaSem sig}
    (hc : ∀ d, cond d = 1#1 ↔ rv d ⟨n, hn⟩ = true := by decide +kernel)
    (hd : ∀ d, cond d = 1#1 → od d = ![2048 * (jr d ⟨n, hn⟩).val, 0] := by decide +kernel)
    (hv : ∀ d, cond d = 1#1 → dv d = (par d).val := by decide +kernel)
    {β : Type} {p : cond c = 1#1 → Pg F β}
    (hp : ∀ h : cond c = 1#1, ∃ (o : Fin 2 → ℕ) (i : ∀ a, o a + S2048x1024.size a ≤ S65536x1024.size a)
      (w₁ w₂ : (oAt o i).view.WordExact) (v : β), p h = .op (.waitDma2 sW (oAt o i) (oAt o i) w₁ w₂) fun _ => .ret v
      := by exact fun h => ⟨_, _, _, _, _, rfl⟩)
    (h1 : sW = code (some (1, ⟨n, hn⟩)) := by decide +kernel) (h2 : sS = code (some (2, ⟨n, hn⟩)) := by decide +kernel) (h3 : sR = code (some (3, ⟨n, hn⟩)) := by decide +kernel)
    {inb : cond c = 1#1 → ∀ a, od c a + S2048x1024.size a ≤ S65536x1024.size a}
    {lt : cond c = 1#1 → dv c < nD}
    {hsc : ∀ h : cond c = 1#1, (oAt (od c) (inb h) : Memref sig (Dev.tc (⟨dv c, lt h⟩ : Dev nD) : Thread nD τ).2.kind .hbm S2048x1024 .f32).view.ref.isScScratch = false}
    {hsrc hdst : ∀ h : cond c = 1#1, (oAt (od c) (inb h)).view.WordExact}
    {hsem : ∀ h : cond c = 1#1, DmaTarget.Typed .hbm (.dma sR)
      (.remote (Dev.tc (⟨dv c, lt h⟩ : Dev nD) : Thread nD τ) (oAt (od c) (inb h)) (.dma sS) (hsc h))}
    {α : Type} {Q : α → sProp 𝕄} {k : Pg F α} (hk : St m K A c ns (n + 1) 0 0 0 ⊢ WP c k Q) :
    St m K A c ns n 0 0 0 ⊢ WP c (dite (cond c = 1#1)
      (fun h => Bind.bind (p h) fun _ => Bind.bind (Prog.lift (.enqueueDma (oAt (od c) (inb h))
        (.remote (Dev.tc (⟨dv c, lt h⟩ : Dev nD) : Thread nD τ) (oAt (od c) (inb h)) (.dma sS) (hsc h)) (.dma sR) (hsrc h) (hdst h) (hsem h)))
        fun _ => k) (fun _ => k)) Q := by
  refine WP_ite (fun h => ?_) (fun h => WP_update (recv_skip m K hn fun h' => h ((hc c).mpr h')) hk)
  obtain ⟨o, i, w₁, w₂, v, hp⟩ := hp h
  have hrv := (hc c).mp h
  have ho := hd c h
  have hdv : (⟨dv c, lt h⟩ : Dev nD) = par c := Fin.ext (hv c h)
  rw [hp]
  simp only [Prog.lift, Prog.bind_op, Prog.bind_ret]
  generalize hsem h = i7
  generalize hsrc h = i5
  generalize hdst h = i6
  clear hsem hsrc hdst hp
  generalize hsc h = i4 at *
  clear hsc
  generalize inb h = i1 at *
  generalize (⟨dv c, lt h⟩ : Dev nD) = d' at *
  clear hd
  generalize od c = o' at *
  subst ho hdv h1 h2 h3
  exact recv_make m K hn hl hrv (src := oAt o i) (dst := oAt o i) (credit_oAt o i) hk

end Cert.AllGather

end
-- ==== Proof.Waits.lean ====
/-
# The waits

The waits that end the kernel, each a conditional statement at one of the 24 transfers: the receipt of the block that comes
across `x`, and the two waits for the completion of a copy the device started. Then the local copy, and the barrier.
-/
module

public import proofs.«01_k».proof.Proof.Steps

@[expose] public section

set_option maxRecDepth 16384

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {F : FTy → Type} [FloatOps F]

local notation "𝕄" => MT nD τ sig Unit (Elt F) ℕ UU ℕ

variable (m : (ℓ : Loc nD τ sig) → Buf (Elt F) ℓ) (K : Dev nD × Kx → ℕ) {c : Dev nD}

/-- A wait under a condition, when nothing is owed any more: it hands over what the copy left there, if there was a copy. -/
theorem wait_if (i : Fin 4) (e : Ev) {b : Bool} (hu : used c (some (i, e)) = b) {cond : Prop} [Decidable cond] (hc : cond ↔ b = true)
    {s' : Shape} {e' : EltTy} {src dst : cond → Memref sig .tc .hbm s' e'} (hN : ∀ h, (dst h).view.dmaCredit = NB)
    {hs : ∀ h, (src h).view.WordExact} {hd : ∀ h, (dst h).view.WordExact} {sW : DmaSem sig} (h1 : sW = code (some (i, e)))
    {α : Type} {Q : α → sProp 𝕄} {k : Pg F α} :
    iprop(recs m K ∗ (∃ W, owes (c : Thread nD τ) (owed c 24 24) W) ∗ pos c (some (some (i, e))) ∗ gd b (credAt c (some (some (i, e)))))
      ⊢ iprop((((∃ W, owes (c : Thread nD τ) (owed c 24 24) W) ∗ closed c (some (some (i, e))) ∗ gd b (dmaPay m c (some (i, e)))) -∗ WP c k Q)
          -∗ WP c (dite cond (fun h => Bind.bind (Prog.lift (.waitDma2 sW (src h) (dst h) (hs h) (hd h))) fun _ => k) (fun _ => k)) Q) := by
  subst h1 hu
  by_cases h : cond
  · have hv := hc.mp h
    rw [dif_pos h]
    simp only [Prog.lift, Prog.bind_op, Prog.bind_ret]
    iintro ⟨#Hrec, ⟨%W, HO⟩, Hp, Hc⟩ Hk
    ihave Hc := (gd_elim hv _) $$ Hc
    iapply (wait_core m K c (k := some (i, e)) hv (O := owed c 24 24) (W := W) (src := src h) (dst := dst h) (hs := hs h) (hd := hd h)
      (show (dst h).view.dmaCredit = amt (some (some (i, e))) from hN h)) $$ [Hc HO Hp]
    · isplitr; · iexact Hrec
      isplitl [Hc]; · iexact Hc
      isplitl [HO]; · iexact HO
      isplitr; · rw [owed_done, MayWait_zero]; iempintro
      iexact Hp
    iintro ⟨HO, Hz, Hpay⟩
    iapply Hk
    isplitl [HO]; · iexact HO
    isplitl [Hz]; · iexact Hz
    iapply (gd_intro hv _) $$ Hpay
  · have hv : ¬ used c (some (i, e)) = true := fun h' => h (hc.mpr h')
    rw [dif_neg h]
    iintro ⟨#Hrec, HO, Hp, -⟩ Hk
    imod (close_unused m K c (k := some (i, e)) hv) $$ [Hp] with Hz
    · isplitr; · iexact Hrec
      iexact Hp
    iapply Hk
    isplitl [HO]; · iexact HO
    isplitl [Hz]; · iexact Hz
    iapply (gd_none hv _ iprop(emp)); iempintro

/-- The block that comes across `x`. -/
theorem across {A : sProp 𝕄} (n : ℕ) (hn : n < 24 := by decide) {cond : Dev nD → BitVec 1} {sW : DmaSem sig}
    (hc : ∀ d, cond d = 1#1 ↔ rv d ⟨n, hn⟩ = true := by decide +kernel) (h1 : sW = code (some (3, ⟨n, hn⟩)) := by decide +kernel)
    {s' : Shape} {e' : EltTy} {src dst : cond c = 1#1 → Memref sig .tc .hbm s' e'} (hN : ∀ h, (dst h).view.dmaCredit = NB := by exact fun h => rfl)
    {hs : ∀ h, (src h).view.WordExact} {hd : ∀ h, (dst h).view.WordExact}
    {α : Type} {Q : α → sProp 𝕄} {k : Pg F α} (hk : St m K A c 24 24 (n + 1) 0 0 ⊢ WP c k Q) :
    St m K A c 24 24 n 0 0 ⊢ WP c (dite (cond c = 1#1)
      (fun h => Bind.bind (Prog.lift (.waitDma2 sW (src h) (dst h) (hs h) (hd h))) fun _ => k) (fun _ => k)) Q := by
  unfold St
  iintro ⟨#Hrec, #Hlev, HO, HS, HQ, HR, HX, HA⟩
  ihave HX := (take_across m hn) $$ HX
  icases HX with ⟨Hx, HX⟩
  ihave Hx := (Entails.of_eq (xArr_idle m (e := ⟨n, hn⟩) (Nat.lt_irrefl n))) $$ Hx
  icases Hx with ⟨Hp, Hc⟩
  iapply (wait_if m K 3 ⟨n, hn⟩ (b := rv c ⟨n, hn⟩) rfl (hc c) hN h1) $$ [HO Hp Hc]
  · isplitr; · iexact Hrec
    isplitl [HO]; · iexact HO
    isplitl [Hp] <;> iassumption
  iintro ⟨HO, Hz, Hpay⟩
  iapply hk
  unfold St
  isplitr; · iexact Hrec
  isplitr; · iexact Hlev
  isplitl [HO]; · iexact HO
  isplitl [HS]; · iexact HS
  isplitl [HQ]; · iexact HQ
  isplitl [HR]; · iexact HR
  isplitl [HX Hz Hpay]
  · iapply HX
    iapply (Entails.of_eq (xArr_got m (e := ⟨n, hn⟩) (Nat.lt_succ_self n)).symm)
    isplitl [Hz]; · iexact Hz
    iexact Hpay
  iexact HA

/-- The completion of a transfer to a neighbour. -/
theorem sent {A : sProp 𝕄} (n : ℕ) {n₂ : ℕ} (hn : n < 24 := by decide) {cond : Dev nD → BitVec 1} {sW : DmaSem sig}
    (hc : ∀ d, cond d = 1#1 ↔ sv d ⟨n, hn⟩ = true := by decide +kernel) (h1 : sW = code (some (0, ⟨n, hn⟩)) := by decide +kernel)
    {s' : Shape} {e' : EltTy} {src dst : cond c = 1#1 → Memref sig .tc .hbm s' e'} (hN : ∀ h, (dst h).view.dmaCredit = NB := by exact fun h => rfl)
    {hs : ∀ h, (src h).view.WordExact} {hd : ∀ h, (dst h).view.WordExact}
    {α : Type} {Q : α → sProp 𝕄} {k : Pg F α} (hk : St m K A c 24 24 24 (n + 1) n₂ ⊢ WP c k Q) :
    St m K A c 24 24 24 n n₂ ⊢ WP c (dite (cond c = 1#1)
      (fun h => Bind.bind (Prog.lift (.waitDma2 sW (src h) (dst h) (hs h) (hd h))) fun _ => k) (fun _ => k)) Q := by
  unfold St
  iintro ⟨#Hrec, #Hlev, HO, HS, HQ⟩
  ihave HS := (take_sent hn 24) $$ HS
  icases HS with ⟨Hs, HS⟩
  ihave Hs := (Entails.of_eq (sArr_sent (e := ⟨n, hn⟩) hn (Nat.lt_irrefl n))) $$ Hs
  icases Hs with ⟨Hp, Hc⟩
  iapply (wait_if m K 0 ⟨n, hn⟩ (b := sv c ⟨n, hn⟩) rfl (hc c) hN h1) $$ [HO Hp Hc]
  · isplitr; · iexact Hrec
    isplitl [HO]; · iexact HO
    isplitl [Hp] <;> iassumption
  iintro ⟨HO, Hz, -⟩
  iapply hk
  unfold St
  isplitr; · iexact Hrec
  isplitr; · iexact Hlev
  isplitl [HO]; · iexact HO
  isplitl [HS Hz]
  · iapply HS
    iapply (Entails.of_eq (sArr_closed (e := ⟨n, hn⟩) hn (Nat.lt_succ_self n)).symm) $$ Hz
  iexact HQ

/-- The completion of a copy across `x`: its half share of the block comes back. -/
theorem passed {A : sProp 𝕄} (n : ℕ) {n₁ : ℕ} (hn : n < 24 := by decide) {cond : Dev nD → BitVec 1} {sW : DmaSem sig}
    (hc : ∀ d, cond d = 1#1 ↔ rv d ⟨n, hn⟩ = true := by decide +kernel) (h1 : sW = code (some (2, ⟨n, hn⟩)) := by decide +kernel)
    {s' : Shape} {e' : EltTy} {src dst : cond c = 1#1 → Memref sig .tc .hbm s' e'} (hN : ∀ h, (dst h).view.dmaCredit = NB := by exact fun h => rfl)
    {hs : ∀ h, (src h).view.WordExact} {hd : ∀ h, (dst h).view.WordExact}
    {α : Type} {Q : α → sProp 𝕄} {k : Pg F α} (hk : St m K A c 24 24 24 n₁ (n + 1) ⊢ WP c k Q) :
    St m K A c 24 24 24 n₁ n ⊢ WP c (dite (cond c = 1#1)
      (fun h => Bind.bind (Prog.lift (.waitDma2 sW (src h) (dst h) (hs h) (hd h))) fun _ => k) (fun _ => k)) Q := by
  unfold St
  iintro ⟨#Hrec, #Hlev, HO, HS, HQ, HR, HX⟩
  ihave HR := (take_passed m hn 24) $$ HR
  icases HR with ⟨Hr, HR⟩
  ihave Hr := (Entails.of_eq (rArr_sent m (e := ⟨n, hn⟩) hn (Nat.lt_irrefl n))) $$ Hr
  icases Hr with ⟨Hy, Hp, Hc⟩
  iapply (wait_if m K 2 ⟨n, hn⟩ (b := rv c ⟨n, hn⟩) rfl (hc c) hN h1) $$ [HO Hp Hc]
  · isplitr; · iexact Hrec
    isplitl [HO]; · iexact HO
    isplitl [Hp] <;> iassumption
  iintro ⟨HO, Hz, Hpay⟩
  iapply hk
  unfold St
  isplitr; · iexact Hrec
  isplitr; · iexact Hlev
  isplitl [HO]; · iexact HO
  isplitl [HS]; · iexact HS
  isplitl [HQ]; · iexact HQ
  isplitl [HR Hy Hz Hpay]
  · iapply HR
    iapply (Entails.of_eq (rArr_closed m (e := ⟨n, hn⟩) hn (Nat.lt_succ_self n)).symm)
    isplitl [Hy]; · iexact Hy
    isplitl [Hz]; · iexact Hz
    iexact Hpay
  iexact HX

end Cert.AllGather

end
-- ==== Proof.Opening.lean ====
/-
# The barrier and the local copy

The opening of the kernel: a signal to the device across `x` and to each neighbour along `y`, with which a device hands over
the rooms those devices will write to on it, then the wait for as many signals. Beside it the copy of the device's own rows,
which is started after the barrier and waited for last of all.
-/
module

public import proofs.«01_k».proof.Proof.Waits

@[expose] public section

set_option maxRecDepth 16384

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {F : FTy → Type} [FloatOps F]

local notation "𝕄" => MT nD τ sig Unit (Elt F) ℕ UU ℕ

variable (m : (ℓ : Loc nD τ sig) → Buf (Elt F) ℓ) (K : Dev nD × Kx → ℕ) {c : Dev nD}

/-! ## The local copy -/

/-- Before the copy starts; while it runs; after it was waited for. -/
def cpPre (c : Dev nD) : sProp 𝕄 := iprop(pos c kCp ∗ tok c kCp ∗ (∃ f, oc c f) ∗ xw m c fullShare.left)
def cpMid (c : Dev nD) : sProp 𝕄 := iprop(pos c kCp ∗ cred (tallyAt (cell c kCp) () (amt kCp)))
def cpPost (c : Dev nD) : sProp 𝕄 := iprop(closed c kCp ∗ oc c (gath m c) ∗ xw m c fullShare.left)

/-- A chunk of the result at an offset. -/
abbrev cAt (o : Fin 2 → ℕ) (h : ∀ a, o a + S16384x1024.size a ≤ S65536x1024.size a) : Memref sig .tc .hbm S16384x1024 .f32 :=
  oM.slice (Rect.unit (s := S65536x1024) o S16384x1024.size h) (fun _ => rfl)
/-- A chunk at an offset in closed form. -/
theorem cAt_eq {o : Fin 2 → ℕ} {h} {y : Fin 4} (ho : o = ![16384 * y.val, 0]) : cAt o h = oC y := by subst ho; rfl
/-- What a copy of a chunk is worth. -/
theorem credit_cAt (o : Fin 2 → ℕ) (h) : (cAt o h).view.dmaCredit = NC := rfl

omit [FloatOps F] in
/-- The device's own chunk, as the copy's rule states it. -/
theorem oc_eq (c : Dev nD) (f : Buf (Elt F) ((c : Thread nD τ).loc main_v1)) :
    oc c f = ((oC (yF c)).view.loc (c : Thread nD τ) ↦[(oC (yF c)).view.set]{fullShare} f) := rfl
omit [FloatOps F] in
/-- The argument, as the copy's rule states it. -/
theorem xw_eq (c : Dev nD) (q : PosShare TreeShare) :
    xw m c q = (xM.view.loc (c : Thread nD τ) ↦[xM.view.set]{q} xv m c) := by
  unfold xw; rw [show xM.view.set = Finset.univ from View.set_whole _]

/-- The start of the local copy. -/
theorem copy_start {P : sProp 𝕄} {o : Fin 2 → ℕ} {inb} (ho : o = ![16384 * (yF c).val, 0]) {s : DmaSem sig} (hs : s = code none)
    {w₁ : xM.view.WordExact} {w₂ : (cAt o inb).view.WordExact}
    {hsem : DmaTarget.Typed (nD := nD) (τ := τ) (p := .tc) .hbm (.dma s) (.here (cAt o inb))} {α : Type} {Q : α → sProp 𝕄} {k : Pg F α}
    (hk : St m K iprop(P ∗ cpMid c) c 0 0 0 0 0 ⊢ WP c k Q) :
    St m K iprop(P ∗ cpPre m c) c 0 0 0 0 0
      ⊢ WP c (Bind.bind (Prog.lift (.enqueueDma xM (.here (cAt o inb)) (.dma s) w₁ w₂ hsem)) fun _ => k) Q := by
  subst ho hs
  simp only [Prog.lift, Prog.bind_op, Prog.bind_ret]
  unfold St cpPre
  iintro ⟨#Hrec, #Hlev, HO, HS, HQ, HR, HX, HP, Hp, Ht, ⟨%f, Ho⟩, Hx⟩
  have hpay : iprop(((oC (yF c)).view.loc (c : Thread nD τ) ↦[(oC (yF c)).view.set]{fullShare}
        ((oC (yF c)).view.write (Elt F) f (xM.view.read (Elt F) (xv m c)) Finset.univ))
      ∗ (xM.view.loc (c : Thread nD τ) ↦[xM.view.set]{fullShare.left} xv m c)) ⊢ (Rd m).payload (cell c kCp) 0 0 := by
    rw [payload_cell, own_chunk m c (yF c) rfl f, ← xw_eq]; exact BI.Entails.refl _
  ihave Ho := (Entails.of_eq (oc_eq c f)) $$ Ho
  ihave Hx := (Entails.of_eq (xw_eq m c fullShare.left)) $$ Hx
  iapply (Rounds.wp_copy_pointsTo 𝒱₀ ER (Rd m) (c : Thread nD τ) none (κ := K (c, kCp)) (src := xM) (dst := oC (yF c)) (sem := .dma (code none))
    (r := 0) (d := 0) (q := fullShare.left) (fs := xv m c) (fd := f) (mem_used m c (k := none) rfl) () (amt kCp) (credit_oC (yF c))
    (amount_cell m c kCp 0) hpay) $$ [Ht Ho Hx]
  · isplitr; · iapply (recs_inv m K c kCp) $$ Hrec
    isplitl [Hx]; · iexact Hx
    isplitl [Ho]; · iexact Ho
    isplitl [Ht]; · iexact Ht
    iapply (recs_reached m K c kCp) $$ Hrec
  iintro Hc
  iapply hk
  unfold St cpMid
  isplitr; · iexact Hrec
  isplitr; · iexact Hlev
  isplitl [HO]; · iexact HO
  isplitl [HS]; · iexact HS
  isplitl [HQ]; · iexact HQ
  isplitl [HR]; · iexact HR
  isplitl [HX]; · iexact HX
  isplitl [HP]; · iexact HP
  isplitl [Hp] <;> iassumption

/-- The wait for the local copy, last of all. -/
theorem copy_end {P : sProp 𝕄} {o : Fin 2 → ℕ} {inb} {s : DmaSem sig} (hs : s = code none)
    {src : Memref sig .tc .hbm S16384x1024 .f32} {w₁ : src.view.WordExact} {w₂ : (cAt o inb).view.WordExact}
    {α : Type} {Q : α → sProp 𝕄} {k : Pg F α}
    (hk : St m K iprop(P ∗ cpPost m c) c 24 24 24 24 24 ⊢ WP c k Q) :
    St m K iprop(P ∗ cpMid c) c 24 24 24 24 24
      ⊢ WP c (Bind.bind (Prog.lift (.waitDma2 s src (cAt o inb) w₁ w₂)) fun _ => k) Q := by
  subst hs
  simp only [Prog.lift, Prog.bind_op, Prog.bind_ret]
  unfold St cpMid
  iintro ⟨#Hrec, #Hlev, ⟨%W, HO⟩, HS, HQ, HR, HX, HP, Hp, Hc⟩
  iapply (wait_core m K c (k := none) rfl (O := owed c 24 24) (W := W) (src := src) (dst := cAt o inb) (credit_cAt o inb)) $$ [HO Hp Hc]
  · isplitr; · iexact Hrec
    isplitl [Hc]; · iexact Hc
    isplitl [HO]; · iexact HO
    isplitr; · rw [owed_done, MayWait_zero]; iempintro
    iexact Hp
  iintro ⟨HO, Hz, Hpay⟩
  iapply hk
  unfold St cpPost
  isplitr; · iexact Hrec
  isplitr; · iexact Hlev
  isplitl [HO]; · iexact HO
  isplitl [HS]; · iexact HS
  isplitl [HQ]; · iexact HQ
  isplitl [HR]; · iexact HR
  isplitl [HX]; · iexact HX
  isplitl [HP]; · iexact HP
  isplitl [Hz]; · iexact Hz
  iapply (Entails.of_eq (show dmaPay m c none = iprop(oc c (gath m c) ∗ xw m c fullShare.left) from rfl)) $$ Hpay

/-! ## The barrier -/

/-- What a device owes at first: every raise of another device's semaphore that it will make. -/
def owedTo (b : Bool) (d : Dev nD) : CellTallies nD τ sig Unit := if b = true then tallyAt (cell d none) () 1 else 0
def O₂ (c : Dev nD) : CellTallies nD τ sig Unit := owed c 0 0 + owedTo (decide (yy c < 3)) (rt c)
def O₁ (c : Dev nD) : CellTallies nD τ sig Unit := O₂ c + owedTo (decide (0 < yy c)) (lf c)
def O₀ (c : Dev nD) : CellTallies nD τ sig Unit := O₁ c + tallyAt (cell (par c) none) () 1

/-- The left neighbour expects this device's signal, -/
theorem lf_right (c : Dev nD) : decide (0 < yy c) = true → hasDuty (lf c) none 2 = true := by revert c; decide +kernel
/-- and so does the right one. -/
theorem rt_left (c : Dev nD) : decide (yy c < 3) = true → hasDuty (rt c) none 1 = true := by revert c; decide +kernel

/-- What one signal takes: the token of raise `d` of device `t`'s barrier, and what goes with it. -/
def sigRes (t : Dev nD) (d : Fin 3) : sProp 𝕄 := iprop(dutyTok ER (cell t none) 0 d ∗ barPay t d)

/-- A signal. -/
theorem signal {O : CellTallies nD τ sig Unit} {d : Fin 3} {t t' : Dev nD} (ht : t' = t) (hd : hasDuty t none d = true)
    {P : sProp 𝕄} {α : Type} {Q : α → sProp 𝕄} {k : Pg F α}
    (hk : iprop(recs m K ∗ (∃ W, owes (c : Thread nD τ) O W) ∗ P) ⊢ WP c k Q) :
    iprop(recs m K ∗ (∃ W, owes (c : Thread nD τ) (O + tallyAt (cell t none) () 1) W) ∗ sigRes t d ∗ P)
      ⊢ WP c (Bind.bind (semSignalWord t' barS 1#32) fun _ => k) Q := by
  subst ht
  simp only [semSignalWord, Prog.bind_op, Prog.bind_ret]
  have hmem : d ∈ (Rd (F := F) m).duties (cell t' none) 0 := by
    rw [duties_cell]; exact Finset.mem_filter.mpr ⟨Finset.mem_univ _, hd⟩
  have hpay : (barPay t' d : sProp 𝕄) = (Rd (F := F) m).payload (cell t' none) 0 d := (payload_cell m t' none d).symm
  unfold sigRes
  iintro ⟨#Hrec, ⟨%W, HO⟩, ⟨Ht, Hpay⟩, HP⟩
  iapply (Rounds.wp_signal 𝒱₀ ER (Rd m) (c : Thread nD τ) none (dst := (t' : Thread nD τ)) (sem := barS) (κ := K (t', none)) (r := 0) (d := d) (k' := 1)
    hmem (amount_cell m t' none d) () O rfl (W := W)) $$ [HO Ht Hpay]
  · isplitr; · iapply (recs_inv m K t' none) $$ Hrec
    isplitl [HO]; · iexact HO
    isplitl [Ht]; · iexact Ht
    isplitl [Hpay]; · iapply (Entails.of_eq hpay) $$ Hpay
    iapply (recs_reached m K t' none) $$ Hrec
  iintro HO
  iapply hk
  isplitr; · iexact Hrec
  isplitl [HO]; · iexists W; iexact HO
  iexact HP

/-- A signal under a condition. -/
theorem signal_if {O : CellTallies nD τ sig Unit} {d : Fin 3} {t : Dev nD} {b : Bool} {cond : Dev nD → BitVec 1} {dv : Dev nD → ℕ}
    (hc : cond c = 1#1 ↔ b = true) (hv : cond c = 1#1 → dv c = t.val) (hd : b = true → hasDuty t none d = true)
    {lt : cond c = 1#1 → dv c < nD}
    {P : sProp 𝕄} {α : Type} {Q : α → sProp 𝕄} {k : Pg F α}
    (hk : iprop(recs m K ∗ (∃ W, owes (c : Thread nD τ) O W) ∗ P) ⊢ WP c k Q) :
    iprop(recs m K ∗ (∃ W, owes (c : Thread nD τ) (O + owedTo b t) W) ∗ gd b (sigRes t d) ∗ P)
      ⊢ WP c (dite (cond c = 1#1) (fun h => Bind.bind (semSignalWord (⟨dv c, lt h⟩ : Dev nD) barS 1#32) fun _ => k) (fun _ => k)) Q := by
  by_cases h : cond c = 1#1
  · have hb := hc.mp h
    rw [dif_pos h, gd_true hb, owedTo, if_pos hb]
    exact signal m K (Fin.ext (hv h)) (hd hb) hk
  · have hb : ¬ b = true := fun h' => h (hc.mpr h')
    rw [dif_neg h, owedTo, if_neg hb, add_zero]
    iintro ⟨Hrec, HO, -, HP⟩
    iapply hk
    isplitl [Hrec]; · iexact Hrec
    isplitl [HO] <;> iassumption

/-- The wait for the signals, as many as there are. -/
theorem bar_wait {n : BitVec 32} (hn : n.toInt = (barN c : ℕ)) {P : sProp 𝕄} {α : Type} {Q : α → sProp 𝕄} {k : Pg F α}
    (hk : iprop(recs m K ∗ (∃ W, owes (c : Thread nD τ) (owed c 0 0) W) ∗ levAts L lv ∗ closed c none
      ∗ ((bigSep Finset.univ fun e : Ev => gd (rv c e) (roomX c e)) ∗ bigSep Finset.univ fun e : Ev => gd (sv c e) (roomS c e)) ∗ P) ⊢ WP c k Q) :
    iprop(recs m K ∗ (∃ W, owes (c : Thread nD τ) (owed c 0 0) W) ∗ levAts L lv ∗ pos c none ∗ cred (tallyAt (cell c none) () (barN c)) ∗ P)
      ⊢ WP c (Bind.bind (semWaitWord barS n) fun _ => k) Q := by
  simp only [semWaitWord, Prog.bind_op, Prog.bind_ret]
  rw [hn]
  iintro ⟨#Hrec, ⟨%W, HO⟩, #Hlev, Hp, Hc, HP⟩
  iapply (Rounds.wp_wait_rest_token 𝒱₀ ER (Rd m) (c : Thread nD τ) none (κ := K (c, none)) (sm := .reg barS) (k' := barN c)
      (wpE_semWait_eq 𝒱₀ (c : Thread nD τ) none Set.univ) (Set.mem_univ _) () (O := owed c 0 0) (W := W) (R := 0) (m := 0) (T := ∅)
      (by rw [Nat.zero_add]; exact (expect_bar m c).symm)) $$ [Hc HO Hp]
  · isplitr; · iapply (recs_inv m K c none) $$ Hrec
    isplitl [Hc]; · iexact Hc
    isplitl [HO]; · iexact HO
    isplitr; · iapply (may_wait c none 0 0 (fun e _ => by show 1 < 2 + e.val / 8; omega) (by decide)) $$ Hlev
    iexact Hp
  iintro ⟨HO, Hp, -, Hpay⟩
  ihave Hpay := (rest_bar m c) $$ Hpay
  imod (Rounds.cell_close ER (Rd m) (κ := K (c, none)) (Set.mem_univ _) (fun h => h) (R := 0 + 1) (duties_later m (cell c none))) $$ [Hp] with Hz
  · isplitr; · iapply (recs_inv m K c none) $$ Hrec
    iexact Hp
  iapply hk
  isplitr; · iexact Hrec
  isplitl [HO]; · iexists _; iexact HO
  isplitr; · iexact Hlev
  isplitl [Hz]; · iexact Hz
  isplitl [Hpay]; · iexact Hpay
  iexact HP

end Cert.AllGather

end
-- ==== Proof.Body.lean ====
/-
# The kernel, run through

Each part of the kernel takes a device from one stage to the next, and so does the whole: from what a device holds at the
start to what it holds at the end.
-/
module

public import proofs.«01_k».proof.Proof.Opening
public import proofs.«01_k».proof.Proof.Gen.KernelIdeal.Skeleton

@[expose] public section

set_option maxRecDepth 16384

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {F : FTy → Type} [FloatOps F]

local notation "𝕄" => MT nD τ sig Unit (Elt F) ℕ UU ℕ

variable (m : (ℓ : Loc nD τ sig) → Buf (Elt F) ℓ) (K : Dev nD × Kx → ℕ) {c : Dev nD}

/-- Returning a value. -/
theorem WP_pure {α : Type} {a : α} {P : sProp 𝕄} {Q : α → sProp 𝕄} (h : P ⊢ Q a) : P ⊢ WP c (pure a) Q := by
  show P ⊢ wp frame _ Set.univ (Prog.ret a) Q
  rw [wp_ret]
  exact h.trans fupd_intro

/-- Asking which device this is. -/
theorem WP_device {α : Type} {f : Dev nD → Pg F α} {P : sProp 𝕄} {Q : α → sProp 𝕄} (h : P ⊢ WP c (f c) Q) :
    P ⊢ WP c (Bind.bind (Prog.lift .deviceId) f) Q := by
  simp only [Prog.lift, Prog.bind_op, Prog.bind_ret]
  show P ⊢ wp frame (wpE (defs₀ (F := F)) 𝒱₀ (c : Thread nD τ) none) Set.univ (.op .deviceId f) Q
  rw [wp_deviceId]
  exact h

omit [FloatOps F] in
/-- A fact that comes with what is held. -/
theorem with_fact {φ : Prop} {P Q : sProp 𝕄} (h : φ → P ⊢ Q) : iprop(⌜φ⌝ ∗ P) ⊢ Q := by
  iintro ⟨%hφ, H⟩
  iapply (h hφ) $$ H

/-- The kernel's offset of its own chunk, in closed form. -/
theorem k0_off1_own (c : Dev nD) : k0_off1 c = ![16384 * (yF c).val, 0] := by revert c; decide +kernel

/-- Besides the transfers: the barrier's semaphore, done with, and the local copy. -/
abbrev pre (c : Dev nD) : sProp 𝕄 := iprop(closed c none ∗ cpPre m c)
abbrev mid (c : Dev nD) : sProp 𝕄 := iprop(closed c none ∗ cpMid c)
abbrev post (c : Dev nD) : sProp 𝕄 := iprop(closed c none ∗ cpPost m c)

/-! ## The parts after the barrier -/

/-- The local copy starts, and the transfers of step 0. -/
theorem part26 (v2 v5 v8 v10 v11 : BitVec 32) (v12 v13 : BitVec 1) :
    St m K (pre m c) c 0 0 0 0 0 ⊢ WP c (k0_part26 (F := F) (Memref.whole main_arg0) (Memref.isWhole_whole _) (Memref.whole main_v1) (Memref.isWhole_whole _)
      cc0_scratch0 cc0_scratch1 cc0_scratch2 cc0_scratch3 cc0_scratch4 cc0_scratch5 cc0_scratch6
      c v2 v5 v8 v10 v11 v12 v13) fun _ => St m K (mid c) c 8 0 0 0 0 := by
  rw [k0_part26_eq_skeleton]
  unfold k0_part26_skel
  refine copy_start m K (k0_off1_own c) (by decide +kernel) ?_
  iterate 8 refine send_first m K _ (hk := ?_)
  exact WP_pure (BI.Entails.refl _)

/-- The receipts of step 0, and half the transfers of step 1. -/
theorem part27 (v2 v5 v8 v9 v10 v11 v56 v58 v63 : BitVec 32) (v12 v13 v60 v62 : BitVec 1) :
    St m K (mid c) c 8 0 0 0 0 ⊢ WP c (k0_part27 (F := F) (Memref.whole main_arg0) (Memref.isWhole_whole _) (Memref.whole main_v1) (Memref.isWhole_whole _)
      cc0_scratch0 cc0_scratch1 cc0_scratch2 cc0_scratch3 cc0_scratch4 cc0_scratch5 cc0_scratch6
      c v2 v5 v8 v9 v10 v11 v12 v13 v56 v58 v60 v62 v63) fun _ => St m K (mid c) c 12 8 0 0 0 := by
  rw [k0_part27_eq_skeleton]
  unfold k0_part27_skel
  iterate 8 refine recv_pass m K _ (hk := ?_)
  iterate 4 refine send_next m K _ (hk := ?_)
  exact WP_pure (BI.Entails.refl _)

/-- The other transfers of step 1, and its receipts. -/
theorem part28 (v2 v5 v8 v9 v10 v11 v79 v80 : BitVec 32) (v12 v13 v82 v84 : BitVec 1) :
    St m K (mid c) c 12 8 0 0 0 ⊢ WP c (k0_part28 (F := F) (Memref.whole main_arg0) (Memref.isWhole_whole _) (Memref.whole main_v1) (Memref.isWhole_whole _)
      cc0_scratch0 cc0_scratch1 cc0_scratch2 cc0_scratch3 cc0_scratch4 cc0_scratch5 cc0_scratch6
      c v2 v5 v8 v9 v10 v11 v12 v13 v79 v80 v82 v84) fun _ => St m K (mid c) c 16 16 0 0 0 := by
  rw [k0_part28_eq_skeleton]
  unfold k0_part28_skel
  iterate 4 refine send_next m K _ (hk := ?_)
  iterate 8 refine recv_pass m K _ (hk := ?_)
  exact WP_pure (BI.Entails.refl _)

/-- The transfers of step 2, and its first receipt. -/
theorem part29 (v2 v5 v8 v9 v10 v11 c2_i32_67 : BitVec 32) (v12 v13 : BitVec 1) :
    St m K (mid c) c 16 16 0 0 0 ⊢ WP c (k0_part29 (F := F) (Memref.whole main_arg0) (Memref.isWhole_whole _) (Memref.whole main_v1) (Memref.isWhole_whole _)
      cc0_scratch0 cc0_scratch1 cc0_scratch2 cc0_scratch3 cc0_scratch4 cc0_scratch5 cc0_scratch6
      c v2 v5 v8 v9 v10 v11 v12 v13 c2_i32_67) fun _ => St m K (mid c) c 24 17 0 0 0 := by
  rw [k0_part29_eq_skeleton]
  unfold k0_part29_skel
  iterate 8 refine send_next m K _ (hk := ?_)
  refine recv_pass m K _ (hk := ?_)
  exact WP_pure (BI.Entails.refl _)

/-- The other receipts of step 2, and the first four across `x`. -/
theorem part30 (v2 v5 v8 v9 v10 v11 v148 v150 v157 : BitVec 32) (v12 v13 v152 v154 : BitVec 1) :
    St m K (mid c) c 24 17 0 0 0 ⊢ WP c (k0_part30 (F := F) (Memref.whole main_arg0) (Memref.isWhole_whole _) (Memref.whole main_v1) (Memref.isWhole_whole _)
      cc0_scratch0 cc0_scratch1 cc0_scratch2 cc0_scratch3 cc0_scratch4 cc0_scratch5 cc0_scratch6
      c v2 v5 v8 v9 v10 v11 v12 v13 v148 v150 v152 v154 v157) fun _ => St m K (mid c) c 24 24 4 0 0 := by
  rw [k0_part30_eq_skeleton]
  unfold k0_part30_skel
  iterate 7 refine recv_pass m K _ (hk := ?_)
  iterate 4 refine across m K _ (hk := ?_)
  exact WP_pure (BI.Entails.refl _)

/-- Twelve more receipts across `x`, -/
theorem part31 (v2 v5 v8 v9 v172 v174 : BitVec 32) (v12 v13 v176 v178 : BitVec 1) :
    St m K (mid c) c 24 24 4 0 0 ⊢ WP c (k0_part31 (F := F) (Memref.whole main_arg0) (Memref.isWhole_whole _) (Memref.whole main_v1) (Memref.isWhole_whole _)
      cc0_scratch0 cc0_scratch1 cc0_scratch2 cc0_scratch3 cc0_scratch4 cc0_scratch5 cc0_scratch6
      c v2 v5 v8 v9 v12 v13 v172 v174 v176 v178) fun _ => St m K (mid c) c 24 24 16 0 0 := by
  rw [k0_part31_eq_skeleton]
  unfold k0_part31_skel
  iterate 12 refine across m K _ (hk := ?_)
  exact WP_pure (BI.Entails.refl _)

/-- and the last eight. -/
theorem part32 (v2 v5 v8 v9 c1_i32_121 : BitVec 32) (v12 v13 : BitVec 1) :
    St m K (mid c) c 24 24 16 0 0 ⊢ WP c (k0_part32 (F := F) (Memref.whole main_arg0) (Memref.isWhole_whole _) (Memref.whole main_v1) (Memref.isWhole_whole _)
      cc0_scratch0 cc0_scratch1 cc0_scratch2 cc0_scratch3 cc0_scratch4 cc0_scratch5 cc0_scratch6
      c v2 v5 v8 v9 v12 v13 c1_i32_121) fun _ => St m K (mid c) c 24 24 24 0 0 := by
  rw [k0_part32_eq_skeleton]
  unfold k0_part32_skel
  iterate 8 refine across m K _ (hk := ?_)
  exact WP_pure (BI.Entails.refl _)

/-- The completions, in fours: two transfers, then the two copies across `x` of the same two numbers. -/
theorem part33 (v2 v5 v243 v244 v250 c1_i32_141 : BitVec 32) (v12 v13 v246 v248 : BitVec 1) :
    St m K (mid c) c 24 24 24 0 0 ⊢ WP c (k0_part33 (F := F) (Memref.whole main_arg0) (Memref.isWhole_whole _) (Memref.whole main_v1) (Memref.isWhole_whole _)
      cc0_scratch0 cc0_scratch1 cc0_scratch2 cc0_scratch3 cc0_scratch4 cc0_scratch5 cc0_scratch6
      c v2 v5 v12 v13 v243 v244 v246 v248 v250 c1_i32_141) fun _ => St m K (mid c) c 24 24 24 6 6 := by
  rw [k0_part33_eq_skeleton]
  unfold k0_part33_skel
  iterate 3 (refine sent m K _ (hk := ?_); refine sent m K _ (hk := ?_); refine passed m K _ (hk := ?_); refine passed m K _ (hk := ?_))
  exact WP_pure (BI.Entails.refl _)

/-- The same. -/
theorem part34 (v2 v5 v243 v244 v250 v252 : BitVec 32) (v12 v13 v248 v254 v256 : BitVec 1) :
    St m K (mid c) c 24 24 24 6 6 ⊢ WP c (k0_part34 (F := F) (Memref.whole main_arg0) (Memref.isWhole_whole _) (Memref.whole main_v1) (Memref.isWhole_whole _)
      cc0_scratch0 cc0_scratch1 cc0_scratch2 cc0_scratch3 cc0_scratch4 cc0_scratch5 cc0_scratch6
      c v2 v5 v12 v13 v243 v244 v248 v250 v252 v254 v256) fun _ => St m K (mid c) c 24 24 24 11 10 := by
  rw [k0_part34_eq_skeleton]
  unfold k0_part34_skel
  iterate 2 (refine sent m K _ (hk := ?_); refine sent m K _ (hk := ?_); refine passed m K _ (hk := ?_); refine passed m K _ (hk := ?_))
  refine sent m K _ (hk := ?_)
  exact WP_pure (BI.Entails.refl _)

/-- The same. -/
theorem part35 (v2 v5 v289 v290 v296 v298 : BitVec 32) (v12 v13 v292 v294 v300 v302 : BitVec 1) :
    St m K (mid c) c 24 24 24 11 10 ⊢ WP c (k0_part35 (F := F) (Memref.whole main_arg0) (Memref.isWhole_whole _) (Memref.whole main_v1) (Memref.isWhole_whole _)
      cc0_scratch0 cc0_scratch1 cc0_scratch2 cc0_scratch3 cc0_scratch4 cc0_scratch5 cc0_scratch6
      c v2 v5 v12 v13 v289 v290 v292 v294 v296 v298 v300 v302) fun _ => St m K (mid c) c 24 24 24 16 16 := by
  rw [k0_part35_eq_skeleton]
  unfold k0_part35_skel
  refine sent m K _ (hk := ?_)
  refine passed m K _ (hk := ?_)
  refine passed m K _ (hk := ?_)
  iterate 2 (refine sent m K _ (hk := ?_); refine sent m K _ (hk := ?_); refine passed m K _ (hk := ?_); refine passed m K _ (hk := ?_))
  exact WP_pure (BI.Entails.refl _)

/-- The same. -/
theorem part36 (v2 v335 v336 v342 v344 c0_i32_195 : BitVec 32) (v12 v13 v338 v340 : BitVec 1) :
    St m K (mid c) c 24 24 24 16 16 ⊢ WP c (k0_part36 (F := F) (Memref.whole main_arg0) (Memref.isWhole_whole _) (Memref.whole main_v1) (Memref.isWhole_whole _)
      cc0_scratch0 cc0_scratch1 cc0_scratch2 cc0_scratch3 cc0_scratch4 cc0_scratch5 cc0_scratch6
      c v2 v12 v13 v335 v336 v338 v340 v342 v344 c0_i32_195) fun _ => St m K (mid c) c 24 24 24 23 22 := by
  rw [k0_part36_eq_skeleton]
  unfold k0_part36_skel
  iterate 3 (refine sent m K _ (hk := ?_); refine sent m K _ (hk := ?_); refine passed m K _ (hk := ?_); refine passed m K _ (hk := ?_))
  refine sent m K _ (hk := ?_)
  exact WP_pure (BI.Entails.refl _)

/-! ## The barrier -/

/-- What a transfer's two sides hold before the room for it is known. -/
def sBare (c : Dev nD) (e : Ev) : sProp 𝕄 := iprop(pos c (kSs e) ∗ tok c (kSs e) ∗ tok (nb c e) (kRs e))
def rBare (c : Dev nD) (e : Ev) : sProp 𝕄 :=
  iprop(pos c (kRs e) ∗ gd (rv c e) (credAt c (kRs e)) ∗ pos c (kSx e) ∗ tok c (kSx e) ∗ tok (par c) (kRx e))

/-- All a device holds before the barrier but for what concerns the barrier. -/
def bare (c : Dev nD) : sProp 𝕄 :=
  iprop((bigSep Finset.univ fun e => sBare c e) ∗ (bigSep Finset.univ fun e => qArr m 0 0 c e)
    ∗ (bigSep Finset.univ fun e => rBare c e) ∗ (bigSep Finset.univ fun e => xArr m 0 c e) ∗ cpPre m c)

/-- What a device holds at the start. -/
def start (c : Dev nD) : sProp 𝕄 :=
  iprop(recs m K ∗ (∃ W, owes (c : Thread nD τ) (O₀ c) W) ∗ sigRes (par c) 0 ∗ gd (decide (0 < yy c)) (sigRes (lf c) 2)
    ∗ gd (decide (yy c < 3)) (sigRes (rt c) 1) ∗ levAts L lv ∗ pos c none ∗ cred (tallyAt (cell c none) () (barN c)) ∗ bare m c)

omit [FloatOps F] in
/-- The room completes each side. -/
theorem sArr_start (e : Ev) : iprop(sBare c e ∗ gd (sv c e) (roomS c e)) ⊢ (sArr 0 0 c e : sProp 𝕄) := by
  rw [sArr_idle (Nat.not_lt_zero _)]
  unfold sBare sIdle
  iintro ⟨⟨H1, H2, H3⟩, H4⟩
  isplitl [H1]; · iexact H1
  isplitl [H2]; · iexact H2
  isplitl [H3] <;> iassumption
omit [FloatOps F] in
/-- A receiving side as the kernel starts, with its room, is that side before any receipt. -/
theorem rArr_start (e : Ev) : iprop(rBare c e ∗ gd (rv c e) (roomX c e)) ⊢ rArr m 0 0 c e := by
  rw [rArr_idle m (Nat.not_lt_zero _)]
  unfold rBare rIdle
  iintro ⟨⟨H1, H2, H3, H4, H5⟩, H6⟩
  isplitl [H1]; · iexact H1
  isplitl [H2]; · iexact H2
  isplitl [H3]; · iexact H3
  isplitl [H4]; · iexact H4
  isplitl [H5] <;> iassumption
omit [FloatOps F] in
/-- Two families joined, member by member. -/
theorem family {P Q R : Ev → sProp 𝕄} (h : ∀ e, iprop(P e ∗ Q e) ⊢ R e) :
    iprop((bigSep Finset.univ fun e => P e) ∗ bigSep Finset.univ fun e => Q e) ⊢ bigSep Finset.univ fun e => R e := by
  rw [← bigSep_sep']
  exact bigSep_mono fun e _ => h e

omit [FloatOps F] in
/-- With the rooms the barrier brings, every transfer is ready. -/
theorem opened :
    iprop(recs m K ∗ (∃ W, owes (c : Thread nD τ) (owed c 0 0) W) ∗ levAts L lv ∗ closed c none
      ∗ ((bigSep Finset.univ fun e : Ev => gd (rv c e) (roomX c e)) ∗ bigSep Finset.univ fun e : Ev => gd (sv c e) (roomS c e)) ∗ bare m c)
      ⊢ St m K (pre m c) c 0 0 0 0 0 := by
  unfold bare St
  iintro ⟨Hrec, HO, Hlev, Hz, ⟨HX, HS⟩, Hs, Hq, Hr, Hx, Hc⟩
  isplitl [Hrec]; · iexact Hrec
  isplitl [Hlev]; · iexact Hlev
  isplitl [HO]; · iexact HO
  isplitl [HS Hs]
  · iapply (family (sArr_start (c := c)))
    isplitl [Hs] <;> iassumption
  isplitl [Hq]; · iexact Hq
  isplitl [HX Hr]
  · iapply (family (rArr_start m (c := c)))
    isplitl [Hr] <;> iassumption
  isplitl [Hx]; · iexact Hx
  isplitl [Hz] <;> iassumption

/-- Whom the signals go to, and how many are waited for. -/
theorem dev_par (c : Dev nD) : k0_dev1 c = (par c).val := by revert c; decide +kernel
/-- The kernel's test for a device before it along `y`. -/
theorem cond_left (c : Dev nD) : k0_cond1 c = 1#1 ↔ decide (0 < yy c) = true := by revert c; decide +kernel
/-- The device it then signals is that one. -/
theorem dev_left (c : Dev nD) : k0_cond1 c = 1#1 → k0_dev2 c = (lf c).val := by revert c; decide +kernel
/-- The kernel's test for a device after it along `y`. -/
theorem cond_right (c : Dev nD) : k0_cond2 c = 1#1 ↔ decide (yy c < 3) = true := by revert c; decide +kernel
/-- The device it then signals is that one. -/
theorem dev_right (c : Dev nD) : k0_cond2 c = 1#1 → k0_dev3 c = (rt c).val := by revert c; decide +kernel
/-- The kernel's two conditions on the wait, as it computes them. -/
def inner (c : Dev nD) : BitVec 1 :=
  Scalar.andi (Scalar.cmpi .sgt (Scalar.remsi (Scalar.divsi (Dev.word c) 4#32) 4#32 : BitVec 32) 0#32)
    (Scalar.cmpi .slt (Scalar.remsi (Scalar.divsi (Dev.word c) 4#32) 4#32 : BitVec 32) 3#32)
def three (c : Dev nD) : BitVec 1 := Scalar.cmpi .ne (Scalar.extui (inner c) : BitVec 32) 0#32
def two (c : Dev nD) : BitVec 1 := Scalar.cmpi .ne (Scalar.extui (Scalar.xori (inner c) 1#1) : BitVec 32) 0#32
/-- Where it waits for three signals, three are due. -/
theorem bar_three (c : Dev nD) : three c = 1#1 → (3#32 : BitVec 32).toInt = (barN c : ℕ) := by revert c; decide +kernel
/-- Where it waits for two, two are due. -/
theorem bar_two (c : Dev nD) : two c = 1#1 → (2#32 : BitVec 32).toInt = (barN c : ℕ) := by revert c; decide +kernel
/-- It makes at most one of the two waits, -/
theorem not_both (c : Dev nD) : three c = 1#1 → ¬ two c = 1#1 := by revert c; decide +kernel
/-- and at least one. -/
theorem one_of (c : Dev nD) : ¬ three c = 1#1 → ¬ ¬ two c = 1#1 := by revert c; decide +kernel

omit [FloatOps F] in
/-- The opening's end, at a device named otherwise. -/
theorem opened_here {d : Dev nD} (h : d = c) :
    iprop(recs m K ∗ (∃ W, owes (c : Thread nD τ) (owed c 0 0) W) ∗ levAts L lv ∗ closed c none
      ∗ ((bigSep Finset.univ fun e : Ev => gd (rv c e) (roomX c e)) ∗ bigSep Finset.univ fun e : Ev => gd (sv c e) (roomS c e)) ∗ bare m c)
      ⊢ iprop(⌜d = c⌝ ∗ St m K (pre m c) c 0 0 0 0 0) := by
  iintro H
  isplitr; · ipureintro; exact h
  iapply (opened m K) $$ H

/-- The signals and the wait: at the end of them every transfer is ready. -/
theorem part25 :
    start m K c ⊢ WP c (k0_part25 (F := F) (Memref.whole main_arg0) (Memref.isWhole_whole _) (Memref.whole main_v1) (Memref.isWhole_whole _)
      cc0_scratch0 cc0_scratch1 cc0_scratch2 cc0_scratch3 cc0_scratch4 cc0_scratch5 cc0_scratch6)
      fun r => iprop(⌜r.1 = c⌝ ∗ St m K (pre m c) c 0 0 0 0 0) := by
  rw [k0_part25_eq_skeleton]
  unfold k0_part25_skel start
  refine WP_device ?_
  refine signal m K (Fin.ext (dev_par c)) rfl ?_
  refine signal_if m K (cond_left c) (dev_left c) (lf_right c) ?_
  refine signal_if m K (cond_right c) (dev_right c) (rt_left c) ?_
  refine WP_ite (fun h => ?_) (fun h => ?_)
  · refine bar_wait m K (bar_three c h) ?_
    refine WP_ite (fun h' => absurd h' (not_both c h)) (fun _ => WP_pure ?_)
    exact opened_here m K rfl
  · refine WP_ite (fun h' => ?_) (fun h' => absurd h' (one_of c h))
    refine bar_wait m K (bar_two c h') (WP_pure ?_)
    exact opened_here m K rfl

/-! ## All of it -/

set_option maxHeartbeats 1000000 in
/-- The whole kernel on one device. -/
theorem body :
    start m K c ⊢ WP c (cc0_body (F := F) (Memref.whole main_arg0) (Memref.isWhole_whole _) (Memref.whole main_v1) (Memref.isWhole_whole _)
      cc0_scratch0 cc0_scratch1 cc0_scratch2 cc0_scratch3 cc0_scratch4 cc0_scratch5 cc0_scratch6)
      fun _ => St m K (post m c) c 24 24 24 24 24 := by
  rw [cc0_body_eq_skeleton]
  unfold cc0_body_skel
  refine WP_seq (part25 m K) fun r => with_fact fun hr => ?_
  obtain ⟨d, v2, v5, v8, v9, v10, v11, v12, v13⟩ := r
  cases (show d = c from hr)
  refine WP_seq (part26 m K _ _ _ _ _ _ _) fun _ => ?_
  refine WP_seq (part27 m K _ _ _ _ _ _ _ _ _ _ _ _ _) fun _ => ?_
  refine WP_seq (part28 m K _ _ _ _ _ _ _ _ _ _ _ _) fun _ => ?_
  refine WP_seq (part29 m K _ _ _ _ _ _ _ _ _) fun _ => ?_
  refine WP_seq (part30 m K _ _ _ _ _ _ _ _ _ _ _ _ _) fun _ => ?_
  refine WP_seq (part31 m K _ _ _ _ _ _ _ _ _ _) fun _ => ?_
  refine WP_seq (part32 m K _ _ _ _ _ _ _) fun _ => ?_
  refine WP_seq (part33 m K _ _ _ _ _ _ _ _ _ _) fun _ => ?_
  refine WP_seq (part34 m K _ _ _ _ _ _ _ _ _ _ _) fun _ => ?_
  refine WP_seq (part35 m K _ _ _ _ _ _ _ _ _ _ _ _) fun _ => ?_
  refine WP_seq (part36 m K _ _ _ _ _ _ _ _ _ _) fun _ => ?_
  refine sent m K _ (hk := ?_)
  iterate 2 refine passed m K _ (hk := ?_)
  exact copy_end m K (by decide +kernel) (WP_pure (BI.Entails.refl _))

end Cert.AllGather

end
-- ==== Proof.Entry.lean ====
/-
# A device's two arrays, cut up at the start

The result is cut into the device's own chunk and the blocks other devices will write to, which the device hands to them on
the barrier. The argument is shared: one share for the local copy, two for the transfers of step 0, one per direction.
-/
module

public import proofs.«01_k».proof.Proof.Body

@[expose] public section

set_option maxRecDepth 16384

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A family of parts taken out of a whole -/

omit [FloatOps F] in
/-- Disjoint parts of a region, one for each transfer of a family, and what is left. -/
theorem family_out {ℓ : Loc nD τ sig} (g : Ev → Bool) (T : Ev → Finset (Idx ℓ)) (S : Finset (Idx ℓ)) (q : PosShare TreeShare)
    (f : Buf (Elt F) ℓ) (hsub : ∀ e, g e = true → T e ⊆ S)
    (hdisj : ∀ e e', g e = true → g e' = true → e ≠ e' → Disjoint (T e) (T e')) :
    (ℓ ↦[S]{q} f : sProp 𝕄) ⊢ iprop((bigSep Finset.univ fun e => gd (g e) (ℓ ↦[T e]{q} f))
      ∗ ℓ ↦[S \ (Finset.univ.filter fun e => g e = true).biUnion T]{q} f) := by
  have hU : (Finset.univ.filter fun e => g e = true).biUnion T ⊆ S :=
    Finset.biUnion_subset.mpr fun e he => hsub e (Finset.mem_filter.mp he).2
  have hB : (ℓ ↦[(Finset.univ.filter fun e => g e = true).biUnion T]{q} f : sProp 𝕄) = bigSep Finset.univ fun e => gd (g e) (ℓ ↦[T e]{q} f) := by
    rw [pointsTo_biUnion _ _ fun e he e' he' h => hdisj e e' (Finset.mem_filter.mp he).2 (Finset.mem_filter.mp he').2 h, bigSep_filter]
    rfl
  rw [← hB]
  exact (pointsTo_split_subset hU).1

/-- Different blocks of the result share no element. -/
theorem disjoint_oB {j j' : Fin 32} (h : j ≠ j') : Disjoint (oB j).view.set (oB j').view.set :=
  Finset.disjoint_left.mpr fun i hi hi' => h (Fin.ext (((mem_oB j i).mp hi).symm.trans ((mem_oB j' i).mp hi')))

/-- Where the blocks of the argument lie. -/
theorem mem_xB (j : Fin 8) (i : S16384x1024.Idx) : i ∈ (xB j).view.set ↔ (i 0).val / 2048 = j.val := by
  refine ValueKit.mem_set_slice_whole_iff main_arg0 _ i ?_
  rw [Rect.mem_set_unit]
  have h1 : (i 1).val < 1024 := (i 1).isLt
  constructor
  · intro h
    have h0 : 2048 * j.val ≤ (i 0).val ∧ (i 0).val < 2048 * j.val + 2048 := h 0
    omega
  · intro h a
    fin_cases a
    · show 2048 * j.val ≤ (i 0).val ∧ (i 0).val < 2048 * j.val + 2048; omega
    · show 0 ≤ (i 1).val ∧ (i 1).val < 0 + 1024; omega
/-- Different blocks of the argument share no element. -/
theorem disjoint_xB {j j' : Fin 8} (h : j ≠ j') : Disjoint (xB j).view.set (xB j').view.set :=
  Finset.disjoint_left.mpr fun i hi hi' => h (Fin.ext (((mem_xB j i).mp hi).symm.trans ((mem_xB j' i).mp hi')))

/-! ## The result -/

section
variable (c : Dev nD) (f : Buf (Elt F) ((c : Thread nD τ).loc main_v1))

/-- A received block lies outside the device's own chunk. -/
theorem block_outside {j : Fin 32} (h : j.val / 8 ≠ yy c) : (oB j).view.set ⊆ Finset.univ \ (oC (yF c)).view.set := fun i hi => by
  rw [Finset.mem_sdiff]
  refine ⟨Finset.mem_univ _, fun hc => h ?_⟩
  have h1 := (mem_oB j i).mp hi
  have h2 : (i 0).val / 16384 = yy c := (mem_oC (yF c) i).mp hc
  omega

/-- A block from across `x` lies outside the blocks from along `y` besides. -/
theorem across_outside (e : Ev) (he : rv c e = true) : (oB (jx c e)).view.set
    ⊆ (Finset.univ \ (oC (yF c)).view.set) \ (Finset.univ.filter fun e => rv c e = true).biUnion fun e => (oB (jr c e)).view.set := fun i hi => by
  rw [Finset.mem_sdiff]
  refine ⟨block_outside c (jx_chunk c e he) hi, fun hb => ?_⟩
  obtain ⟨e', he', hi'⟩ := Finset.mem_biUnion.mp hb
  exact jr_ne_jx c e' e (Finset.mem_filter.mp he').2 he (Fin.ext (((mem_oB _ i).mp hi').symm.trans ((mem_oB _ i).mp hi)))

omit [FloatOps F] in
/-- The whole result: the device's chunk, the blocks from along `y`, the blocks from across `x`. -/
theorem out_cut :
    (((c : Thread nD τ).loc main_v1) ↦{fullShare} f : sProp 𝕄) ⊢ iprop(oc c f
      ∗ (bigSep Finset.univ fun e => gd (rv c e) (ob c (jr c e) fullShare f))
      ∗ bigSep Finset.univ fun e => gd (rv c e) (ob c (jx c e) fullShare f)) := by
  have hC := (pointsTo_split_subset (Ix := Unit) (Name := ℕ) (U := UU) (Lvl := ℕ) (ℓ := (c : Thread nD τ).loc main_v1) (q := fullShare) (f := f)
    (Finset.subset_univ (oC (yF c)).view.set)).1
  have hR := family_out (rv c) (fun e => (oB (jr c e)).view.set) (Finset.univ \ (oC (yF c)).view.set) fullShare f
    (fun e he => block_outside c (jr_chunk c e he)) fun e e' he he' h => disjoint_oB fun hj => h (jr_inj c e e' he he' hj)
  have hX := family_out (rv c) (fun e => (oB (jx c e)).view.set)
    ((Finset.univ \ (oC (yF c)).view.set) \ (Finset.univ.filter fun e => rv c e = true).biUnion fun e => (oB (jr c e)).view.set)
    fullShare f (fun e he => across_outside c e he)
    fun e e' he he' h => disjoint_oB fun hj => h (jx_inj c e e' he he' hj)
  iintro H
  ihave H := hC $$ H
  icases H with ⟨Hc, H⟩
  ihave H := hR $$ H
  icases H with ⟨Hr, H⟩
  ihave H := hX $$ H
  icases H with ⟨Hx, -⟩
  isplitl [Hc]; · unfold oc; iexact Hc
  isplitl [Hr]; · unfold ob; iexact Hr
  unfold ob; iexact Hx

omit [FloatOps F] in
/-- A block is the room its sender needs: the device across `x` for the one family, -/
theorem room_across (e : Ev) : gd (rv c e) (ob c (jx c e) fullShare f) ⊢ (gd (rv (par c) e) (roomX (par c) e) : sProp 𝕄) := by
  rw [rv_par]
  unfold roomX
  rw [par_par, jr_par]
  refine gd_mono (fun h => h) fun _ => ?_
  iintro H
  iexists f; iexact H
omit [FloatOps F] in
/-- a neighbour along `y` for the other. -/
theorem room_along (p : Bool) (d : Dev nD) (e : Ev) (h : p = true → fr c e = d) :
    gd (rv c e && p) (ob c (jr c e) fullShare f) ⊢ (gd (sv d e && p) (roomS d e) : sProp 𝕄) := by
  have hs : (sv d e && p) = true → sv d e = true ∧ p = true := fun hb => by rwa [Bool.and_eq_true] at hb
  refine gd_mono (fun hb => ?_) fun hb => ?_
  · obtain ⟨h1, h2⟩ := hs hb
    rw [Bool.and_eq_true, ← sv_fr c e, h h2]; exact ⟨h1, h2⟩
  · obtain ⟨h1, h2⟩ := hs hb
    obtain rfl := h h2
    unfold roomS
    rw [← jr_nb _ e h1, nb_fr]
    iintro H
    iexists f; iexact H

/-- A transfer to the right comes from the left, -/
theorem fr_even (e : Ev) (h : decide (e.val % 2 = 0) = true) : fr c e = lf c := if_pos (of_decide_eq_true h)
/-- and one to the left from the right. -/
theorem fr_odd (e : Ev) (h : decide (e.val % 2 = 1) = true) : fr c e = rt c := if_neg (by have := of_decide_eq_true h; omega)

omit [FloatOps F] in
/-- The result as the device hands it out at the start. -/
theorem rooms :
    (((c : Thread nD τ).loc main_v1) ↦{fullShare} f : sProp 𝕄) ⊢ iprop(oc c f ∗ barPay (par c) 0 ∗ barPay (lf c) 2 ∗ barPay (rt c) 1) := by
  have hj := gd_join (g := rv c) (p := fun e => decide (e.val % 2 = 1)) (q := fun e => decide (e.val % 2 = 0))
    (fun e => ob c (jr c e) fullShare f) (by decide)
  have h0 : (bigSep Finset.univ fun e => gd (rv c e) (ob c (jx c e) fullShare f)) ⊢ (barPay (par c) 0 : sProp 𝕄) :=
    bigSep_mono fun e _ => room_across c f e
  have h1 : (bigSep Finset.univ fun e => gd (rv c e && decide (e.val % 2 = 1)) (ob c (jr c e) fullShare f)) ⊢ (barPay (rt c) 1 : sProp 𝕄) :=
    bigSep_mono fun e _ => room_along c f _ _ e (fr_odd c e)
  have h2 : (bigSep Finset.univ fun e => gd (rv c e && decide (e.val % 2 = 0)) (ob c (jr c e) fullShare f)) ⊢ (barPay (lf c) 2 : sProp 𝕄) :=
    bigSep_mono fun e _ => room_along c f _ _ e (fr_even c e)
  iintro H
  ihave H := (out_cut c f) $$ H
  icases H with ⟨Hc, H, H0⟩
  ihave H := (Entails.of_eq hj.symm) $$ H
  icases H with ⟨H1, H2⟩
  isplitl [Hc]; · iexact Hc
  isplitl [H0]; · iapply h0 $$ H0
  isplitl [H2]; · iapply h2 $$ H2
  iapply h1 $$ H1
end

/-! ## The argument -/

/-- In one direction, the first step's transfers send different blocks of the argument. -/
theorem jq_inj (c : Dev nD) (e e' : Ev) (h : e.val < 8) (h' : e'.val < 8) (hp : e.val % 2 = e'.val % 2) (hj : jq c e = jq c e') : e = e' := by
  have hj : (4 * xx c + e.val / 2) % 8 = (4 * xx c + e'.val / 2) % 8 := congrArg Fin.val hj
  exact Fin.ext (by omega)

/-- The transfers whose source is at hand at the start. -/
abbrev first (c : Dev nD) (e : Ev) : Bool := sv c e && (decide (0 ≤ e.val) && decide (e.val < 0 + 8))

omit [FloatOps F] in
/-- The sources of one direction, out of one share of the argument. -/
theorem sources_of (c : Dev nD) (r : ℕ) (q : PosShare TreeShare) (hq : ∀ e : Ev, e.val % 2 = r → shr e = q) :
    xw m c q ⊢ bigSep Finset.univ fun e => gd (first c e && decide (e.val % 2 = r)) (srcP m c e) := by
  have hg : ∀ e, (first c e && decide (e.val % 2 = r)) = true → e.val < 8 ∧ e.val % 2 = r := fun e he => by
    rw [Bool.and_eq_true, Bool.and_eq_true, Bool.and_eq_true, decide_eq_true_eq, decide_eq_true_eq, decide_eq_true_eq] at he
    exact ⟨by omega, he.2⟩
  refine (family_out (fun e => first c e && decide (e.val % 2 = r)) (fun e => (xB (jq c e)).view.set) Finset.univ q (xv m c)
    (fun e _ => Finset.subset_univ _) (fun e e' he he' h => disjoint_xB fun hj => h ?_)).trans ?_
  · obtain ⟨h1, h2⟩ := hg e he
    obtain ⟨h1', h2'⟩ := hg e' he'
    exact jq_inj c e e' h1 h1' (h2.trans h2'.symm) hj
  · have hm : (bigSep Finset.univ fun e => gd (first c e && decide (e.val % 2 = r)) (((c : Thread nD τ).loc main_arg0) ↦[(xB (jq c e)).view.set]{q} xv m c))
        ⊢ bigSep Finset.univ fun e => gd (first c e && decide (e.val % 2 = r)) (srcP m c e) :=
      bigSep_mono fun e _ => gd_mono (fun h => h) fun h => by
        obtain ⟨h1, h2⟩ := hg e h
        unfold srcP
        rw [if_pos h1, hq e h2]
        exact BI.Entails.refl _
    iintro ⟨H, -⟩
    iapply hm $$ H

omit [FloatOps F] in
/-- A share of the argument is its two halves. -/
theorem share_halves (c : Dev nD) (q : PosShare TreeShare) : xw m c q ⊢ iprop(xw m c q.left ∗ xw m c q.right) :=
  (pointsTo_share (PosShare.mem_left_op_right q)).1

omit [FloatOps F] in
/-- The argument as the device uses it: a share for the local copy, and the sources of step 0. -/
theorem sources (c : Dev nD) : xw m c fullShare ⊢ iprop(xw m c fullShare.left ∗ bigSep Finset.univ fun e => qArr m 0 0 c e) := by
  have hj : iprop((bigSep Finset.univ fun e => gd (first c e && decide (e.val % 2 = 1)) (srcP m c e))
      ∗ bigSep Finset.univ fun e => gd (first c e && decide (e.val % 2 = 0)) (srcP m c e))
      = bigSep Finset.univ fun e => qArr m 0 0 c e :=
    gd_join (g := first c) (p := fun e => decide (e.val % 2 = 1)) (q := fun e => decide (e.val % 2 = 0)) (srcP m c) (by decide)
  rw [← hj]
  iintro H
  ihave H := (share_halves m c fullShare) $$ H
  icases H with ⟨Hl, Hr⟩
  ihave Hr := (share_halves m c fullShare.right) $$ Hr
  icases Hr with ⟨Ha, Hb⟩
  isplitl [Hl]; · iexact Hl
  isplitl [Hb]
  · iapply (sources_of m c 1 fullShare.right.right fun e he => if_neg (by omega)) $$ Hb
  · iapply (sources_of m c 0 fullShare.right.left fun e he => if_pos he) $$ Ha

end Cert.AllGather

end
-- ==== Proof.Deal.lean ====
/-
# Tokens and credit, dealt at the launch

Every semaphore's tokens are minted with the device it is on and dealt to the devices that raise it; every device starts with
the credit for what the others owe its semaphores.
-/
module

public import proofs.«01_k».proof.Proof.Entry

@[expose] public section

set_option maxRecDepth 16384

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The semaphores by family -/

omit [FloatOps F] in
/-- A product over an optional index. -/
theorem over_option {A : Type} [Fintype A] [DecidableEq A] (Φ : Option A → sProp 𝕄) :
    bigSep Finset.univ Φ = iprop(Φ none ∗ bigSep Finset.univ fun a => Φ (some a)) := by
  rw [bigSep_univ_at Φ none, show Finset.univ.erase (none : Option A) = Finset.univ.map Function.Embedding.some from ?_, bigSep_map]
  · rfl
  · ext a
    cases a with
    | none => simp
    | some a => simp

omit [FloatOps F] in
/-- A product over all of a device's semaphores. -/
theorem by_family (Φ : Kx → sProp 𝕄) :
    bigSep Finset.univ Φ = iprop(Φ none ∗ Φ kCp ∗ (bigSep Finset.univ fun e => Φ (kSs e)) ∗ (bigSep Finset.univ fun e => Φ (kRs e))
      ∗ (bigSep Finset.univ fun e => Φ (kSx e)) ∗ bigSep Finset.univ fun e => Φ (kRx e)) := by
  rw [over_option, over_option (fun k : Dk => Φ (some k)), bigSep_univ_prod,
    bigSep_univ_eq_bigSepL [0, 1, 2, 3] (by decide) (by decide), bigSepL_cons_cons, bigSepL_cons_cons, bigSepL_cons_cons, bigSepL_singleton]
  rfl

/-! ## The tokens -/

/-- The tokens of one device's semaphores: raise 0 of each, and raises 1 and 2 of the barrier. -/
abbrev Tk : Type := Kx ⊕ Fin 2
def tokOf (p : Dev nD × Tk) : GSem nD τ sig × ℕ × Fin 3 :=
  match p.2 with
  | .inl k => (cell p.1 k, 0, 0)
  | .inr i => (cell p.1 none, 0, i.succ)

/-- No two places mint the same token. -/
theorem tokOf_inj : Function.Injective tokOf := by
  rintro ⟨c, a⟩ ⟨c', a'⟩ h
  have hd : (tokOf (c, a)).2.2 = (tokOf (c', a')).2.2 := congrArg (fun x => x.2.2) h
  have hg : (tokOf (c, a)).1 = (tokOf (c', a')).1 := congrArg Prod.fst h
  rcases a with k | i <;> rcases a' with k' | i'
  · obtain ⟨rfl, rfl⟩ := cell_inj (show cell c k = cell c' k' from hg); rfl
  · exact absurd (show (0 : Fin 3) = i'.succ from hd) (Fin.succ_ne_zero i').symm
  · exact absurd (show i.succ = (0 : Fin 3) from hd) (Fin.succ_ne_zero i)
  · obtain ⟨rfl, -⟩ := cell_inj (show cell c none = cell c' none from hg)
    obtain rfl := Fin.succ_injective _ (show i.succ = i'.succ from hd); rfl

/-- No two pairs of a device and a name are the same semaphore. -/
theorem cellOf_pair_inj : Function.Injective fun p : Dev nD × Kx => cell p.1 p.2 := by
  rintro ⟨c, k⟩ ⟨c', k'⟩ h
  obtain ⟨rfl, rfl⟩ := cell_inj h; rfl

/-- A device's tokens where they are minted, -/
def minted (c : Dev nD) : sProp 𝕄 :=
  iprop((bigSep Finset.univ fun k => tok c k) ∗ dutyTok ER (cell c none) 0 1 ∗ dutyTok ER (cell c none) 0 2)
/-- and the tokens of the raises a device makes. -/
def dealt (c : Dev nD) : sProp 𝕄 :=
  iprop((tok (par c) none ∗ tok c kCp ∗ (bigSep Finset.univ fun e => tok c (kSs e)) ∗ (bigSep Finset.univ fun e => tok (nb c e) (kRs e))
    ∗ (bigSep Finset.univ fun e => tok c (kSx e)) ∗ bigSep Finset.univ fun e => tok (par c) (kRx e))
    ∗ dutyTok ER (cell (rt c) none) 0 1 ∗ dutyTok ER (cell (lf c) none) 0 2)

omit [FloatOps F] in
/-- The tokens a device's semaphores mint, listed. -/
theorem minted_eq (c : Dev nD) :
    (bigSep Finset.univ fun a : Tk => (dutyTok ER (tokOf (c, a)).1 (tokOf (c, a)).2.1 (tokOf (c, a)).2.2 : sProp 𝕄)) = minted c := by
  have h : (bigSep Finset.univ fun a : Tk => (dutyTok ER (tokOf (c, a)).1 (tokOf (c, a)).2.1 (tokOf (c, a)).2.2 : sProp 𝕄))
      = iprop((bigSep Finset.univ fun k => tok c k) ∗ bigSep Finset.univ fun i : Fin 2 => dutyTok ER (cell c none) 0 i.succ) :=
    BI.bigSep_univ_sum _
  have h2 := bigSep_univ_eq_bigSepL [0, 1] (by decide) (by decide) fun i : Fin 2 => (dutyTok ER (cell c none) 0 i.succ : sProp 𝕄)
  rw [h, h2, bigSepL_cons_cons, bigSepL_singleton]
  rfl

/-- A transfer, from its sender to its receiver. -/
def nbPair : Dev nD × Ev ≃ Dev nD × Ev :=
  ⟨fun p => (nb p.1 p.2, p.2), fun p => (fr p.1 p.2, p.2), fun p => by dsimp only; rw [fr_nb], fun p => by dsimp only; rw [nb_fr]⟩

omit [FloatOps F] in
/-- Dealing them is a permutation of the mesh for each family. -/
theorem deal : (bigSep Finset.univ fun c => (minted c : sProp 𝕄)) = bigSep Finset.univ fun c => dealt c := by
  have hN : (bigSep Finset.univ fun c => bigSep Finset.univ fun e : Ev => (tok c (kRs e) : sProp 𝕄))
      = bigSep Finset.univ fun c => bigSep Finset.univ fun e : Ev => tok (nb c e) (kRs e) := by
    rw [← bigSep_univ_prod fun p : Dev nD × Ev => (tok p.1 (kRs p.2) : sProp 𝕄), bigSep_univ_equiv nbPair, bigSep_univ_prod]
    rfl
  have hX := bigSep_univ_equiv parEquiv fun c : Dev nD => bigSep Finset.univ fun e : Ev => (tok c (kRx e) : sProp 𝕄)
  have hB := bigSep_univ_equiv parEquiv fun c : Dev nD => (tok c none : sProp 𝕄)
  have h1 := bigSep_univ_equiv rtEquiv fun c : Dev nD => (dutyTok ER (cell c none) 0 1 : sProp 𝕄)
  have h2 := bigSep_univ_equiv rtEquiv.symm fun c : Dev nD => (dutyTok ER (cell c none) 0 2 : sProp 𝕄)
  unfold minted dealt
  simp only [by_family, bigSep_sep']
  rw [hN, hX, hB, h1, h2]
  rfl

/-! ## The credit -/

/-- What device `c`'s semaphore `k` is owed by the whole mesh, that its waits need. -/
def need (c : Dev nD) : Kx → ℕ
  | none => barN c
  | some (some (1, e)) => if rv c e = true then NB else 0
  | some (some (3, e)) => if rv c e = true then NB else 0
  | _ => 0

/-- The debts of one kind, summed over the mesh: each semaphore's is as large as it has debtors. -/
theorem owed_sum (b : Dev nD → Ev → Bool) (t : Dev nD → Ev → Dev nD) (kk : Ev → Kx) (c : Dev nD) (k : Kx) :
    (∑ d : Dev nD, (∑ e : Ev, if 0 ≤ e.val ∧ b d e = true then tallyAt (cell (t d e) (kk e)) () NB else (0 : CellTallies nD τ sig Unit)) (cell c k) ())
      = ∑ e : Ev, if kk e = k then (Finset.univ.filter fun d : Dev nD => b d e = true ∧ t d e = c).card * NB else 0 := by
  have h : ∀ (d : Dev nD) (e : Ev), (if 0 ≤ e.val ∧ b d e = true then tallyAt (cell (t d e) (kk e)) () NB else (0 : CellTallies nD τ sig Unit)) (cell c k) ()
      = if kk e = k then (if b d e = true ∧ t d e = c then NB else 0) else 0 := fun d e => by
    by_cases hb : b d e = true
    · rw [if_pos ⟨Nat.zero_le _, hb⟩, tallyAt_apply]
      by_cases hc : t d e = c ∧ kk e = k
      · rw [if_pos ⟨by rw [hc.1, hc.2], rfl⟩, if_pos hc.2, if_pos ⟨hb, hc.1⟩]
      · rw [if_neg fun h => hc (by obtain ⟨h1, h2⟩ := cell_inj h.1; exact ⟨h1.symm, h2.symm⟩)]
        by_cases hk : kk e = k
        · rw [if_pos hk, if_neg fun h => hc ⟨h.2, hk⟩]
        · rw [if_neg hk]
    · rw [if_neg fun h => hb h.2]
      by_cases hk : kk e = k
      · rw [if_pos hk, if_neg fun h => hb h.1]; rfl
      · rw [if_neg hk]; rfl
  simp only [Finset.sum_apply, Finsupp.finset_sum_apply, h]
  rw [Finset.sum_comm]
  refine Finset.sum_congr rfl fun e _ => ?_
  by_cases hk : kk e = k
  · simp only [if_pos hk]
    rw [Finset.sum_ite, Finset.sum_const, Finset.sum_const_zero, add_zero, smul_eq_mul]
  · simp only [if_neg hk, Finset.sum_const_zero]

/-- The same for the signals. -/
theorem signal_sum (b : Dev nD → Bool) (t : Dev nD → Dev nD) (c : Dev nD) (k : Kx) :
    (∑ d : Dev nD, owedTo (b d) (t d) (cell c k) ()) = if k = none then (Finset.univ.filter fun d : Dev nD => b d = true ∧ t d = c).card else 0 := by
  have h : ∀ d : Dev nD, owedTo (b d) (t d) (cell c k) () = if k = none then (if b d = true ∧ t d = c then 1 else 0) else 0 := fun d => by
    unfold owedTo
    by_cases hb : b d = true
    · rw [if_pos hb, tallyAt_apply]
      by_cases hc : t d = c ∧ k = none
      · rw [if_pos ⟨by rw [hc.1, hc.2], rfl⟩, if_pos hc.2, if_pos ⟨hb, hc.1⟩]
      · rw [if_neg fun h => hc (by obtain ⟨h1, h2⟩ := cell_inj h.1; exact ⟨h1.symm, h2⟩)]
        by_cases hk : k = none
        · rw [if_pos hk, if_neg fun h => hc ⟨h.2, hk⟩]
        · rw [if_neg hk]
    · rw [if_neg hb]
      by_cases hk : k = none
      · rw [if_pos hk, if_neg fun h => hb h.1]; rfl
      · rw [if_neg hk]; rfl
  simp only [h]
  by_cases hk : k = none
  · simp only [if_pos hk]
    rw [Finset.sum_ite, Finset.sum_const, Finset.sum_const_zero, add_zero, smul_eq_mul, mul_one]
  · simp only [if_neg hk, Finset.sum_const_zero]

/-- The barrier's signals, counted. -/
theorem card_bar (c : Dev nD) :
    (Finset.univ.filter fun d : Dev nD => decide (yy d < 3) = true ∧ rt d = c).card
      + (Finset.univ.filter fun d : Dev nD => decide (0 < yy d) = true ∧ lf d = c).card
      + (Finset.univ.filter fun d : Dev nD => True ∧ par d = c).card = barN c := by
  revert c; decide +kernel

/-- One summand alone. -/
theorem sum_only (kk : Ev → Kx) (hkk : Function.Injective kk) (e : Ev) (n : Ev → ℕ) : (∑ e' : Ev, if kk e' = kk e then n e' else 0) = n e := by
  rw [Finset.sum_eq_single e (fun e' _ h => if_neg fun h' => h (hkk h')) fun h => absurd (Finset.mem_univ e) h, if_pos rfl]
/-- A sum in which no summand is selected. -/
theorem sum_none (kk : Ev → Kx) (k : Kx) (h : ∀ e, kk e ≠ k) (n : Ev → ℕ) : (∑ e' : Ev, if kk e' = k then n e' else 0) = 0 :=
  Finset.sum_eq_zero fun e _ => if_neg (h e)

/-- All the debts to one semaphore. -/
theorem debts (c : Dev nD) (k : Kx) : (∑ d : Dev nD, O₀ d (cell c k) ()) =
    (∑ e : Ev, if kRs e = k then (if rv c e = true then NB else 0) else 0) + (∑ e : Ev, if kRx e = k then (if rv c e = true then NB else 0) else 0)
      + if k = none then barN c else 0 := by
  have hsplit : ∀ d : Dev nD, O₀ d (cell c k) () = (oS d 0 (cell c k) () + oR d 0 (cell c k) ())
      + (owedTo (decide (yy d < 3)) (rt d) (cell c k) () + owedTo (decide (0 < yy d)) (lf d) (cell c k) () + owedTo true (par d) (cell c k) ()) := fun d => by
    rw [show owedTo true (par d) = tallyAt (cell (par d) none) () 1 from if_pos rfl]
    unfold O₀ O₁ O₂ owed
    simp only [Pi.add_apply, Finsupp.add_apply]
    omega
  have hn : ∀ n : ℕ, ∀ b : Bool, (if b = true then 1 else 0) * n = if b = true then n else 0 := fun n b => by cases b <;> simp
  rw [Finset.sum_congr rfl fun d _ => hsplit d, Finset.sum_add_distrib, Finset.sum_add_distrib, Finset.sum_add_distrib, Finset.sum_add_distrib,
    signal_sum (fun d => decide (yy d < 3)) rt, signal_sum (fun d => decide (0 < yy d)) lf, signal_sum (fun _ => true) par]
  unfold oS oR
  rw [owed_sum sv nb kRs c k, owed_sum rv (fun d _ => par d) kRx c k]
  simp only [card_send, card_across, hn]
  congr 1
  by_cases hk : k = none
  · simp only [if_pos hk]; exact card_bar c
  · simp only [if_neg hk]

/-- All the debts to one semaphore are what its waits need. -/
theorem debts_eq (c : Dev nD) (k : Kx) : (∑ d : Dev nD, O₀ d (cell c k) ()) = need c k := by
  have hR : Function.Injective kRs := fun e e' h => congrArg Prod.snd (Option.some.inj (Option.some.inj h))
  have hX : Function.Injective kRx := fun e e' h => congrArg Prod.snd (Option.some.inj (Option.some.inj h))
  rw [debts]
  rcases k with _ | _ | ⟨i, e⟩
  · rw [sum_none kRs _ (fun _ => Option.some_ne_none _), sum_none kRx _ (fun _ => Option.some_ne_none _), if_pos rfl, Nat.zero_add]; rfl
  · have h0 : ∀ p : Fin 4 × Ev, (some (some p) : Kx) ≠ some none := fun p h => Option.some_ne_none _ (Option.some.inj h)
    rw [sum_none kRs _ (fun _ => h0 _), sum_none kRx _ (fun _ => h0 _), if_neg (Option.some_ne_none _)]; rfl
  · have h0 : ∀ j : Fin 4, j ≠ i → ∀ e', (some (some (j, e')) : Kx) ≠ some (some (i, e)) := fun j hj e' h =>
      hj (congrArg Prod.fst (Option.some.inj (Option.some.inj h)))
    rw [if_neg (Option.some_ne_none _), Nat.add_zero]
    fin_cases i
    · rw [sum_none kRs _ (h0 1 (by decide)), sum_none kRx _ (h0 3 (by decide))]; rfl
    · rw [sum_none kRx _ (h0 3 (by decide)), Nat.add_zero]; exact sum_only kRs hR e _
    · rw [sum_none kRs _ (h0 1 (by decide)), sum_none kRx _ (h0 3 (by decide))]; rfl
    · rw [sum_none kRs _ (h0 1 (by decide)), Nat.zero_add]; exact sum_only kRx hX e _

/-- So the launch's credit for it is that. -/
theorem launch_cell (c : Dev nD) (k : Kx) :
    tallyOn (cell c k) (launchCredit (Pipeline.owing O₀) 0 (cell c k)) = (tallyAt (cell c k) () (need c k) : CellTallies nD τ sig Unit) := by
  unfold tallyAt
  refine congrArg _ (Finsupp.ext fun u => ?_)
  cases u
  rw [Pipeline.launchCredit_owing, Finsupp.single_eq_same, debts_eq]

omit [FloatOps F] in
/-- A credit that is there only under a condition. -/
theorem cred_gd (b : Bool) (g : GSem nD τ sig) (n : ℕ) (h : n = if b = true then NB else 0) :
    (cred (tallyAt g () n) : sProp 𝕄) ⊢ gd b (cred (tallyAt g () NB)) := by
  cases b
  · rw [gd_false Bool.false_ne_true]; iintro -; iempintro
  · rw [gd_true rfl, h, if_pos rfl]

omit [FloatOps F] in
/-- The launch credit, as the waits need it. -/
theorem credit (c : Dev nD) : (Pipeline.launchCred O₀ c : sProp 𝕄) ⊢ iprop(cred (tallyAt (cell c none) () (barN c))
    ∗ (bigSep Finset.univ fun e => gd (rv c e) (credAt c (kRs e))) ∗ bigSep Finset.univ fun e => gd (rv c e) (credAt c (kRx e))) := by
  have h : (Pipeline.launchCred O₀ c : sProp 𝕄) = bigSep Finset.univ fun k : Kx => cred (tallyAt (cell c k) () (need c k)) := by
    unfold Pipeline.launchCred
    rw [bigSep_univ_equiv kxEquiv]
    exact bigSep_congr fun k _ => congrArg _ (launch_cell c k)
  have hR : (bigSep Finset.univ fun e => (cred (tallyAt (cell c (kRs e)) () (need c (kRs e))) : sProp 𝕄))
      ⊢ bigSep Finset.univ fun e => gd (rv c e) (credAt c (kRs e)) := bigSep_mono fun e _ => cred_gd _ _ _ rfl
  have hX : (bigSep Finset.univ fun e => (cred (tallyAt (cell c (kRx e)) () (need c (kRx e))) : sProp 𝕄))
      ⊢ bigSep Finset.univ fun e => gd (rv c e) (credAt c (kRx e)) := bigSep_mono fun e _ => cred_gd _ _ _ rfl
  rw [h, by_family]
  iintro ⟨HB, -, -, HR, -, HX⟩
  isplitl [HB]; · iexact HB
  isplitl [HR]; · iapply hR $$ HR
  iapply hX $$ HX

end Cert.AllGather

end
-- ==== Proof.Launch.lean ====
/-
# The launch, and the whole run

From the machine's start to the start of each device's kernel, and from the kernels' ends to the machine's: every execution
ends, with every device's result the gathered one, its argument as it was, and every semaphore at zero.
-/
module

public import proofs.«01_k».proof.Proof.Deal
public import proofs.«01_k».proof.Proof.Gen.KernelIdeal.Points
public import Idealize.ShloMosaic.Lib.Pipeline.CollectiveSegs

@[expose] public section

set_option maxRecDepth 16384

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds between the launch and its kernel, and after it -/

/-- All a device's kernel starts from, but for its debts. -/
def ready (c : Dev nD) : sProp 𝕄 :=
  iprop(∃ K, recs m K ∗ sigRes (par c) 0 ∗ gd (decide (0 < yy c)) (sigRes (lf c) 2) ∗ gd (decide (yy c < 3)) (sigRes (rt c) 1)
    ∗ levAts L lv ∗ pos c none ∗ cred (tallyAt (cell c none) () (barN c)) ∗ bare m c)

/-- A device's arrays at the end: its argument, and its result in pieces. -/
def arrays (c : Dev nD) : sProp 𝕄 :=
  iprop(xw m c fullShare.left ∗ oc c (gath m c) ∗ (bigSep Finset.univ fun e => gd (rv c e) (ob c (jr c e) fullShare.right (gath m c)))
    ∗ bigSep Finset.univ fun e => gd (rv c e) (ob c (jx c e) fullShare (gath m c)))
/-- And all it holds then: every semaphore at zero besides. -/
def done (c : Dev nD) : sProp 𝕄 := iprop((bigSep Finset.univ fun k => closed c k) ∗ arrays m c)

omit [FloatOps F] in
/-- The last stage of the kernel, read as the end. -/
theorem finish (K : Dev nD × Kx → ℕ) (c : Dev nD) :
    St m K (post m c) c 24 24 24 24 24 ⊢ iprop((∃ W, owes (c : Thread nD τ) 0 W) ∗ done m c) := by
  have hS : (bigSep Finset.univ fun e => (sArr 24 24 c e : sProp 𝕄)) = bigSep Finset.univ fun e => closed c (kSs e) :=
    bigSep_congr fun e _ => sArr_closed e.isLt e.isLt
  have hR : (bigSep Finset.univ fun e => rArr m 24 24 c e) = iprop((bigSep Finset.univ fun e => closed c (kRs e))
      ∗ (bigSep Finset.univ fun e => closed c (kSx e)) ∗ bigSep Finset.univ fun e => gd (rv c e) (ob c (jr c e) fullShare.right (gath m c))) := by
    rw [bigSep_congr (s := Finset.univ) fun e _ => rArr_closed m (c := c) (e := e) e.isLt e.isLt, bigSep_sep', bigSep_sep']
  have hX : (bigSep Finset.univ fun e => xArr m 24 c e) = iprop((bigSep Finset.univ fun e => closed c (kRx e))
      ∗ bigSep Finset.univ fun e => gd (rv c e) (ob c (jx c e) fullShare (gath m c))) := by
    rw [bigSep_congr (s := Finset.univ) fun e _ => xArr_got m (c := c) (e := e) e.isLt, bigSep_sep']
  unfold St post cpPost done arrays
  rw [owed_done, hS, hR, hX, by_family]
  iintro ⟨-, -, HO, HS, -, ⟨HR, HC, Hr⟩, ⟨HX, Hx⟩, HB, HP, Ho, Ha⟩
  isplitl [HO]; · iexact HO
  isplitl [HB HP HS HR HC HX]
  · isplitl [HB]; · iexact HB
    isplitl [HP]; · iexact HP
    isplitl [HS]; · iexact HS
    isplitl [HR]; · iexact HR
    isplitl [HC] <;> iassumption
  isplitl [Ha]; · iexact Ha
  isplitl [Ho]; · iexact Ho
  isplitl [Hr] <;> iassumption

/-! ## The one point of the call -/

/-- No array is staged, so the data are what is held and owed before and after. -/
def dats (_ : Fin 1) (c : Dev nD) : Dat τ (Elt F) Unit ℕ UU ℕ cfg0 c where
  A w := w.elim0
  after w := w.elim0
  Φ t := match t with
    | ⟨0, _⟩ => ready m c
    | ⟨_ + 1, _⟩ => done m c
  q w := w.elim0
  owed t := match t with
    | ⟨0, _⟩ => O₀ c
    | ⟨_ + 1, _⟩ => 0

omit [FloatOps F] in
/-- The last stage, as the point's end. -/
theorem point_end (K : Dev nD × Kx → ℕ) (c : Dev nD) (R : sProp 𝕄) :
    iprop(St m K (post m c) c 24 24 24 24 24 ∗ R) ⊢ iprop(done m c ∗ (dats m 0 c).owesAt () t0_0.succ ∗ R) := by
  unfold Dat.owesAt Pipeline.owesWithin
  rw [show (dats m 0 c).owed t0_0.succ = 0 from rfl]
  iintro ⟨H, HR⟩
  ihave H := (finish m K c) $$ H
  icases H with ⟨⟨%W, HO⟩, HD⟩
  isplitl [HD]; · iexact HD
  isplitl [HO]
  · iexists W
    isplitr; · ipureintro; exact fun _ _ => Or.inl trivial
    iexact HO
  iexact HR

/-- The kernel from its start to the point's end. -/
theorem point_run (K : Dev nD × Kx → ℕ) (c : Dev nD) (R : sProp 𝕄) :
    iprop(start m K c ∗ R) ⊢ WP c (bodyAt0 (F := F) t0_0) fun _ => iprop(done m c ∗ (dats m 0 c).owesAt () t0_0.succ ∗ R) :=
  ((BI.sep_mono (body m K) (BI.Entails.refl R)).trans (wp_frame_r _ _ _)).trans (wp_mono _ _ _ fun _ => point_end m K c R)

/-- The kernel at its point. -/
theorem point (c : Dev nD) (R : sProp 𝕄) :
    iprop(ready m c ∗ (dats m 0 c).owesAt () t0_0.castSucc ∗ R)
      ⊢ WP c (bodyAt0 (F := F) t0_0) fun _ => iprop(done m c ∗ (dats m 0 c).owesAt () t0_0.succ ∗ R) := by
  have ho : (dats m 0 c).owesAt () t0_0.castSucc ⊢ (iprop(∃ W, owes (c : Thread nD τ) (O₀ c) W) : sProp 𝕄) := by
    unfold Dat.owesAt Pipeline.owesWithin
    rw [show (dats m 0 c).owed t0_0.castSucc = O₀ c from rfl]
    iintro ⟨%W, -, HO⟩
    iexists W; iexact HO
  unfold ready
  iintro ⟨⟨%K, Hrec, Hs, Hl, Hr, Hlev, Hp, Hc, Hb⟩, HO, HR⟩
  ihave HO := ho $$ HO
  iapply (point_run m K c R)
  unfold start
  isplitr [HR]
  · isplitl [Hrec]; · iexact Hrec
    isplitl [HO]; · iexact HO
    isplitl [Hs]; · iexact Hs
    isplitl [Hl]; · iexact Hl
    isplitl [Hr]; · iexact Hr
    isplitl [Hlev]; · iexact Hlev
    isplitl [Hp]; · iexact Hp
    isplitl [Hc] <;> iassumption
  iexact HR

/-- The library's obligation for the call's body. -/
theorem obligation (c : Dev nD) : BodyObligation (dats (F := F) m 0 c) (defs₀ (F := F)) 𝒱₀ () Set.univ := fun t => by
  rw [fin_N0 t]
  exact point m c _

/-! ## The launch -/

/-- The kernel's own semaphores. -/
def osem (k : Dk) : SemLoc sig := .dma (code k)
/-- They are the kernel's own, each once. -/
theorem osem_facts : Pipeline.OwnSemFacts cfg0.spec osem where
  isScoped := by decide +kernel
  inj k k' h := code_inj (SemLoc.dma.inj h)
  disj k w := w.elim0

def cells : Finset (GSem nD τ sig) := Finset.univ.map ⟨fun p : Dev nD × Kx => cell p.1 p.2, cellOf_pair_inj⟩
def tokens : Finset (GSem nD τ sig × ℕ × Fin 3) := Finset.univ.map ⟨tokOf, tokOf_inj⟩
/-- The launch's element: the call's own, and the schedule's. -/
def u₀ : UU := (initOf (Pipeline.cells cfgs cellOf_inj) (Pipeline.launchToks cfgs cellOf_inj), initOf cells tokens)

/-- What that gives a device, -/
def minting (c : Dev nD) : sProp 𝕄 :=
  iprop((bigSep Finset.univ fun k => roundState ER (Rd m) (cell c k) 0) ∗ (bigSep Finset.univ fun k => reached ER (cell c k) 0)
    ∗ (bigSep Finset.univ fun k => pos c k) ∗ minted c)
/-- and what it has after the semaphores were put under their invariants and the tokens dealt. -/
def dealing (c : Dev nD) : sProp 𝕄 := iprop(∃ K, recs m K ∗ (bigSep Finset.univ fun k => pos c k) ∗ dealt c)

omit [FloatOps F] in
/-- A family over all semaphores, device by device. -/
theorem over_cells (Φ : GSem nD τ sig → sProp 𝕄) :
    bigSep cells Φ = bigSep Finset.univ fun c : Dev nD => bigSep Finset.univ fun k : Kx => Φ (cell c k) := by
  unfold cells; rw [bigSep_map, bigSep_univ_prod]; rfl
omit [FloatOps F] in
/-- All tokens, device by device. -/
theorem over_tokens :
    bigSep tokens (fun x => (dutyTok ER x.1 x.2.1 x.2.2 : sProp 𝕄)) = bigSep Finset.univ fun c : Dev nD => minted c := by
  unfold tokens; rw [bigSep_map, bigSep_univ_prod]
  exact bigSep_congr fun c _ => minted_eq c

omit [FloatOps F] in
/-- The schedule's element gives every device its part. -/
theorem mint : BI.own (ER (initOf cells tokens)) ⊢ (|==> bigSep Finset.univ (minting m) : sProp 𝕄) := by
  iintro H
  imod (Rounds.fund ER (Rd m) cells tokens) $$ H with ⟨Hst, Hr, Hat, Htok⟩
  imodintro
  ihave Hst := (Entails.of_eq (over_cells fun g => roundState ER (Rd m) g 0)) $$ Hst
  ihave Hr := (Entails.of_eq (over_cells fun g => reached ER g 0)) $$ Hr
  ihave Hat := (Entails.of_eq (over_cells fun g => atPos ER g 0 ∅ 0)) $$ Hat
  ihave Htok := (Entails.of_eq over_tokens) $$ Htok
  unfold minting
  simp only [bigSep_sep']
  isplitl [Hst]; · iexact Hst
  isplitl [Hr]; · iexact Hr
  isplitl [Hat] <;> iassumption

omit [FloatOps F] in
/-- The machine's one semaphore outside the kernel is the barrier's. -/
theorem unscoped_eq (c : Dev nD) : (unscopedSems0 c : sProp 𝕄) = closed c none := by
  unfold unscopedSems0; rw [bigSep_eq_bigSepL_of_eq [SemLoc.reg barS] (by decide +kernel) (by decide)]; rfl

omit [FloatOps F] in
/-- All of a device's semaphores, the machine's and the kernel's. -/
theorem sems_eq (c : Dev nD) : (bigSep Finset.univ fun k => closed c k : sProp 𝕄)
    = iprop(unscopedSems0 c ∗ Pipeline.ownSems0 (Ix := Unit) (Name := ℕ) (U := UU) (Lvl := ℕ) (Val := Elt F) (τ := τ) osem c) := by
  rw [over_option, unscoped_eq]; rfl

omit [FloatOps F] in
/-- One device's semaphores put under their invariants. -/
theorem open_cells (c : Dev nD) :
    iprop((bigSep Finset.univ fun k => closed c k) ∗ bigSep Finset.univ fun k : Kx => roundState ER (Rd m) (cell c k) 0)
      ⊢ (|={Set.univ}=> bigSep Finset.univ fun k => iprop(∃ κ : ℕ, cellInv ER (Rd m) κ (cell c k)) : sProp 𝕄) := by
  rw [← bigSep_sep']
  exact (bigSep_mono fun k _ => (Rounds.body_intro ER (Rd m) (cell c k)).trans inv_alloc).trans (bigSep_fupd _ _)

omit [FloatOps F] in
/-- The same with the rest of what the device was given. -/
theorem open_device (c : Dev nD) :
    iprop(Pipeline.ownSems0 (Ix := Unit) (Name := ℕ) (U := UU) (Lvl := ℕ) (Val := Elt F) (τ := τ) osem c ∗ unscopedSems0 c ∗ minting m c)
      ⊢ |={Set.univ}=> iprop((bigSep Finset.univ fun k => iprop(∃ κ : ℕ, cellInv ER (Rd m) κ (cell c k)))
          ∗ (bigSep Finset.univ fun k => reached ER (cell c k) 0) ∗ (bigSep Finset.univ fun k => pos c k) ∗ minted c) := by
  unfold minting
  iintro ⟨Hos, Hus, Hst, Hrest⟩
  imod (open_cells m c) $$ [Hos Hus Hst] with HI
  · isplitr [Hst]
    · iapply (Entails.of_eq (sems_eq c).symm)
      isplitl [Hus] <;> iassumption
    iexact Hst
  imodintro
  isplitl [HI]; · iexact HI
  iexact Hrest

omit [FloatOps F] in
/-- One device's part, with the invariants known. -/
theorem hand (K : Dev nD × Kx → ℕ) (c : Dev nD) :
    iprop(recs m K ∗ ((bigSep Finset.univ fun k => pos c k) ∗ dealt c)) ⊢ dealing m c := by
  unfold dealing
  iintro H
  iexists K; iexact H

omit [FloatOps F] in
/-- The invariants known to all, the tokens dealt. -/
theorem gather :
    (bigSep Finset.univ fun c : Dev nD => iprop((bigSep Finset.univ fun k => iprop(∃ κ : ℕ, cellInv ER (Rd m) κ (cell c k)))
        ∗ (bigSep Finset.univ fun k => reached ER (cell c k) 0) ∗ (bigSep Finset.univ fun k => pos c k) ∗ minted c) : sProp 𝕄)
      ⊢ bigSep Finset.univ (dealing m) := by
  have hd : iprop((bigSep Finset.univ fun c => bigSep Finset.univ fun k => (pos c k : sProp 𝕄)) ∗ bigSep Finset.univ fun c => minted c)
      = bigSep Finset.univ fun c : Dev nD => iprop((bigSep Finset.univ fun k => pos c k) ∗ dealt c) := by
    rw [deal, ← bigSep_sep']
  rw [bigSep_sep', bigSep_sep', bigSep_sep', ← bigSep_univ_prod fun p : Dev nD × Kx => iprop(∃ κ : ℕ, cellInv ER (Rd m) κ (cell p.1 p.2)),
    ← bigSep_univ_prod fun p : Dev nD × Kx => (reached ER (cell p.1 p.2) 0 : sProp 𝕄), hd]
  iintro ⟨HI, #HR, H⟩
  ihave HK := (bigSep_exists_pi Finset.univ fun (p : Dev nD × Kx) (κ : ℕ) => (cellInv ER (Rd m) κ (cell p.1 p.2) : sProp 𝕄)) $$ HI
  icases HK with ⟨%K, #HI⟩
  iapply (bigSep_with_persistent (R := recs m K) fun c _ => hand m K c)
  isplitr
  · unfold recs; isplitl; · iexact HI
    iexact HR
  iexact H

omit [FloatOps F] in
/-- The launch's one step for the whole mesh. -/
theorem setup : (bigSep Finset.univ fun c => iprop(Pipeline.ownSems0 (Ix := Unit) (Name := ℕ) (U := UU) (Lvl := ℕ) (Val := Elt F) (τ := τ) osem c
      ∗ unscopedSems0 c ∗ minting m c) : sProp 𝕄) ⊢ |={Set.univ}=> bigSep Finset.univ (dealing m) :=
  ((bigSep_mono fun c _ => open_device m c).trans (bigSep_fupd _ _)).trans (BI.fupd_mono (gather m))

/-! ## Into the kernel and out of it -/

omit [FloatOps F] in
/-- A thing held is held under any condition. -/
theorem gd_drop (b : Bool) (P : sProp 𝕄) : P ⊢ gd b P := by
  cases b
  · rw [gd_false Bool.false_ne_true]; iintro -; iempintro
  · rw [gd_true rfl]

omit [FloatOps F] in
/-- The positions, tokens, credits and sources of the transfers, put together transfer by transfer. -/
theorem bare_intro (c : Dev nD) :
    iprop((bigSep Finset.univ fun k => pos c k) ∗ (tok c kCp ∗ (bigSep Finset.univ fun e => tok c (kSs e)) ∗ (bigSep Finset.univ fun e => tok (nb c e) (kRs e))
        ∗ (bigSep Finset.univ fun e => tok c (kSx e)) ∗ bigSep Finset.univ fun e => tok (par c) (kRx e))
      ∗ ((bigSep Finset.univ fun e => gd (rv c e) (credAt c (kRs e))) ∗ bigSep Finset.univ fun e => gd (rv c e) (credAt c (kRx e)))
      ∗ (bigSep Finset.univ fun e => qArr m 0 0 c e) ∗ (∃ f, oc c f) ∗ xw m c fullShare.left) ⊢ iprop(pos c none ∗ bare m c) := by
  have hX : (bigSep Finset.univ fun e => xArr m 0 c e) = iprop((bigSep Finset.univ fun e => pos c (kRx e))
      ∗ bigSep Finset.univ fun e => gd (rv c e) (credAt c (kRx e))) := by
    rw [bigSep_congr (s := Finset.univ) fun e _ => xArr_idle m (c := c) (e := e) (Nat.not_lt_zero _), bigSep_sep']
  unfold bare sBare rBare cpPre
  rw [by_family, hX]
  simp only [bigSep_sep']
  iintro ⟨⟨HB, HP, pSs, pRs, pSx, pRx⟩, ⟨tP, tSs, tRs, tSx, tRx⟩, ⟨cRs, cRx⟩, HQ, Ho, Hx⟩
  isplitl [HB]; · iexact HB
  isplitl [pSs tSs tRs]
  · isplitl [pSs]; · iexact pSs
    isplitl [tSs] <;> iassumption
  isplitl [HQ]; · iexact HQ
  isplitl [pRs cRs pSx tSx tRx]
  · isplitl [pRs]; · iexact pRs
    isplitl [cRs]; · iexact cRs
    isplitl [pSx]; · iexact pSx
    isplitl [tSx] <;> iassumption
  isplitl [pRx cRx]
  · isplitl [pRx] <;> iassumption
  isplitl [HP]; · iexact HP
  isplitl [tP]; · iexact tP
  isplitl [Ho] <;> iassumption

omit [FloatOps F] in
/-- From what the launch gives a device to what its kernel starts from. -/
theorem enter (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealing m c)
      ⊢ |={Set.univ}=> iprop(ready m c ∗ emp) := by
  rw [Pipeline.unscopedRestP_none, unscopedRest0_eq]
  unfold dealing dealt
  iintro ⟨⟨Ha, Ho⟩, Hlev, Hc, -, ⟨%K, Hrec, Hpos, ⟨tB, Htok⟩, tR, tL⟩⟩
  ihave Ho := (rooms c (m ((c : Thread nD τ).loc main_v1))) $$ Ho
  icases Ho with ⟨Ho, r0, r2, r1⟩
  ihave Ha := (sources m c) $$ [Ha]
  · unfold xw xv; iexact Ha
  icases Ha with ⟨Ha, HQ⟩
  ihave Hc := (credit c) $$ Hc
  icases Hc with ⟨cB, Hc⟩
  ihave Hb := (bare_intro m c) $$ [Hpos Htok Hc HQ Ho Ha]
  · isplitl [Hpos]; · iexact Hpos
    isplitl [Htok]; · iexact Htok
    isplitl [Hc]; · iexact Hc
    isplitl [HQ]; · iexact HQ
    isplitl [Ho]; · iexists _; iexact Ho
    iexact Ha
  icases Hb with ⟨Hp, Hb⟩
  imodintro
  isplitl
  · unfold ready sigRes
    iexists K
    isplitl [Hrec]; · iexact Hrec
    isplitl [tB r0]
    · isplitl [tB] <;> iassumption
    isplitl [tL r2]
    · iapply (gd_drop (decide (0 < yy c)) (iprop(dutyTok ER (cell (lf c) none) 0 2 ∗ barPay (lf c) 2)))
      isplitl [tL] <;> iassumption
    isplitl [tR r1]
    · iapply (gd_drop (decide (yy c < 3)) (iprop(dutyTok ER (cell (rt c) none) 0 1 ∗ barPay (rt c) 1)))
      isplitl [tR] <;> iassumption
    isplitl [Hlev]; · iexact Hlev
    isplitl [Hp]; · iexact Hp
    isplitl [cB] <;> iassumption
  iempintro

/-- The kernel's first point starts from that. -/
theorem enter_point (c : Dev nD) :
    iprop(ready m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = ready m c from rfl]
  iintro ⟨H, -⟩
  iexact H

/-- After the last point the semaphores and the arrays are given back. -/
theorem leave (c : Dev nD) :
    (dats m 0 c).Φ (Fin.last cfg0.N) ⊢ iprop((unscopedSems0 c ∗ arrays m c) ∗ Pipeline.ownSems0 osem c ∗ Pipeline.scopedRest cfg0.spec c) := by
  rw [show (dats m 0 c).Φ (Fin.last cfg0.N) = done m c from rfl, scopedRest0_eq]
  unfold done
  rw [sems_eq]
  iintro ⟨⟨Hu, Ho⟩, Ha⟩
  isplitl [Hu Ha]
  · isplitl [Hu] <;> iassumption
  isplitl [Ho]; · iexact Ho
  iempintro

/-- No window of the call has a wait of its own. -/
theorem waits (c : Dev nD) : (levAts L lv : sProp 𝕄) ⊢ Pipeline.cellsWaits cfgs (dats m) () 0 c :=
  Pipeline.cellsWaits_intro cfgs (dats m) () 0 c fun w _ _ => w.elim0

/-! ## Reading the arrays -/

section
variable {m} (c : Dev nD) (s' : Phys nD τ sig (Elt F))

omit [FloatOps F] in
/-- A block pins the memory on its rows. -/
theorem read_block (t : Fin 32) (q : PosShare TreeShare) (f : Buf (Elt F) ((c : Thread nD τ).loc main_v1)) :
    iprop(ob c t q f ∗ SI s') ⊢ (⌜∀ i ∈ (oB t).view.set, s'.mem.mem ((c : Thread nD τ).loc main_v1) i = f i⌝ : sProp 𝕄) := by
  unfold ob
  exact BI.sep_comm.trans SI_pointsTo_agree

omit [FloatOps F] in
/-- A family of blocks pins it on the rows of each. -/
theorem read_family (t : Ev → Fin 32) (q : PosShare TreeShare) (f : Buf (Elt F) ((c : Thread nD τ).loc main_v1)) :
    iprop((bigSep Finset.univ fun e => gd (rv c e) (ob c (t e) q f)) ∗ SI s')
      ⊢ (⌜∀ e, rv c e = true → ∀ i ∈ (oB (t e)).view.set, s'.mem.mem ((c : Thread nD τ).loc main_v1) i = f i⌝ : sProp 𝕄) := by
  have hone : ∀ e, rv c e = true → iprop((bigSep Finset.univ fun e => gd (rv c e) (ob c (t e) q f)) ∗ SI s')
      ⊢ (⌜∀ i ∈ (oB (t e)).view.set, s'.mem.mem ((c : Thread nD τ).loc main_v1) i = f i⌝ : sProp 𝕄) := fun e he => by
    have hg : (bigSep Finset.univ fun e => gd (rv c e) (ob c (t e) q f)) ⊢ (ob c (t e) q f : sProp 𝕄) := by
      have h := bigSep_elim (Φ := fun e => (gd (rv c e) (ob c (t e) q f) : sProp 𝕄)) (Finset.mem_univ e)
      rwa [gd_true he] at h
    exact (BI.sep_mono hg (BI.Entails.refl _)).trans (read_block c s' (t e) q f)
  exact fun x hx e he => hone e he x hx

omit [FloatOps F] in
/-- The device's own chunk pins it on the chunk's rows. -/
theorem read_own (f : Buf (Elt F) ((c : Thread nD τ).loc main_v1)) :
    iprop(oc c f ∗ SI s') ⊢ (⌜∀ i ∈ (oC (yF c)).view.set, s'.mem.mem ((c : Thread nD τ).loc main_v1) i = f i⌝ : sProp 𝕄) := by
  unfold oc
  exact BI.sep_comm.trans SI_pointsTo_agree

omit [FloatOps F] in
/-- The argument is as it was. -/
theorem read_arg : iprop(xw m c fullShare.left ∗ SI s')
    ⊢ (⌜∀ i ∈ Finset.univ, s'.mem.mem ((c : Thread nD τ).loc main_arg0) i = m ((c : Thread nD τ).loc main_arg0) i⌝ : sProp 𝕄) := by
  unfold xw xv
  exact BI.sep_comm.trans SI_pointsTo_agree

omit [FloatOps F] in
/-- The result and the argument, read whole. -/
theorem read_arrays : iprop(arrays m c ∗ SI s') ⊢ (⌜s'.mem.mem ((c : Thread nD τ).loc main_arg0) = m ((c : Thread nD τ).loc main_arg0)
      ∧ s'.mem.mem ((c : Thread nD τ).loc main_v1) = gath m c⌝ : sProp 𝕄) := by
  unfold arrays
  iintro ⟨⟨Hx, Ho, Hr, Hp⟩, HS⟩
  ihave %hx := (read_arg c s') $$ [Hx HS]
  · isplitl [Hx] <;> iassumption
  ihave %ho := (read_own c s' (gath m c)) $$ [Ho HS]
  · isplitl [Ho] <;> iassumption
  ihave %hr := (read_family c s' (jr c) fullShare.right (gath m c)) $$ [Hr HS]
  · isplitl [Hr] <;> iassumption
  ihave %hp := (read_family c s' (jx c) fullShare (gath m c)) $$ [Hp HS]
  · isplitl [Hp] <;> iassumption
  ipureintro
  refine ⟨funext fun i => hx i (Finset.mem_univ i), funext fun i => ?_⟩
  have hi : (i 0).val < 65536 := (i 0).isLt
  rcases covered c ⟨(i 0).val / 2048, by omega⟩ with h | ⟨e, he, h⟩ | ⟨e, he, h⟩
  · exact ho i ((mem_oC (yF c) i).mpr (by
      have h' : (i 0).val / 2048 / 8 = yy c := h
      have hy : (yF c).val = yy c := rfl
      omega))
  · exact hr e he i ((mem_oB _ i).mpr (congrArg Fin.val h).symm)
  · exact hp e he i ((mem_oB _ i).mpr (congrArg Fin.val h).symm)

omit [FloatOps F] in
/-- From the end of a device, what is claimed of it. -/
theorem read_end : iprop((unscopedSems0 c ∗ arrays m c) ∗ emp ∗ SI s')
    ⊢ |={Set.univ}=> iprop(⌜(∀ sm : SemLoc sig, sm.isScoped .tc = false → s'.mem.sem ((c.tc : Thread nD τ), sm) = 0)
        ∧ s'.mem.mem ((c : Thread nD τ).loc main_arg0) = m ((c : Thread nD τ).loc main_arg0)
        ∧ s'.mem.mem ((c : Thread nD τ).loc main_v1) = gath m c⌝ ∗ (SI s' : sProp 𝕄)) := by
  iintro ⟨⟨Hu, Ha⟩, -, HS⟩
  ihave %ha := (read_arrays c s') $$ [Ha HS]
  · isplitl [Ha] <;> iassumption
  imod (Pipeline.unscopedSems0_read (X := unscopedSems0 c) (c := c) fupd_intro s') $$ [Hu HS] with ⟨%hu, HS⟩
  · isplitl [Hu] <;> iassumption
  imodintro
  isplitr
  · ipureintro; exact ⟨hu, ha⟩
  iexact HS
end

/-! ## The run -/

/-- Over any floating point values, from any memory with zero counters: every fair execution of the program on the
    thirty-two devices ends, with the gathered array in each device's result, its argument as it was, and every
    semaphore at zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_v1) = gath m c) ∧ r.2.sem = fun _ => 0) :=
  Pipeline.θ_run_region_owing_glob_pf (fun p => (cfgs p).toPCfg) (fun p => (cfgs p).toPCfg_adm) (dats m) () cellOf_inj (0 : Fin 1)
    winFacts0.to₀ osem_facts (Pipeline.PreFacts.none _) EP defs₀ 𝒱₀ m ρ main
    (hmain := fun _ => rfl)
    (hbody := obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := minting m) (G' := dealing m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := setup m)
    (hA := fun _ w => w.elim0) (hpf := fun _ k => k.elim0)
    (X := ready m) (Y := fun c => iprop(unscopedSems0 c ∗ arrays m c)) (Z := fun _ => iprop(emp))
    (hX := enter m ρ) (hin := enter_point m) (hout := leave m)
    (QY := fun c s => (∀ sm : SemLoc sig, sm.isScoped .tc = false → s.sem ((c.tc : Thread nD τ), sm) = 0)
      ∧ s.mem ((c : Thread nD τ).loc main_arg0) = m ((c : Thread nD τ).loc main_arg0) ∧ s.mem ((c : Thread nD τ).loc main_v1) = gath m c)
    (hY := read_end)
    (hQ := fun _ h hs => ⟨fun c => (h c).2.2.2, sem_eq_zero hs fun c => (h c).2.2.1⟩)

end Cert.AllGather

end
-- ==== Proof.Value.lean ====
/-
  The claims. The array each device ends with is the reference's array (`gath_whole`), so the value claim follows from
  the kernel's run (`run_main`) and the reference's, which does nothing.
-/
module

public import proofs.«01_k».proof.Defs
public import proofs.«01_k».proof.Proof.Launch
public import proofs.«01_k».proof.Proof.Gen.Kernel
public import proofs.«01_k».proof.Proof.Gen.ReferenceIdeal
public import Idealize.ShloMosaic.Lib.StableHlo.Run
public import Idealize.ShloMosaic.Lib.Quiescent

@[expose] public section

noncomputable section

namespace Cert.AllGather.Reference

open Idealize.ShloMosaic Idealize.ShloMosaic.StableHlo Idealize.SL.Sem
open Cert.ReferenceIdeal Cert.ReferenceIdeal.Gen

/-- The reference is the identity: from any memory it ends with each array as it was, and no semaphore counts. -/
theorem run_main (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run (defs (F := Ideal)) _ _).mono (fun r h => ⟨fun c => h c main_arg0, sem_eq_zero_of_no_sems (by decide) r.2⟩)
    (run_seq (by decide) (by decide) defs main (fun _ => []) (fun _ => rfl) (fun _ => trivial) m ρ)

end Cert.AllGather.Reference

namespace Cert.AllGather

open Idealize.ShloMosaic Idealize.SL.Sem
open Cert.KernelIdeal Cert.KernelIdeal.Gen

/-- A device's block of the whole array, along the rows and along the columns. -/
abbrev blockOf (c : Dev nD) := Layout.meshBlock (r := 2) (n := 32) [2, 4, 4] ![[1], []] c

/-- Along the rows it is the block its `y` coordinate names. -/
theorem blockOf_rows (c : Dev nD) : (blockOf c 0).val = yy c := by revert c; decide +kernel
/-- Along the columns there is one block. -/
theorem blockOf_cols (c : Dev nD) : (blockOf c 1).val = 0 := by revert c; decide +kernel

/-- The row of the argument from which an element is gathered is that element's row of the whole array. -/
theorem lands (o : Dev nD) (i : S65536x1024.Idx) (ho : yy o = (i 0).val / 16384)
    (h : Layout.TilesN S16384x1024 S65536x1024 fun b => Layout.cutSize [2, 4, 4] (![[1], []] b)) :
    h.idx (blockOf o) (argIx i) = i := by
  funext b
  refine Fin.ext ((Layout.TilesN.idx_val h (blockOf o) (argIx i) b).trans ?_)
  match b with
  | 0 =>
    have e : (blockOf o 0).val * 16384 + (i 0).val % 16384 = (i 0).val := by rw [blockOf_rows, ho]; omega
    exact e
  | 1 =>
    have e : (blockOf o 1).val * 1024 + (i 1).val = (i 1).val := by rw [blockOf_cols]; omega
    exact e

/-- If each device starts with its block of `X`, the gathered array is `X`. -/
theorem gath_whole {F : FTy → Type} [FloatOps F] (m : (ℓ : Loc nD τ sig) → Buf (Elt F) ℓ) (X : S65536x1024.Idx → Elt F .f32)
    (h : ∀ c : Dev nD, m ((c.tc : Thread nD τ).loc main_arg0) = Layout.blockN S16384x1024 S65536x1024 (blockOf c) X) (c : Dev nD) :
    gath m c = X := by
  funext i
  have h0 : (i 0).val < 65536 := (i 0).isLt
  have hy : yy (own c ((i 0).val / 2048)) = (i 0).val / 16384 :=
    (own_yy c ⟨(i 0).val / 2048, by omega⟩).trans (Nat.div_div_eq_div_mul _ 2048 8)
  exact (congrFun (h (own c ((i 0).val / 2048))) (argIx i)).trans (congrArg X (lands _ i hy _))

/-- The kernel as compiled keeps its argument and leaves every semaphore at zero. -/
theorem frame_kernel : Cert.quiescent_Kernel := fun m ρ _ =>
  (θ_run Cert.KernelIdeal.defs _ _).mono (fun _ h => ⟨fun c => (h.1 c).1, h.2⟩) (run_main (F := Bits) m ρ)

/-- So does its idealization, -/
theorem frame_ideal : Cert.quiescent_KernelIdeal := fun m ρ _ =>
  (θ_run Cert.KernelIdeal.defs _ _).mono (fun _ h => ⟨fun c => (h.1 c).1, h.2⟩) (run_main (F := Ideal) m ρ)

/-- and the reference. -/
theorem frame_reference : Cert.quiescent_ReferenceIdeal := fun m ρ _ => Reference.run_main m ρ

/-- Every device's result is the reference's, whole. -/
theorem value : Cert.algebraic_KernelIdeal_ReferenceIdeal := fun m ρ m' ρ' _ h =>
  ⟨_, (θ_run Cert.KernelIdeal.defs _ _).mono (fun _ hr c => ⟨(hr.1 c).2.trans (gath_whole m _ h c), (hr.1 c).1⟩) (run_main (F := Ideal) m ρ),
    (θ_run Cert.ReferenceIdeal.defs _ _).mono (fun _ hr => ⟨hr.1 0, hr.1 0⟩) (Reference.run_main m' ρ')⟩

end Cert.AllGather

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.SL.Sem Cert.Kernel

/-- All five claims. -/
theorem claim : Cert.Claim := ⟨Cert.Kernel.Gen.facts, Cert.KernelIdeal.Gen.facts, Cert.ReferenceIdeal.Gen.facts,
  Cert.AllGather.frame_kernel, Cert.AllGather.frame_ideal, Cert.AllGather.frame_reference, trivial, Cert.AllGather.value⟩

end Cert.Proof

end
